-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_weights [hPre_weights : Cert.Pre_weights.Facts] (m : (ℓ : Loc Cert.MoeIdeal.nD Cert.MoeIdeal.τ Cert.MoeIdeal.sig) → Buf (Elt Ideal) ℓ) : Prop :=
  ∀ c : Dev Cert.MoeIdeal.nD,
    (Cert.Pre_weights.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_weights [hPre_weights : Cert.Pre_weights.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_weights.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsRefIdeal (m : (ℓ : Loc Cert.RowsRefIdeal.nD Cert.RowsRefIdeal.τ Cert.RowsRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeIdeal_pre_weights [hMoeIdeal : Cert.MoeIdeal.Facts] [hPre_weights : Cert.Pre_weights.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_weights m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_weights [hMoeRefIdeal : Cert.MoeRefIdeal.Facts] [hPre_weights : Cert.Pre_weights.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_weights m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2)
      ∧ r.2.mem ((c.tc : Thread Cert.Rows.nD Cert.Rows.τ).loc Cert.Rows.main_arg3) = m ((c.tc : Thread Cert.Rows.nD Cert.Rows.τ).loc Cert.Rows.main_arg3)
      ∧ r.2.mem ((c.tc : Thread Cert.Rows.nD Cert.Rows.τ).loc Cert.Rows.main_arg4) = m ((c.tc : Thread Cert.Rows.nD Cert.Rows.τ).loc Cert.Rows.main_arg4)
      ∧ r.2.mem ((c.tc : Thread Cert.Rows.nD Cert.Rows.τ).loc Cert.Rows.main_arg5) = m ((c.tc : Thread Cert.Rows.nD Cert.Rows.τ).loc Cert.Rows.main_arg5)
      ∧ r.2.mem ((c.tc : Thread Cert.Rows.nD Cert.Rows.τ).loc Cert.Rows.main_arg6) = m ((c.tc : Thread Cert.Rows.nD Cert.Rows.τ).loc Cert.Rows.main_arg6))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
      ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4)
      ∧ r.2.mem ((c.tc : Thread Cert.RowsIdeal.nD Cert.RowsIdeal.τ).loc Cert.RowsIdeal.main_arg5) = m ((c.tc : Thread Cert.RowsIdeal.nD Cert.RowsIdeal.τ).loc Cert.RowsIdeal.main_arg5)
      ∧ r.2.mem ((c.tc : Thread Cert.RowsIdeal.nD Cert.RowsIdeal.τ).loc Cert.RowsIdeal.main_arg6) = m ((c.tc : Thread Cert.RowsIdeal.nD Cert.RowsIdeal.τ).loc Cert.RowsIdeal.main_arg6))
      ∧ r.2.sem = fun _ => 0)

def quiescent_RowsRefIdeal [hRowsRefIdeal : Cert.RowsRefIdeal.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1)
      ∧ r.2.mem ((c.tc : Thread Cert.RowsRefIdeal.nD Cert.RowsRefIdeal.τ).loc Cert.RowsRefIdeal.main_arg2) = m ((c.tc : Thread Cert.RowsRefIdeal.nD Cert.RowsRefIdeal.τ).loc Cert.RowsRefIdeal.main_arg2)
      ∧ r.2.mem ((c.tc : Thread Cert.RowsRefIdeal.nD Cert.RowsRefIdeal.τ).loc Cert.RowsRefIdeal.main_arg3) = m ((c.tc : Thread Cert.RowsRefIdeal.nD Cert.RowsRefIdeal.τ).loc Cert.RowsRefIdeal.main_arg3)
      ∧ r.2.mem ((c.tc : Thread Cert.RowsRefIdeal.nD Cert.RowsRefIdeal.τ).loc Cert.RowsRefIdeal.main_arg4) = m ((c.tc : Thread Cert.RowsRefIdeal.nD Cert.RowsRefIdeal.τ).loc Cert.RowsRefIdeal.main_arg4)
      ∧ r.2.mem ((c.tc : Thread Cert.RowsRefIdeal.nD Cert.RowsRefIdeal.τ).loc Cert.RowsRefIdeal.main_arg5) = m ((c.tc : Thread Cert.RowsRefIdeal.nD Cert.RowsRefIdeal.τ).loc Cert.RowsRefIdeal.main_arg5)
      ∧ r.2.mem ((c.tc : Thread Cert.RowsRefIdeal.nD Cert.RowsRefIdeal.τ).loc Cert.RowsRefIdeal.main_arg6) = m ((c.tc : Thread Cert.RowsRefIdeal.nD Cert.RowsRefIdeal.τ).loc Cert.RowsRefIdeal.main_arg6))
      ∧ r.2.sem = fun _ => 0)

def preserves_Kernel_KernelIdeal : Prop :=
  IdealRules.named_const.Statement Cert.KernelIdeal.κ "sb_exit" .f32 0xC2D00000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Moe_MoeIdeal : Prop :=
  True

def algebraic_MoeIdeal_MoeRefIdeal_pre_weights [hMoeIdeal : Cert.MoeIdeal.Facts] [hMoeRefIdeal : Cert.MoeRefIdeal.Facts] [hPre_weights : Cert.Pre_weights.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_weights m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v4)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v4) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v27) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v27_0)) (v1 : (c : Dev Cert.InProjIdeal.nD) → Buf (Elt Ideal) ((c.tc : Thread Cert.InProjIdeal.nD Cert.InProjIdeal.τ).loc Cert.InProjIdeal.main_v27_1)) (v2 : (c : Dev Cert.InProjIdeal.nD) → Buf (Elt Ideal) ((c.tc : Thread Cert.InProjIdeal.nD Cert.InProjIdeal.τ).loc Cert.InProjIdeal.main_v27_2)) (v3 : (c : Dev Cert.InProjIdeal.nD) → Buf (Elt Ideal) ((c.tc : Thread Cert.InProjIdeal.nD Cert.InProjIdeal.τ).loc Cert.InProjIdeal.main_v27_3)) (v4 : (c : Dev Cert.InProjIdeal.nD) → Buf (Elt Ideal) ((c.tc : Thread Cert.InProjIdeal.nD Cert.InProjIdeal.τ).loc Cert.InProjIdeal.main_v27_4)) (v5 : (c : Dev Cert.InProjIdeal.nD) → Buf (Elt Ideal) ((c.tc : Thread Cert.InProjIdeal.nD Cert.InProjIdeal.τ).loc Cert.InProjIdeal.main_v27_5)) (v6 : (c : Dev Cert.InProjIdeal.nD) → Buf (Elt Ideal) ((c.tc : Thread Cert.InProjIdeal.nD Cert.InProjIdeal.τ).loc Cert.InProjIdeal.main_v27_6)) (v7 : (c : Dev Cert.InProjIdeal.nD) → Buf (Elt Ideal) ((c.tc : Thread Cert.InProjIdeal.nD Cert.InProjIdeal.τ).loc Cert.InProjIdeal.main_v27_7)) (v8 : (c : Dev Cert.InProjIdeal.nD) → Buf (Elt Ideal) ((c.tc : Thread Cert.InProjIdeal.nD Cert.InProjIdeal.τ).loc Cert.InProjIdeal.main_v27_8)) (v9 : (c : Dev Cert.InProjIdeal.nD) → Buf (Elt Ideal) ((c.tc : Thread Cert.InProjIdeal.nD Cert.InProjIdeal.τ).loc Cert.InProjIdeal.main_v27_9)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v27_0) = v0 c
          ∧ r.2.mem ((c.tc : Thread Cert.InProjIdeal.nD Cert.InProjIdeal.τ).loc Cert.InProjIdeal.main_v27_1) = v1 c
          ∧ r.2.mem ((c.tc : Thread Cert.InProjIdeal.nD Cert.InProjIdeal.τ).loc Cert.InProjIdeal.main_v27_2) = v2 c
          ∧ r.2.mem ((c.tc : Thread Cert.InProjIdeal.nD Cert.InProjIdeal.τ).loc Cert.InProjIdeal.main_v27_3) = v3 c
          ∧ r.2.mem ((c.tc : Thread Cert.InProjIdeal.nD Cert.InProjIdeal.τ).loc Cert.InProjIdeal.main_v27_4) = v4 c
          ∧ r.2.mem ((c.tc : Thread Cert.InProjIdeal.nD Cert.InProjIdeal.τ).loc Cert.InProjIdeal.main_v27_5) = v5 c
          ∧ r.2.mem ((c.tc : Thread Cert.InProjIdeal.nD Cert.InProjIdeal.τ).loc Cert.InProjIdeal.main_v27_6) = v6 c
          ∧ r.2.mem ((c.tc : Thread Cert.InProjIdeal.nD Cert.InProjIdeal.τ).loc Cert.InProjIdeal.main_v27_7) = v7 c
          ∧ r.2.mem ((c.tc : Thread Cert.InProjIdeal.nD Cert.InProjIdeal.τ).loc Cert.InProjIdeal.main_v27_8) = v8 c
          ∧ r.2.mem ((c.tc : Thread Cert.InProjIdeal.nD Cert.InProjIdeal.τ).loc Cert.InProjIdeal.main_v27_9) = v9 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v65) = v0 c
          ∧ r.2.mem ((c.tc : Thread Cert.InProjRefIdeal.nD Cert.InProjRefIdeal.τ).loc Cert.InProjRefIdeal.main_v68) = v1 c
          ∧ r.2.mem ((c.tc : Thread Cert.InProjRefIdeal.nD Cert.InProjRefIdeal.τ).loc Cert.InProjRefIdeal.main_v86) = v2 c
          ∧ r.2.mem ((c.tc : Thread Cert.InProjRefIdeal.nD Cert.InProjRefIdeal.τ).loc Cert.InProjRefIdeal.main_v90) = v3 c
          ∧ r.2.mem ((c.tc : Thread Cert.InProjRefIdeal.nD Cert.InProjRefIdeal.τ).loc Cert.InProjRefIdeal.main_v108) = v4 c
          ∧ r.2.mem ((c.tc : Thread Cert.InProjRefIdeal.nD Cert.InProjRefIdeal.τ).loc Cert.InProjRefIdeal.main_v112) = v5 c
          ∧ r.2.mem ((c.tc : Thread Cert.InProjRefIdeal.nD Cert.InProjRefIdeal.τ).loc Cert.InProjRefIdeal.main_v25) = v6 c
          ∧ r.2.mem ((c.tc : Thread Cert.InProjRefIdeal.nD Cert.InProjRefIdeal.τ).loc Cert.InProjRefIdeal.main_v118) = v7 c
          ∧ r.2.mem ((c.tc : Thread Cert.InProjRefIdeal.nD Cert.InProjRefIdeal.τ).loc Cert.InProjRefIdeal.main_v122) = v8 c
          ∧ r.2.mem ((c.tc : Thread Cert.InProjRefIdeal.nD Cert.InProjRefIdeal.τ).loc Cert.InProjRefIdeal.main_v126) = v9 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Cmp_CmpIdeal : Prop :=
  True

def algebraic_CmpIdeal_CmpRefIdeal [hCmpIdeal : Cert.CmpIdeal.Facts] [hCmpRefIdeal : Cert.CmpRefIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)) →
    ∃ (v0 : (c : Dev Cert.CmpIdeal.nD) → Buf (Elt Ideal) ((c.tc : Thread Cert.CmpIdeal.nD Cert.CmpIdeal.τ).loc Cert.CmpIdeal.main_v23_0)) (v1 : (c : Dev Cert.CmpIdeal.nD) → Buf (Elt Ideal) ((c.tc : Thread Cert.CmpIdeal.nD Cert.CmpIdeal.τ).loc Cert.CmpIdeal.main_v23_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v23_0) = v0 c
          ∧ r.2.mem ((c.tc : Thread Cert.CmpIdeal.nD Cert.CmpIdeal.τ).loc Cert.CmpIdeal.main_v23_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v88) = v0 c
          ∧ r.2.mem ((c.tc : Thread Cert.CmpRefIdeal.nD Cert.CmpRefIdeal.τ).loc Cert.CmpRefIdeal.main_v92) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)) →
    ∃ (v0 : (c : Dev Cert.OutIdeal.nD) → Buf (Elt Ideal) ((c.tc : Thread Cert.OutIdeal.nD Cert.OutIdeal.τ).loc Cert.OutIdeal.main_v13_0)) (v1 : (c : Dev Cert.OutIdeal.nD) → Buf (Elt Ideal) ((c.tc : Thread Cert.OutIdeal.nD Cert.OutIdeal.τ).loc Cert.OutIdeal.main_v13_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v13_0) = v0 c
          ∧ r.2.mem ((c.tc : Thread Cert.OutIdeal.nD Cert.OutIdeal.τ).loc Cert.OutIdeal.main_v13_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v28) = v0 c
          ∧ r.2.mem ((c.tc : Thread Cert.OutRefIdeal.nD Cert.OutRefIdeal.τ).loc Cert.OutRefIdeal.main_v42) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10))

def preserves_Rows_RowsIdeal : Prop :=
  True

def algebraic_RowsIdeal_RowsRefIdeal [hRowsIdeal : Cert.RowsIdeal.Facts] [hRowsRefIdeal : Cert.RowsRefIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsRefIdeal.nD Cert.RowsRefIdeal.τ Cert.RowsRefIdeal.sig) → Buf (Elt Ideal) ℓ) (g' : Dev Cert.RowsRefIdeal.nD → PrngReg), Pre_RowsIdeal m →
    (∀ c : Dev Cert.RowsIdeal.nD,
      m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0)
      ∧ m' ((c.tc : Thread Cert.RowsRefIdeal.nD Cert.RowsRefIdeal.τ).loc Cert.RowsRefIdeal.main_arg1) = m ((c.tc : Thread Cert.RowsIdeal.nD Cert.RowsIdeal.τ).loc Cert.RowsIdeal.main_arg1)
      ∧ m' ((c.tc : Thread Cert.RowsRefIdeal.nD Cert.RowsRefIdeal.τ).loc Cert.RowsRefIdeal.main_arg2) = m ((c.tc : Thread Cert.RowsIdeal.nD Cert.RowsIdeal.τ).loc Cert.RowsIdeal.main_arg2)
      ∧ m' ((c.tc : Thread Cert.RowsRefIdeal.nD Cert.RowsRefIdeal.τ).loc Cert.RowsRefIdeal.main_arg3) = m ((c.tc : Thread Cert.RowsIdeal.nD Cert.RowsIdeal.τ).loc Cert.RowsIdeal.main_arg3)
      ∧ m' ((c.tc : Thread Cert.RowsRefIdeal.nD Cert.RowsRefIdeal.τ).loc Cert.RowsRefIdeal.main_arg4) = m ((c.tc : Thread Cert.RowsIdeal.nD Cert.RowsIdeal.τ).loc Cert.RowsIdeal.main_arg4)
      ∧ m' ((c.tc : Thread Cert.RowsRefIdeal.nD Cert.RowsRefIdeal.τ).loc Cert.RowsRefIdeal.main_arg5) = m ((c.tc : Thread Cert.RowsIdeal.nD Cert.RowsIdeal.τ).loc Cert.RowsIdeal.main_arg5)
      ∧ m' ((c.tc : Thread Cert.RowsRefIdeal.nD Cert.RowsRefIdeal.τ).loc Cert.RowsRefIdeal.main_arg6) = m ((c.tc : Thread Cert.RowsIdeal.nD Cert.RowsIdeal.τ).loc Cert.RowsIdeal.main_arg6)) →
    ∃ (v0 : (c : Dev Cert.RowsIdeal.nD) → Buf (Elt Ideal) ((c.tc : Thread Cert.RowsIdeal.nD Cert.RowsIdeal.τ).loc Cert.RowsIdeal.main_v18)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v18) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
          ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
          ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4)
          ∧ r.2.mem ((c.tc : Thread Cert.RowsIdeal.nD Cert.RowsIdeal.τ).loc Cert.RowsIdeal.main_arg5) = m ((c.tc : Thread Cert.RowsIdeal.nD Cert.RowsIdeal.τ).loc Cert.RowsIdeal.main_arg5)
          ∧ r.2.mem ((c.tc : Thread Cert.RowsIdeal.nD Cert.RowsIdeal.τ).loc Cert.RowsIdeal.main_arg6) = m ((c.tc : Thread Cert.RowsIdeal.nD Cert.RowsIdeal.τ).loc Cert.RowsIdeal.main_arg6))
      ∧ θ_run (Cert.RowsRefIdeal.defs (F := Ideal)) (onTc (τ := Cert.RowsRefIdeal.τ) (Cert.RowsRefIdeal.main (F := Ideal))) ⟨m', fun _ => 0, g'⟩ (fun r => ∀ c : Dev Cert.RowsRefIdeal.nD,
          r.2.mem ((c.tc : Thread Cert.RowsRefIdeal.nD Cert.RowsRefIdeal.τ).loc Cert.RowsRefIdeal.main_v55) = v0 c
          ∧ r.2.mem ((c.tc : Thread Cert.RowsRefIdeal.nD Cert.RowsRefIdeal.τ).loc Cert.RowsRefIdeal.main_arg0) = m' ((c.tc : Thread Cert.RowsRefIdeal.nD Cert.RowsRefIdeal.τ).loc Cert.RowsRefIdeal.main_arg0)
          ∧ r.2.mem ((c.tc : Thread Cert.RowsRefIdeal.nD Cert.RowsRefIdeal.τ).loc Cert.RowsRefIdeal.main_arg1) = m' ((c.tc : Thread Cert.RowsRefIdeal.nD Cert.RowsRefIdeal.τ).loc Cert.RowsRefIdeal.main_arg1)
          ∧ r.2.mem ((c.tc : Thread Cert.RowsRefIdeal.nD Cert.RowsRefIdeal.τ).loc Cert.RowsRefIdeal.main_arg2) = m' ((c.tc : Thread Cert.RowsRefIdeal.nD Cert.RowsRefIdeal.τ).loc Cert.RowsRefIdeal.main_arg2)
          ∧ r.2.mem ((c.tc : Thread Cert.RowsRefIdeal.nD Cert.RowsRefIdeal.τ).loc Cert.RowsRefIdeal.main_arg3) = m' ((c.tc : Thread Cert.RowsRefIdeal.nD Cert.RowsRefIdeal.τ).loc Cert.RowsRefIdeal.main_arg3)
          ∧ r.2.mem ((c.tc : Thread Cert.RowsRefIdeal.nD Cert.RowsRefIdeal.τ).loc Cert.RowsRefIdeal.main_arg4) = m' ((c.tc : Thread Cert.RowsRefIdeal.nD Cert.RowsRefIdeal.τ).loc Cert.RowsRefIdeal.main_arg4)
          ∧ r.2.mem ((c.tc : Thread Cert.RowsRefIdeal.nD Cert.RowsRefIdeal.τ).loc Cert.RowsRefIdeal.main_arg5) = m' ((c.tc : Thread Cert.RowsRefIdeal.nD Cert.RowsRefIdeal.τ).loc Cert.RowsRefIdeal.main_arg5)
          ∧ r.2.mem ((c.tc : Thread Cert.RowsRefIdeal.nD Cert.RowsRefIdeal.τ).loc Cert.RowsRefIdeal.main_arg6) = m' ((c.tc : Thread Cert.RowsRefIdeal.nD Cert.RowsRefIdeal.τ).loc Cert.RowsRefIdeal.main_arg6))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeRefIdeal : Cert.MoeRefIdeal.Facts) (hInProj : Cert.InProj.Facts) (hInProjIdeal : Cert.InProjIdeal.Facts) (hInProjRefIdeal : Cert.InProjRefIdeal.Facts) (hCmp : Cert.Cmp.Facts) (hCmpIdeal : Cert.CmpIdeal.Facts) (hCmpRefIdeal : Cert.CmpRefIdeal.Facts) (hOut : Cert.Out.Facts) (hOutIdeal : Cert.OutIdeal.Facts) (hOutRefIdeal : Cert.OutRefIdeal.Facts) (hRows : Cert.Rows.Facts) (hRowsIdeal : Cert.RowsIdeal.Facts) (hRowsRefIdeal : Cert.RowsRefIdeal.Facts) (hPre_finite : Cert.Pre_finite.Facts) (hPre_weights : Cert.Pre_weights.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Moe (hMoe := hMoe)
    ∧ quiescent_MoeIdeal (hMoeIdeal := hMoeIdeal)
    ∧ quiescent_MoeIdeal_pre_weights (hMoeIdeal := hMoeIdeal) (hPre_weights := hPre_weights)
    ∧ quiescent_MoeRefIdeal (hMoeRefIdeal := hMoeRefIdeal)
    ∧ quiescent_MoeRefIdeal_pre_weights (hMoeRefIdeal := hMoeRefIdeal) (hPre_weights := hPre_weights)
    ∧ quiescent_InProj (hInProj := hInProj)
    ∧ quiescent_InProjIdeal (hInProjIdeal := hInProjIdeal)
    ∧ quiescent_InProjRefIdeal (hInProjRefIdeal := hInProjRefIdeal)
    ∧ quiescent_Cmp (hCmp := hCmp)
    ∧ quiescent_CmpIdeal (hCmpIdeal := hCmpIdeal)
    ∧ quiescent_CmpRefIdeal (hCmpRefIdeal := hCmpRefIdeal)
    ∧ quiescent_Out (hOut := hOut)
    ∧ quiescent_OutIdeal (hOutIdeal := hOutIdeal)
    ∧ quiescent_OutRefIdeal (hOutRefIdeal := hOutRefIdeal)
    ∧ quiescent_Rows (hRows := hRows)
    ∧ quiescent_RowsIdeal (hRowsIdeal := hRowsIdeal)
    ∧ quiescent_RowsRefIdeal (hRowsRefIdeal := hRowsRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Moe_MoeIdeal
    ∧ algebraic_MoeIdeal_MoeRefIdeal_pre_weights (hMoeIdeal := hMoeIdeal) (hMoeRefIdeal := hMoeRefIdeal) (hPre_weights := hPre_weights)
    ∧ preserves_InProj_InProjIdeal
    ∧ algebraic_InProjIdeal_InProjRefIdeal (hInProjIdeal := hInProjIdeal) (hInProjRefIdeal := hInProjRefIdeal)
    ∧ preserves_Cmp_CmpIdeal
    ∧ algebraic_CmpIdeal_CmpRefIdeal (hCmpIdeal := hCmpIdeal) (hCmpRefIdeal := hCmpRefIdeal)
    ∧ preserves_Out_OutIdeal
    ∧ algebraic_OutIdeal_OutRefIdeal (hOutIdeal := hOutIdeal) (hOutRefIdeal := hOutRefIdeal)
    ∧ preserves_Rows_RowsIdeal
    ∧ algebraic_RowsIdeal_RowsRefIdeal (hRowsIdeal := hRowsIdeal) (hRowsRefIdeal := hRowsRefIdeal)
-- ==== Pre_finite.lean ====
abbrev S8x16384x64 : Shape := ⟨3, ![8, 16384, 64]⟩
abbrev S_ : Shape := ⟨0, ![]⟩

class Facts : Prop where
  bitsLt_bf16_f32 : FTy.bits .bf16 < FTy.bits .f32
  bcast_S_S8x16384x64 : S_.BroadcastsInDim S8x16384x64 (![] : Fin 0 → Fin S8x16384x64.rank)
  reducesTo_S8x16384x64_S_d0_1_2 : S8x16384x64.ReducesTo [0, 1, 2] S_
  h_S_ : 0 < S_.numel

variable [Facts]

def fn {F : FTy → Type} [FloatOps F] (main_arg0 : FVec F S8x16384x64 .bf16) (main_arg1 : FVec F S8x16384x64 .bf16) (main_arg2 : FVec F S8x16384x64 .bf16) : IVec S_ 1 :=
  let main_v0 : FVec F S8x16384x64 .f32 := (extf .f32 · bitsLt_bf16_f32) main_arg0
  let main_v1 : FVec F S8x16384x64 .f32 := Host.absf main_v0
  let main_cst : FVec F S_ .f32 := constant S_ .f32 0x7F800000#32
  let main_v2 : FVec F S8x16384x64 .f32 := broadcastInDim S8x16384x64 ![] bcast_S_S8x16384x64 main_cst
  let main_v3 : IVec S8x16384x64 1 := cmpf .olt main_v1 main_v2
  let main_c : IVec S_ 1 := constantI S_ 1 1#1
  let main_v4 : IVec S_ 1 := (fun x v => Host.reduce IntOp.andi x v reducesTo_S8x16384x64_S_d0_1_2 h_S_) main_v3 main_c
  let main_v5 : FVec F S8x16384x64 .f32 := (extf .f32 · bitsLt_bf16_f32) main_arg1
  let main_v6 : FVec F S8x16384x64 .f32 := Host.absf main_v5
  let main_cst_0 : FVec F S_ .f32 := constant S_ .f32 0x7F800000#32
  let main_v7 : FVec F S8x16384x64 .f32 := broadcastInDim S8x16384x64 ![] bcast_S_S8x16384x64 main_cst_0
  let main_v8 : IVec S8x16384x64 1 := cmpf .olt main_v6 main_v7
  let main_c_1 : IVec S_ 1 := constantI S_ 1 1#1
  let main_v9 : IVec S_ 1 := (fun x v => Host.reduce IntOp.andi x v reducesTo_S8x16384x64_S_d0_1_2 h_S_) main_v8 main_c_1
  let main_v10 : IVec S_ 1 := andi main_v4 main_v9
  main_v10
-- ==== Pre_weights.lean ====
abbrev S16384x1024 : Shape := ⟨2, ![16384, 1024]⟩
abbrev S16384x128 : Shape := ⟨2, ![16384, 128]⟩
abbrev S16x1024x512 : Shape := ⟨3, ![16, 1024, 512]⟩
abbrev S16x512x1024 : Shape := ⟨3, ![16, 512, 1024]⟩
abbrev S1024 : Shape := ⟨1, ![1024]⟩
abbrev S16384x16 : Shape := ⟨2, ![16384, 16]⟩
abbrev S_ : Shape := ⟨0, ![]⟩

class Facts : Prop where
  slices_S16384x128_S16384x16_0_4 : S16384x128.Slices ![0, 4] S16384x16
  bcast_S_S16384x16 : S_.BroadcastsInDim S16384x16 (![] : Fin 0 → Fin S16384x16.rank)
  reducesTo_S16384x16_S_d0_1 : S16384x16.ReducesTo [0, 1] S_
  h_S_ : 0 < S_.numel

variable [Facts]

def fn {F : FTy → Type} [FloatOps F] (main_arg0 : FVec F S16384x1024 .f32) (main_arg1 : FVec F S16384x1024 .bf16) (main_arg2 : FVec F S16384x128 .f32) (main_arg3 : FVec F S16x1024x512 .f32) (main_arg4 : FVec F S16x1024x512 .f32) (main_arg5 : FVec F S16x512x1024 .f32) (main_arg6 : FVec F S1024 .f32) : IVec S_ 1 :=
  let main_v0 : FVec F S16384x16 .f32 := (extractStridedSlice S16384x16 ![0, 4] · slices_S16384x128_S16384x16_0_4) main_arg2
  let main_cst : FVec F S_ .f32 := constant S_ .f32 0x00000000#32
  let main_v1 : FVec F S16384x16 .f32 := broadcastInDim S16384x16 ![] bcast_S_S16384x16 main_cst
  let main_v2 : IVec S16384x16 1 := cmpf .oge main_v0 main_v1
  let main_cst_0 : FVec F S_ .f32 := constant S_ .f32 0x7F800000#32
  let main_v3 : FVec F S16384x16 .f32 := broadcastInDim S16384x16 ![] bcast_S_S16384x16 main_cst_0
  let main_v4 : IVec S16384x16 1 := cmpf .olt main_v0 main_v3
  let main_v5 : IVec S16384x16 1 := andi main_v2 main_v4
  let main_c : IVec S_ 1 := constantI S_ 1 1#1
  let main_v6 : IVec S_ 1 := (fun x v => Host.reduce IntOp.andi x v reducesTo_S16384x16_S_d0_1 h_S_) main_v5 main_c
  main_v6
-- ==== Kernel.lean ====
abbrev S8x16384x64 : Shape := ⟨3, ![8, 16384, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x64 : Shape := ⟨3, ![1, 256, 64]⟩
abbrev S1x16384x64 : Shape := ⟨3, ![1, 16384, 64]⟩
abbrev S256x64 : Shape := ⟨2, ![256, 64]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 12
  | .vmem => 11
  | .smem => 0
  | _ => 0

abbrev bufTy : (tb : Table) → Fin (tcTables nBuf tb) → BufTy
  | .hbm, ⟨0, _⟩ => ⟨S8x16384x64, .bf16⟩
  | .hbm, ⟨1, _⟩ => ⟨S8x16384x64, .bf16⟩
  | .hbm, ⟨2, _⟩ => ⟨S8x16384x64, .bf16⟩
  | .hbm, ⟨3, _⟩ => ⟨S256, .i32⟩
  | .hbm, ⟨4, _⟩ => ⟨S256x1, .i32⟩
  | .hbm, ⟨5, _⟩ => ⟨S256, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S256x256, .bf16⟩
  | .hbm, ⟨11, _⟩ => ⟨S8x16384x64, .f32⟩
  | .local _ .vmem, ⟨0, _⟩ => ⟨S1x256x64, .bf16⟩
  | .local _ .vmem, ⟨1, _⟩ => ⟨S1x256x64, .bf16⟩
  | .local _ .vmem, ⟨2, _⟩ => ⟨S1x16384x64, .bf16⟩
  | .local _ .vmem, ⟨3, _⟩ => ⟨S1x16384x64, .bf16⟩
  | .local _ .vmem, ⟨4, _⟩ => ⟨S1x16384x64, .bf16⟩
  | .local _ .vmem, ⟨5, _⟩ => ⟨S1x16384x64, .bf16⟩
  | .local _ .vmem, ⟨6, _⟩ => ⟨S256x256, .bf16⟩
  | .local _ .vmem, ⟨7, _⟩ => ⟨S1x256x64, .f32⟩
  | .local _ .vmem, ⟨8, _⟩ => ⟨S1x256x64, .f32⟩
  | .local _ .vmem, ⟨9, _⟩ => ⟨S256x1, .f32⟩
  | .local _ .vmem, ⟨10, _⟩ => ⟨S256x64, .f32⟩
  | _, _ => ⟨S8x16384x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 64], ![false, false]⟩

def k0_mult1 (i : grid0.Coords) : BitVec 32 :=
  let arg1 : BitVec 32 := BitVec.ofNat 32 (i 1).val
  let c256_i32 : BitVec 32 := 256#32
  let v12 : BitVec 32 := Scalar.muli arg1 c256_i32
  v12
def k0_off1 (i : grid0.Coords) : Fin 3 → Nat :=
  let c0_9 : Index := 0#32
  let arg1 : BitVec 32 := BitVec.ofNat 32 (i 1).val
  let c256_i32 : BitVec 32 := 256#32
  let v12 : BitVec 32 := Scalar.muli arg1 c256_i32
  let v13 : BitVec 32 := v12
  let v14 : Index := Scalar.indexCast v13
  let c0_10 : Index := 0#32
  ![0, v14.toNat, 0]
def k0_mult2 (arg9 : BitVec 32) : BitVec 32 :=
  let c256_i32_38 : BitVec 32 := 256#32
  let v71 : BitVec 32 := Scalar.muli arg9 c256_i32_38
  v71

def k0_off2 (arg9 : BitVec 32) : Fin 3 → Nat :=
  let c0_39 : Index := 0#32
  let c256_i32_38 : BitVec 32 := 256#32
  let v71 : BitVec 32 := Scalar.muli arg9 c256_i32_38
  let v72 : BitVec 32 := v71
  let v73 : Index := Scalar.indexCast v72
  let c0_40 : Index := 0#32
  ![0, v73.toNat, 0]

def k0_chk1 (arg9 : BitVec 32) : Prop :=
  (256 ∣ (k0_mult2 arg9).toNat) ∧
  (∀ a, (k0_off2 arg9) a + S1x256x64.size a ≤ S1x16384x64.size a)
theorem k0_mult2_dvd : ∀ (arg9 : BitVec 32) (k0_hw1 : k0_chk1 arg9), 256 ∣ (k0_mult2 arg9).toNat := fun arg9 k0_hw1 => k0_hw1.1
theorem k0_off2_inb : ∀ (arg9 : BitVec 32) (k0_hw1 : k0_chk1 arg9), ∀ a, (k0_off2 arg9) a + S1x256x64.size a ≤ S1x16384x64.size a := fun arg9 k0_hw1 => k0_hw1.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "sb_exit" => some ⊥
  | _ => none
-- ==== ReferenceIdeal.lean ====
abbrev S8x16384x64 : Shape := ⟨3, ![8, 16384, 64]⟩
abbrev S8x16384x16384 : Shape := ⟨3, ![8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S8x16384x64, .bf16⟩
  | .hbm, ⟨1, _⟩ => ⟨S8x16384x64, .bf16⟩
  | .hbm, ⟨2, _⟩ => ⟨S8x16384x64, .bf16⟩
  | .hbm, ⟨3, _⟩ => ⟨S8x16384x64, .f32⟩
  | .hbm, ⟨4, _⟩ => ⟨S8x16384x64, .f32⟩
  | .hbm, ⟨5, _⟩ => ⟨S8x16384x16384, .f32⟩
  | .hbm, ⟨6, _⟩ => ⟨S16384, .i32⟩
  | .hbm, ⟨7, _⟩ => ⟨S1x16384, .i32⟩
  | .hbm, ⟨8, _⟩ => ⟨S16384x1, .i32⟩
  | .hbm, ⟨9, _⟩ => ⟨S16384x16384, .i32⟩
  | .hbm, ⟨10, _⟩ => ⟨S16384x16384, .i32⟩
  | .hbm, ⟨11, _⟩ => ⟨S16384x16384, .i1⟩
  | .hbm, ⟨12, _⟩ => ⟨S1x16384x16384, .i1⟩
  | .hbm, ⟨13, _⟩ => ⟨S8x16384x16384, .f32⟩
  | .hbm, ⟨14, _⟩ => ⟨S8x16384x16384, .f32⟩
  | .hbm, ⟨15, _⟩ => ⟨S_, .f32⟩
  | .hbm, ⟨16, _⟩ => ⟨S8x16384x16384, .f32⟩
  | .hbm, ⟨17, _⟩ => ⟨S8x16384x16384, .f32⟩
  | .hbm, ⟨18, _⟩ => ⟨S8x16384x16384, .f32⟩
  | .hbm, ⟨19, _⟩ => ⟨S8x16384x16384, .f32⟩
  | .hbm, ⟨20, _⟩ => ⟨S8x16384x16384, .i1⟩
  | .hbm, ⟨21, _⟩ => ⟨S8x16384x16384, .f32⟩
  | .hbm, ⟨22, _⟩ => ⟨S8x16384x16384, .f32⟩
  | .hbm, ⟨23, _⟩ => ⟨S8x16384x16384, .f32⟩
  | .hbm, ⟨24, _⟩ => ⟨S8x16384x16384, .f32⟩
  | .hbm, ⟨25, _⟩ => ⟨S8x16384x16384, .f32⟩
  | .hbm, ⟨26, _⟩ => ⟨S8x16384x16384, .f32⟩
  | .hbm, ⟨27, _⟩ => ⟨S8x16384x16384, .f32⟩
  | .hbm, ⟨28, _⟩ => ⟨S8x16384x16384, .f32⟩
  | .hbm, ⟨29, _⟩ => ⟨S8x16384x16384, .f32⟩
  | .hbm, ⟨30, _⟩ => ⟨S_, .f32⟩
  | .hbm, ⟨31, _⟩ => ⟨S_, .f32⟩
  | .hbm, ⟨32, _⟩ => ⟨S8x16384x16384, .i1⟩
  | .hbm, ⟨33, _⟩ => ⟨S8x16384x16384, .f32⟩
  | .hbm, ⟨34, _⟩ => ⟨S8x16384x16384, .f32⟩
  | .hbm, ⟨35, _⟩ => ⟨S_, .f32⟩
  | .hbm, ⟨36, _⟩ => ⟨S_, .f32⟩
  | .hbm, ⟨37, _⟩ => ⟨S8x16384x16384, .f32⟩
  | .hbm, ⟨38, _⟩ => ⟨S8x16384x16384, .f32⟩
  | .hbm, ⟨39, _⟩ => ⟨S8x16384x16384, .f32⟩
  | .hbm, ⟨40, _⟩ => ⟨S_, .f32⟩
  | .hbm, ⟨41, _⟩ => ⟨S8x16384x16384, .f32⟩
  | .hbm, ⟨42, _⟩ => ⟨S8x16384x16384, .f32⟩
  | .hbm, ⟨43, _⟩ => ⟨S8x16384x16384, .f32⟩
  | .hbm, ⟨44, _⟩ => ⟨S8x16384x16384, .f32⟩
  | .hbm, ⟨45, _⟩ => ⟨S8x16384x16384, .i1⟩
  | .hbm, ⟨46, _⟩ => ⟨S8x16384x16384, .f32⟩
  | .hbm, ⟨47, _⟩ => ⟨S8x16384x16384, .f32⟩
  | .hbm, ⟨48, _⟩ => ⟨S8x16384x16384, .f32⟩
  | .hbm, ⟨49, _⟩ => ⟨S8x16384x16384, .f32⟩
  | .hbm, ⟨50, _⟩ => ⟨S8x16384x16384, .f32⟩
  | .hbm, ⟨51, _⟩ => ⟨S8x16384x16384, .f32⟩
  | .hbm, ⟨52, _⟩ => ⟨S8x16384x16384, .f32⟩
  | .hbm, ⟨53, _⟩ => ⟨S8x16384x16384, .f32⟩
  | .hbm, ⟨54, _⟩ => ⟨S8x16384x16384, .f32⟩
  | .hbm, ⟨55, _⟩ => ⟨S8x16384x16384, .f32⟩
  | .hbm, ⟨56, _⟩ => ⟨S8x16384x16384, .f32⟩
  | .hbm, ⟨57, _⟩ => ⟨S_, .f32⟩
  | .hbm, ⟨58, _⟩ => ⟨S_, .f32⟩
  | .hbm, ⟨59, _⟩ => ⟨S8x16384x16384, .i1⟩
  | .hbm, ⟨60, _⟩ => ⟨S8x16384x16384, .f32⟩
  | .hbm, ⟨61, _⟩ => ⟨S8x16384x16384, .f32⟩
  | .hbm, ⟨62, _⟩ => ⟨S8x16384x64, .f32⟩
  | .hbm, ⟨63, _⟩ => ⟨S8x16384x64, .f32⟩
  | _, _ => ⟨S8x16384x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v11 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_call2_cst : Ref sig .tc := ⟨.hbm, 35, rfl⟩
abbrev main_call2_v0 : Ref sig .tc := ⟨.hbm, 36, rfl⟩
abbrev main_v13 : Ref sig .tc := ⟨.hbm, 37, rfl⟩
abbrev main_v14 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_cst_0 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩

abbrev nD : Nat := 1
abbrev τ : Topo := Topo.v7x

variable {F : FTy → Type} [FloatOps F]
-- ==== Moe.lean ====
abbrev S16384x1024 : Shape := ⟨2, ![16384, 1024]⟩
abbrev S16384x128 : Shape := ⟨2, ![16384, 128]⟩
abbrev S16x1024x512 : Shape := ⟨3, ![16, 1024, 512]⟩
abbrev S16x512x1024 : Shape := ⟨3, ![16, 512, 1024]⟩
abbrev S1024 : Shape := ⟨1, ![1024]⟩
abbrev S1x1024 : Shape := ⟨2, ![1, 1024]⟩
abbrev S512x1024 : Shape := ⟨2, ![512, 1024]⟩
abbrev S512x128 : Shape := ⟨2, ![512, 128]⟩
abbrev S1x1024x512 : Shape := ⟨3, ![1, 1024, 512]⟩
abbrev S1x512x1024 : Shape := ⟨3, ![1, 512, 1024]⟩
abbrev S1x128 : Shape := ⟨2, ![1, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x128, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S1024, .f32⟩
  | .hbm, ⟨7, _⟩ => ⟨S16x1024x512, .bf16⟩
  | .hbm, ⟨8, _⟩ => ⟨S16x1024x512, .bf16⟩
  | .hbm, ⟨9, _⟩ => ⟨S16x512x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x128, .f32⟩
  | .local _ .vmem, ⟨5, _⟩ => ⟨S512x128, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v35 : BitVec 1 := Scalar.cmpi .eq arg1 c15_i32
  let v36 : BitVec 32 := Scalar.extui v35
  let c0_i32_21 : BitVec 32 := 0#32
  let v37 : BitVec 1 := Scalar.cmpi .ne v36 c0_i32_21
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeRefIdeal.lean ====
abbrev S16384x1024 : Shape := ⟨2, ![16384, 1024]⟩
abbrev S16384x128 : Shape := ⟨2, ![16384, 128]⟩
abbrev S16x1024x512 : Shape := ⟨3, ![16, 1024, 512]⟩
abbrev S16x512x1024 : Shape := ⟨3, ![16, 512, 1024]⟩
abbrev S1024 : Shape := ⟨1, ![1024]⟩
abbrev S16x512x16384 : Shape := ⟨3, ![16, 512, 16384]⟩
abbrev S16x16384x512 : Shape := ⟨3, ![16, 16384, 512]⟩
abbrev S_ : Shape := ⟨0, ![]⟩
abbrev S16x16384x1024 : Shape := ⟨3, ![16, 16384, 1024]⟩
abbrev S16384x16 : Shape := ⟨2, ![16384, 16]⟩
abbrev S16x16384 : Shape := ⟨2, ![16, 16384]⟩
abbrev S16x16384x1 : Shape := ⟨3, ![16, 16384, 1]⟩
abbrev S16384 : Shape := ⟨1, ![16384]⟩
abbrev S16384x1 : Shape := ⟨2, ![16384, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x128, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S1024, .f32⟩
  | .hbm, ⟨7, _⟩ => ⟨S16384x1024, .f32⟩
  | .hbm, ⟨8, _⟩ => ⟨S16x512x16384, .f32⟩
  | .hbm, ⟨9, _⟩ => ⟨S16x16384x512, .f32⟩
  | .hbm, ⟨10, _⟩ => ⟨S16x16384x512, .f32⟩
  | .hbm, ⟨11, _⟩ => ⟨S16x16384x512, .f32⟩
  | .hbm, ⟨12, _⟩ => ⟨S_, .f32⟩
  | .hbm, ⟨13, _⟩ => ⟨S16x16384x512, .f32⟩
  | .hbm, ⟨14, _⟩ => ⟨S16x16384x512, .f32⟩
  | .hbm, ⟨15, _⟩ => ⟨S_, .f32⟩
  | .hbm, ⟨16, _⟩ => ⟨S16x16384x512, .f32⟩
  | .hbm, ⟨17, _⟩ => ⟨S16x16384x512, .f32⟩
  | .hbm, ⟨18, _⟩ => ⟨S16x16384x512, .f32⟩
  | .hbm, ⟨19, _⟩ => ⟨S16x512x16384, .f32⟩
  | .hbm, ⟨20, _⟩ => ⟨S16x16384x512, .f32⟩
  | .hbm, ⟨21, _⟩ => ⟨S16x16384x512, .f32⟩
  | .hbm, ⟨22, _⟩ => ⟨S16x16384x1024, .f32⟩
  | .hbm, ⟨23, _⟩ => ⟨S16384x16, .f32⟩
  | .hbm, ⟨24, _⟩ => ⟨S16x16384, .f32⟩
  | .hbm, ⟨25, _⟩ => ⟨S16x16384x1, .f32⟩
  | .hbm, ⟨26, _⟩ => ⟨S16x16384x1024, .f32⟩
  | .hbm, ⟨27, _⟩ => ⟨S16x16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== InProj.lean ====
abbrev S16384x1024 : Shape := ⟨2, ![16384, 1024]⟩
abbrev S16384 : Shape := ⟨1, ![16384]⟩
abbrev S1024 : Shape := ⟨1, ![1024]⟩
abbrev S1024x2840 : Shape := ⟨2, ![1024, 2840]⟩
abbrev S1024x512 : Shape := ⟨2, ![1024, 512]⟩
abbrev S1024x768 : Shape := ⟨2, ![1024, 768]⟩
abbrev S1024x24 : Shape := ⟨2, ![1024, 24]⟩
abbrev S_ : Shape := ⟨0, ![]⟩
abbrev S1024x128 : Shape := ⟨2, ![1024, 128]⟩
abbrev S1024x1536 : Shape := ⟨2, ![1024, 1536]⟩
abbrev S8 : Shape := ⟨1, ![8]⟩
abbrev S48 : Shape := ⟨1, ![48]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16384x1 : Shape := ⟨2, ![16384, 1]⟩
abbrev S1x1024 : Shape := ⟨2, ![1, 1024]⟩
abbrev S16384x512 : Shape := ⟨2, ![16384, 512]⟩
abbrev S16384x256 : Shape := ⟨2, ![16384, 256]⟩
abbrev S16384x128 : Shape := ⟨2, ![16384, 128]⟩
abbrev S512x1024 : Shape := ⟨2, ![512, 1024]⟩
abbrev S512x1 : Shape := ⟨2, ![512, 1]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x768 : Shape := ⟨2, ![512, 768]⟩
abbrev S512x1536 : Shape := ⟨2, ![512, 1536]⟩

abbrev nBuf : Space → Nat
  | .hbm => 48
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1024, .f32⟩
  | .hbm, ⟨3, _⟩ => ⟨S1024x2840, .f32⟩
  | .hbm, ⟨4, _⟩ => ⟨S1024x512, .f32⟩
  | .hbm, ⟨5, _⟩ => ⟨S1024x512, .bf16⟩
  | .hbm, ⟨6, _⟩ => ⟨S1024x768, .f32⟩
  | .hbm, ⟨7, _⟩ => ⟨S1024x768, .bf16⟩
  | .hbm, ⟨8, _⟩ => ⟨S1024x24, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1024x1536, .f32⟩
  | .hbm, ⟨14, _⟩ => ⟨S1024x1536, .bf16⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S48, .f32⟩
  | .hbm, ⟨31, _⟩ => ⟨S64, .f32⟩
  | .hbm, ⟨32, _⟩ => ⟨S1x64, .f32⟩
  | .hbm, ⟨33, _⟩ => ⟨S2x64, .f32⟩
  | .hbm, ⟨34, _⟩ => ⟨S128, .f32⟩
  | .hbm, ⟨35, _⟩ => ⟨S1x128, .f32⟩
  | .hbm, ⟨36, _⟩ => ⟨S16384x1, .i32⟩
  | .hbm, ⟨37, _⟩ => ⟨S1x1024, .f32⟩
  | .hbm, ⟨38, _⟩ => ⟨S16384x512, .bf16⟩
  | .hbm, ⟨39, _⟩ => ⟨S16384x256, .f32⟩
  | .hbm, ⟨40, _⟩ => ⟨S16384x128, .bf16⟩
  | .hbm, ⟨41, _⟩ => ⟨S16384x128, .bf16⟩
  | .hbm, ⟨42, _⟩ => ⟨S16384x128, .bf16⟩
  | .hbm, ⟨43, _⟩ => ⟨S16384x128, .bf16⟩
  | .hbm, ⟨44, _⟩ => ⟨S16384x128, .f32⟩
  | .hbm, ⟨45, _⟩ => ⟨S16384x512, .bf16⟩
  | .hbm, ⟨46, _⟩ => ⟨S16384x512, .bf16⟩
  | .hbm, ⟨47, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x1024, .f32⟩
  | .local _ .vmem, ⟨5, _⟩ => ⟨S1x128, .f32⟩
  | .local _ .vmem, ⟨6, _⟩ => ⟨S1024x512, .bf16⟩
  | .local _ .vmem, ⟨7, _⟩ => ⟨S1024x768, .bf16⟩
  | .local _ .vmem, ⟨8, _⟩ => ⟨S1024x128, .bf16⟩
  | .local _ .vmem, ⟨9, _⟩ => ⟨S1024x1536, .bf16⟩
  | .local _ .vmem, ⟨10, _⟩ => ⟨S512x512, .bf16⟩
  | .local _ .vmem, ⟨11, _⟩ => ⟨S512x512, .bf16⟩
  | .local _ .vmem, ⟨12, _⟩ => ⟨S512x256, .f32⟩
  | .local _ .vmem, ⟨13, _⟩ => ⟨S512x256, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S512x128, .f32⟩
  | .local _ .vmem, ⟨23, _⟩ => ⟨S512x128, .f32⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev main_v27_3 : Ref sig .tc := ⟨.hbm, 41, rfl⟩
abbrev main_v27_4 : Ref sig .tc := ⟨.hbm, 42, rfl⟩
abbrev main_v27_5 : Ref sig .tc := ⟨.hbm, 43, rfl⟩
abbrev main_v27_6 : Ref sig .tc := ⟨.hbm, 44, rfl⟩
abbrev main_v27_7 : Ref sig .tc := ⟨.hbm, 45, rfl⟩
abbrev main_v27_8 : Ref sig .tc := ⟨.hbm, 46, rfl⟩
abbrev main_v27_9 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InProjRefIdeal.lean ====
abbrev S16384x1024 : Shape := ⟨2, ![16384, 1024]⟩
abbrev S16384 : Shape := ⟨1, ![16384]⟩
abbrev S1024 : Shape := ⟨1, ![1024]⟩
abbrev S1024x2840 : Shape := ⟨2, ![1024, 2840]⟩
abbrev S_ : Shape := ⟨0, ![]⟩
abbrev S16384x1 : Shape := ⟨2, ![16384, 1]⟩
abbrev S1x1024 : Shape := ⟨2, ![1, 1024]⟩
abbrev S16384x2840 : Shape := ⟨2, ![16384, 2840]⟩
abbrev S16384x512 : Shape := ⟨2, ![16384, 512]⟩
abbrev S16384x8x64 : Shape := ⟨3, ![16384, 8, 64]⟩
abbrev S16384x768 : Shape := ⟨2, ![16384, 768]⟩
abbrev S16384x3x2x2x64 : Shape := ⟨5, ![16384, 3, 2, 2, 64]⟩
abbrev S16384x24 : Shape := ⟨2, ![16384, 24]⟩
abbrev S16384x128 : Shape := ⟨2, ![16384, 128]⟩
abbrev S16384x1536 : Shape := ⟨2, ![16384, 1536]⟩
abbrev S16384x3x8x64 : Shape := ⟨4, ![16384, 3, 8, 64]⟩
abbrev S8 : Shape := ⟨1, ![8]⟩
abbrev S1x8 : Shape := ⟨2, ![1, 8]⟩
abbrev S16384x8 : Shape := ⟨2, ![16384, 8]⟩
abbrev S16384x1x8 : Shape := ⟨3, ![16384, 1, 8]⟩
abbrev S16384x8x8 : Shape := ⟨3, ![16384, 8, 8]⟩
abbrev S16384x8x48 : Shape := ⟨3, ![16384, 8, 48]⟩
abbrev S16384x1x2x2x64 : Shape := ⟨5, ![16384, 1, 2, 2, 64]⟩
abbrev S16384x2x2x64 : Shape := ⟨4, ![16384, 2, 2, 64]⟩
abbrev S16384x256 : Shape := ⟨2, ![16384, 256]⟩
abbrev S16384x1x1x2x64 : Shape := ⟨5, ![16384, 1, 1, 2, 64]⟩
abbrev S16384x2x64 : Shape := ⟨3, ![16384, 2, 64]⟩
abbrev S16384x2x8 : Shape := ⟨3, ![16384, 2, 8]⟩
abbrev S16384x2x48 : Shape := ⟨3, ![16384, 2, 48]⟩
abbrev S16384x1x8x64 : Shape := ⟨4, ![16384, 1, 8, 64]⟩

abbrev nBuf : Space → Nat
  | .hbm => 144
  | .vmem => 0
  | .smem => 0
  | _ => 0

abbrev hbmTy0_0 (i : Nat) : BufTy := match i % 128 with
  | 0 => ⟨S16384x1024, .f32⟩
  | 1 => ⟨S16384, .i32⟩
  | 2 => ⟨S1024, .f32⟩
  | 3 => ⟨S1024x2840, .f32⟩
  | 4 => ⟨S16384x1024, .f32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S_, .f32⟩
  | 12 => ⟨S16384x1, .f32⟩
  | 13 => ⟨S16384x1, .f32⟩
  | 14 => ⟨S16384x1, .f32⟩
  | 15 => ⟨S16384x1024, .f32⟩
  | 16 => ⟨S16384x1024, .f32⟩
  | 17 => ⟨S1x1024, .f32⟩
  | 18 => ⟨S16384x1024, .f32⟩
  | 19 => ⟨S16384x1024, .f32⟩
  | 20 => ⟨S16384x2840, .f32⟩
  | 21 => ⟨S16384x512, .f32⟩
  | 22 => ⟨S16384x8x64, .f32⟩
  | 23 => ⟨S16384x768, .f32⟩
  | 24 => ⟨S16384x3x2x2x64, .f32⟩
  | 25 => ⟨S16384x24, .f32⟩
  | 26 => ⟨S_, .i32⟩
  | 27 => ⟨S_, .f32⟩
  | 28 => ⟨S16384x128, .f32⟩
  | 29 => ⟨S16384x128, .f32⟩
  | 30 => ⟨S16384x128, .f32⟩
  | 31 => ⟨S_, .f32⟩
  | 32 => ⟨S16384x128, .f32⟩
  | 33 => ⟨S16384x128, .f32⟩
  | 34 => ⟨S_, .f32⟩
  | 35 => ⟨S16384x128, .f32⟩
  | 36 => ⟨S16384x128, .f32⟩
  | 37 => ⟨S16384x1536, .f32⟩
  | 38 => ⟨S16384x3x8x64, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S16384, .f32⟩
  | 54 => ⟨S16384x1, .f32⟩
  | 55 => ⟨S1x8, .f32⟩
  | 56 => ⟨S16384x8, .f32⟩
  | 57 => ⟨S16384x8, .f32⟩
  | 58 => ⟨S16384x8, .f32⟩
  | 59 => ⟨S16384x8, .f32⟩
  | 60 => ⟨S16384x1x8, .f32⟩
  | 61 => ⟨S16384x8, .f32⟩
  | 62 => ⟨S16384x1x8, .f32⟩
  | 63 => ⟨S16384x8x8, .f32⟩
  | 64 => ⟨S16384x8x8, .f32⟩
  | 65 => ⟨S16384x8x8, .f32⟩
  | 66 => ⟨S16384x8x8, .f32⟩
  | 67 => ⟨S16384x8x8, .f32⟩
  | 68 => ⟨S16384x8x8, .f32⟩
  | 69 => ⟨S16384x8x8, .f32⟩
  | 70 => ⟨S16384x8x8, .f32⟩
  | 71 => ⟨S16384x8x8, .f32⟩
  | 72 => ⟨S16384x8x8, .f32⟩
  | 73 => ⟨S16384x8x8, .f32⟩
  | 74 => ⟨S16384x8x8, .f32⟩
  | 75 => ⟨S16384x8x48, .f32⟩
  | 76 => ⟨S16384x8x64, .f32⟩
  | 77 => ⟨S_, .f32⟩
  | 78 => ⟨S16384x8x64, .f32⟩
  | 79 => ⟨S16384x8x64, .f32⟩
  | 80 => ⟨S16384x512, .f32⟩
  | 81 => ⟨S16384x512, .bf16⟩
  | 82 => ⟨S16384x1x2x2x64, .f32⟩
  | 83 => ⟨S16384x2x2x64, .f32⟩
  | 84 => ⟨S16384x256, .f32⟩
  | 85 => ⟨S16384x1x1x2x64, .f32⟩
  | 86 => ⟨S16384x2x64, .f32⟩
  | 87 => ⟨S16384x2x8, .f32⟩
  | 88 => ⟨S16384x2x8, .f32⟩
  | 89 => ⟨S16384x2x8, .f32⟩
  | 90 => ⟨S16384x2x8, .f32⟩
  | 91 => ⟨S16384x2x8, .f32⟩
  | 92 => ⟨S16384x2x8, .f32⟩
  | 93 => ⟨S16384x2x8, .f32⟩
  | 94 => ⟨S16384x2x8, .f32⟩
  | 95 => ⟨S16384x2x8, .f32⟩
  | 96 => ⟨S16384x2x8, .f32⟩
  | 97 => ⟨S16384x2x8, .f32⟩
  | 98 => ⟨S16384x2x8, .f32⟩
  | 99 => ⟨S16384x2x48, .f32⟩
  | 100 => ⟨S16384x2x64, .f32⟩
  | 101 => ⟨S16384x128, .f32⟩
  | 102 => ⟨S16384x128, .bf16⟩
  | 103 => ⟨S16384x1x1x2x64, .f32⟩
  | 104 => ⟨S16384x2x64, .f32⟩
  | 105 => ⟨S16384x128, .f32⟩
  | 106 => ⟨S16384x128, .bf16⟩
  | 107 => ⟨S16384x1x1x2x64, .f32⟩
  | 108 => ⟨S16384x2x64, .f32⟩
  | 109 => ⟨S16384x2x8, .f32⟩
  | 110 => ⟨S16384x2x8, .f32⟩
  | 111 => ⟨S16384x2x8, .f32⟩
  | 112 => ⟨S16384x2x8, .f32⟩
  | 113 => ⟨S16384x2x8, .f32⟩
  | 114 => ⟨S16384x2x8, .f32⟩
  | 115 => ⟨S16384x2x8, .f32⟩
  | 116 => ⟨S16384x2x8, .f32⟩
  | 117 => ⟨S16384x2x8, .f32⟩
  | 118 => ⟨S16384x2x8, .f32⟩
  | 119 => ⟨S16384x2x8, .f32⟩
  | 120 => ⟨S16384x2x8, .f32⟩
  | 121 => ⟨S16384x2x48, .f32⟩
  | 122 => ⟨S16384x2x64, .f32⟩
  | 123 => ⟨S16384x128, .f32⟩
  | 124 => ⟨S16384x128, .bf16⟩
  | 125 => ⟨S16384x1x1x2x64, .f32⟩
  | 126 => ⟨S16384x2x64, .f32⟩
  | 127 => ⟨S16384x128, .f32⟩
  | _ => ⟨S16384x1024, .f32⟩

abbrev hbmTy0_1 (i : Nat) : BufTy := match i % 128 with
  | 0 => ⟨S16384x128, .bf16⟩
  | 1 => ⟨S16384x1x8x64, .f32⟩
  | 2 => ⟨S16384x8x64, .f32⟩
  | 3 => ⟨S_, .f32⟩
  | 4 => ⟨S16384x8x64, .f32⟩
  | 5 => ⟨S16384x8x64, .f32⟩
  | 6 => ⟨S16384x512, .f32⟩
  | 7 => ⟨S16384x512, .bf16⟩
  | 8 => ⟨S16384x1x8x64, .f32⟩
  | 9 => ⟨S16384x8x64, .f32⟩
  | 10 => ⟨S16384x512, .f32⟩
  | 11 => ⟨S16384x512, .bf16⟩
  | 12 => ⟨S16384x1x8x64, .f32⟩
  | 13 => ⟨S16384x8x64, .f32⟩
  | 14 => ⟨S16384x512, .f32⟩
  | 15 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_cst_9 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩

abbrev nD : Nat := 1
abbrev τ : Topo := Topo.v7x

variable {F : FTy → Type} [FloatOps F]
-- ==== Cmp.lean ====
abbrev S8x16384x64 : Shape := ⟨3, ![8, 16384, 64]⟩
abbrev S2x1024x64 : Shape := ⟨3, ![2, 1024, 64]⟩
abbrev S1024 : Shape := ⟨1, ![1024]⟩
abbrev S_ : Shape := ⟨0, ![]⟩
abbrev S256 : Shape := ⟨1, ![256]⟩
abbrev S1024x1 : Shape := ⟨2, ![1024, 1]⟩
abbrev S1x256 : Shape := ⟨2, ![1, 256]⟩
abbrev S1024x256 : Shape := ⟨2, ![1024, 256]⟩
abbrev S8x16384x128 : Shape := ⟨3, ![8, 16384, 128]⟩
abbrev S2x16384x256 : Shape := ⟨3, ![2, 16384, 256]⟩
abbrev S4x256x128 : Shape := ⟨3, ![4, 256, 128]⟩
abbrev S1x1024x64 : Shape := ⟨3, ![1, 1024, 64]⟩
abbrev S4x256x64 : Shape := ⟨3, ![4, 256, 64]⟩
abbrev S1x256x256 : Shape := ⟨3, ![1, 256, 256]⟩
abbrev S256x1 : Shape := ⟨2, ![256, 1]⟩
abbrev S1x1024 : Shape := ⟨2, ![1, 1024]⟩
abbrev S256x1024 : Shape := ⟨2, ![256, 1024]⟩
abbrev S1024x64 : Shape := ⟨2, ![1024, 64]⟩
abbrev S1x256x128 : Shape := ⟨3, ![1, 256, 128]⟩
abbrev S256x128 : Shape := ⟨2, ![256, 128]⟩
abbrev S256x64 : Shape := ⟨2, ![256, 64]⟩
abbrev S1x256x64 : Shape := ⟨3, ![1, 256, 64]⟩
abbrev S256x256 : Shape := ⟨2, ![256, 256]⟩

abbrev nBuf : Space → Nat
  | .hbm => 34
  | .vmem => 11
  | .smem => 0
  | _ => 0

abbrev bufTy : (tb : Table) → Fin (tcTables nBuf tb) → BufTy
  | .hbm, ⟨0, _⟩ => ⟨S8x16384x64, .bf16⟩
  | .hbm, ⟨1, _⟩ => ⟨S2x1024x64, .bf16⟩
  | .hbm, ⟨2, _⟩ => ⟨S2x1024x64, .bf16⟩
  | .hbm, ⟨3, _⟩ => ⟨S1024, .i32⟩
  | .hbm, ⟨4, _⟩ => ⟨S_, .i32⟩
  | .hbm, ⟨5, _⟩ => ⟨S1024, .i32⟩
  | .hbm, ⟨6, _⟩ => ⟨S1024, .i32⟩
  | .hbm, ⟨7, _⟩ => ⟨S256, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S1024x1, .i32⟩
  | .hbm, ⟨12, _⟩ => ⟨S1x256, .i32⟩
  | .hbm, ⟨13, _⟩ => ⟨S_, .i32⟩
  | .hbm, ⟨14, _⟩ => ⟨S1x256, .i32⟩
  | .hbm, ⟨15, _⟩ => ⟨S1x256, .i32⟩
  | .hbm, ⟨16, _⟩ => ⟨S1024x256, .i32⟩
  | .hbm, ⟨17, _⟩ => ⟨S1024x256, .i32⟩
  | .hbm, ⟨18, _⟩ => ⟨S1024x256, .i1⟩
  | .hbm, ⟨19, _⟩ => ⟨S1024x1, .i32⟩
  | .hbm, ⟨20, _⟩ => ⟨S_, .i32⟩
  | .hbm, ⟨21, _⟩ => ⟨S1024x1, .i32⟩
  | .hbm, ⟨22, _⟩ => ⟨S1024x1, .i32⟩
  | .hbm, ⟨23, _⟩ => ⟨S1x256, .i32⟩
  | .hbm, ⟨24, _⟩ => ⟨S1024x256, .i32⟩
  | .hbm, ⟨25, _⟩ => ⟨S1024x256, .i32⟩
  | .hbm, ⟨26, _⟩ => ⟨S1024x256, .i1⟩
  | .hbm, ⟨27, _⟩ => ⟨S1024x256, .i1⟩
  | .hbm, ⟨28, _⟩ => ⟨S1024x256, .bf16⟩
  | .hbm, ⟨29, _⟩ => ⟨S_, .i32⟩
  | .hbm, ⟨30, _⟩ => ⟨S_, .bf16⟩
  | .hbm, ⟨31, _⟩ => ⟨S8x16384x128, .bf16⟩
  | .hbm, ⟨32, _⟩ => ⟨S8x16384x64, .f32⟩
  | .hbm, ⟨33, _⟩ => ⟨S2x16384x256, .f32⟩
  | .local _ .vmem, ⟨0, _⟩ => ⟨S4x256x128, .bf16⟩
  | .local _ .vmem, ⟨1, _⟩ => ⟨S4x256x128, .bf16⟩
  | .local _ .vmem, ⟨2, _⟩ => ⟨S1x1024x64, .bf16⟩
  | .local _ .vmem, ⟨3, _⟩ => ⟨S1x1024x64, .bf16⟩
  | .local _ .vmem, ⟨4, _⟩ => ⟨S1x1024x64, .bf16⟩
  | .local _ .vmem, ⟨5, _⟩ => ⟨S1x1024x64, .bf16⟩
  | .local _ .vmem, ⟨6, _⟩ => ⟨S1024x256, .bf16⟩
  | .local _ .vmem, ⟨7, _⟩ => ⟨S4x256x64, .f32⟩
  | .local _ .vmem, ⟨8, _⟩ => ⟨S4x256x64, .f32⟩
  | .local _ .vmem, ⟨9, _⟩ => ⟨S1x256x256, .f32⟩
  | .local _ .vmem, ⟨10, _⟩ => ⟨S1x256x256, .f32⟩
  | _, _ => ⟨S8x16384x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_call0_v0 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CmpRefIdeal.lean ====
abbrev S8x16384x64 : Shape := ⟨3, ![8, 16384, 64]⟩
abbrev S2x1024x64 : Shape := ⟨3, ![2, 1024, 64]⟩
abbrev S2x4x16384x64 : Shape := ⟨4, ![2, 4, 16384, 64]⟩
abbrev S1024 : Shape := ⟨1, ![1024]⟩
abbrev S_ : Shape := ⟨0, ![]⟩
abbrev S256 : Shape := ⟨1, ![256]⟩
abbrev S1024x1 : Shape := ⟨2, ![1024, 1]⟩
abbrev S1x256 : Shape := ⟨2, ![1, 256]⟩
abbrev S1024x256 : Shape := ⟨2, ![1024, 256]⟩
abbrev S16384 : Shape := ⟨1, ![16384]⟩
abbrev S2x4x16384x1024 : Shape := ⟨4, ![2, 4, 16384, 1024]⟩
abbrev S1x1024 : Shape := ⟨2, ![1, 1024]⟩
abbrev S16384x1 : Shape := ⟨2, ![16384, 1]⟩
abbrev S16384x1024 : Shape := ⟨2, ![16384, 1024]⟩
abbrev S2x4x16384 : Shape := ⟨3, ![2, 4, 16384]⟩
abbrev S2x4x16384x1 : Shape := ⟨4, ![2, 4, 16384, 1]⟩
abbrev S2x16384x1024 : Shape := ⟨3, ![2, 16384, 1024]⟩
abbrev S2x16384x256 : Shape := ⟨3, ![2, 16384, 256]⟩
abbrev S16384x256 : Shape := ⟨2, ![16384, 256]⟩
abbrev S1x16384x256 : Shape := ⟨3, ![1, 16384, 256]⟩
abbrev S2x16384x16 : Shape := ⟨3, ![2, 16384, 16]⟩
abbrev S2x16384x16x1 : Shape := ⟨4, ![2, 16384, 16, 1]⟩
abbrev S1x1x1x256 : Shape := ⟨4, ![1, 1, 1, 256]⟩
abbrev S2x16384x16x256 : Shape := ⟨4, ![2, 16384, 16, 256]⟩

abbrev nBuf : Space → Nat
  | .hbm => 147
  | .vmem => 0
  | .smem => 0
  | _ => 0

abbrev hbmTy0_0 (i : Nat) : BufTy := match i % 128 with
  | 0 => ⟨S8x16384x64, .bf16⟩
  | 1 => ⟨S2x1024x64, .bf16⟩
  | 2 => ⟨S2x1024x64, .bf16⟩
  | 3 => ⟨S2x4x16384x64, .bf16⟩
  | 4 => ⟨S1024, .i32⟩
  | 5 => ⟨S_, .i32⟩
  | 6 => ⟨S1024, .i32⟩
  | 7 => ⟨S1024, .i32⟩
  | 8 => ⟨S_, .i32⟩
  | 9 => ⟨S1024, .i32⟩
  | 10 => ⟨S1024, .i32⟩
  | 11 => ⟨S256, .i32⟩
  | 12 => ⟨S_, .i32⟩
  | 13 => ⟨S256, .i32⟩
  | 14 => ⟨S256, .i32⟩
  | 15 => ⟨S1024x1, .i32⟩
  | 16 => ⟨S1x256, .i32⟩
  | 17 => ⟨S_, .i32⟩
  | 18 => ⟨S1x256, .i32⟩
  | 19 => ⟨S1x256, .i32⟩
  | 20 => ⟨S1024x256, .i32⟩
  | 21 => ⟨S1024x256, .i32⟩
  | 22 => ⟨S1024x256, .i1⟩
  | 23 => ⟨S1024x1, .i32⟩
  | 24 => ⟨S_, .i32⟩
  | 25 => ⟨S1024x1, .i32⟩
  | 26 => ⟨S1024x1, .i32⟩
  | 27 => ⟨S1x256, .i32⟩
  | 28 => ⟨S1024x256, .i32⟩
  | 29 => ⟨S1024x256, .i32⟩
  | 30 => ⟨S1024x256, .i1⟩
  | 31 => ⟨S1024x256, .i1⟩
  | 32 => ⟨S1024x256, .f32⟩
  | 33 => ⟨S16384, .i32⟩
  | 34 => ⟨S2x4x16384x64, .f32⟩
  | 35 => ⟨S2x1024x64, .f32⟩
  | 36 => ⟨S2x4x16384x1024, .f32⟩
  | 37 => ⟨S1x1024, .i32⟩
  | 38 => ⟨S16384x1, .i32⟩
  | 39 => ⟨S16384x1024, .i32⟩
  | 40 => ⟨S16384x1024, .i32⟩
  | 41 => ⟨S16384x1024, .i1⟩
  | 42 => ⟨S_, .f32⟩
  | 43 => ⟨S_, .f32⟩
  | 44 => ⟨S2x4x16384x1024, .i1⟩
  | 45 => ⟨S2x4x16384x1024, .f32⟩
  | 46 => ⟨S2x4x16384x1024, .f32⟩
  | 47 => ⟨S_, .f32⟩
  | 48 => ⟨S2x4x16384, .f32⟩
  | 49 => ⟨S2x4x16384x1, .f32⟩
  | 50 => ⟨S2x4x16384x1024, .f32⟩
  | 51 => ⟨S2x4x16384x1024, .f32⟩
  | 52 => ⟨S2x4x16384x1024, .f32⟩
  | 53 => ⟨S_, .f32⟩
  | 54 => ⟨S_, .f32⟩
  | 55 => ⟨S2x4x16384x1024, .i1⟩
  | 56 => ⟨S2x4x16384x1024, .f32⟩
  | 57 => ⟨S2x4x16384x1024, .f32⟩
  | 58 => ⟨S_, .f32⟩
  | 59 => ⟨S2x4x16384, .f32⟩
  | 60 => ⟨S2x4x16384x1, .f32⟩
  | 61 => ⟨S_, .f32⟩
  | 62 => ⟨S2x4x16384x1, .f32⟩
  | 63 => ⟨S2x4x16384x1, .f32⟩
  | 64 => ⟨S2x4x16384x1024, .f32⟩
  | 65 => ⟨S2x4x16384x1024, .f32⟩
  | 66 => ⟨S2x1024x64, .f32⟩
  | 67 => ⟨S2x4x16384x64, .f32⟩
  | 68 => ⟨S_, .f32⟩
  | 69 => ⟨S2x16384x1024, .f32⟩
  | 70 => ⟨S2x16384x256, .f32⟩
  | 71 => ⟨S256, .i32⟩
  | 72 => ⟨S_, .i32⟩
  | 73 => ⟨S_, .i32⟩
  | 74 => ⟨S16384, .i32⟩
  | 75 => ⟨S16384, .i32⟩
  | 76 => ⟨S16384, .i32⟩
  | 77 => ⟨S_, .i32⟩
  | 78 => ⟨S16384, .i32⟩
  | 79 => ⟨S16384, .i1⟩
  | 80 => ⟨S16384, .i32⟩
  | 81 => ⟨S16384, .i32⟩
  | 82 => ⟨S_, .i32⟩
  | 83 => ⟨S16384, .i32⟩
  | 84 => ⟨S16384, .i1⟩
  | 85 => ⟨S16384, .i1⟩
  | 86 => ⟨S_, .i32⟩
  | 87 => ⟨S16384, .i32⟩
  | 88 => ⟨S16384, .i32⟩
  | 89 => ⟨S16384, .i32⟩
  | 90 => ⟨S1x256, .i32⟩
  | 91 => ⟨S_, .i32⟩
  | 92 => ⟨S1x256, .i32⟩
  | 93 => ⟨S1x256, .i1⟩
  | 94 => ⟨S1x256, .i32⟩
  | 95 => ⟨S16384x1, .i32⟩
  | 96 => ⟨S16384x256, .i32⟩
  | 97 => ⟨S16384x256, .i32⟩
  | 98 => ⟨S16384x256, .i1⟩
  | 99 => ⟨S16384x256, .i1⟩
  | 100 => ⟨S16384x256, .i1⟩
  | 101 => ⟨S1x256, .i32⟩
  | 102 => ⟨S16384x1, .i32⟩
  | 103 => ⟨S_, .i32⟩
  | 104 => ⟨S16384x1, .i32⟩
  | 105 => ⟨S16384x1, .i32⟩
  | 106 => ⟨S16384x256, .i32⟩
  | 107 => ⟨S16384x256, .i32⟩
  | 108 => ⟨S16384x256, .i1⟩
  | 109 => ⟨S16384x256, .i1⟩
  | 110 => ⟨S1x256, .i32⟩
  | 111 => ⟨S16384x1, .i32⟩
  | 112 => ⟨S16384x256, .i32⟩
  | 113 => ⟨S16384x256, .i32⟩
  | 114 => ⟨S16384x256, .i1⟩
  | 115 => ⟨S_, .f32⟩
  | 116 => ⟨S_, .f32⟩
  | 117 => ⟨S16384x256, .f32⟩
  | 118 => ⟨S16384x256, .f32⟩
  | 119 => ⟨S16384x256, .f32⟩
  | 120 => ⟨S16384x256, .f32⟩
  | 121 => ⟨S1x16384x256, .f32⟩
  | 122 => ⟨S2x16384x256, .f32⟩
  | 123 => ⟨S2x16384x256, .f32⟩
  | 124 => ⟨S_, .f32⟩
  | 125 => ⟨S_, .f32⟩
  | 126 => ⟨S2x16384x256, .i1⟩
  | 127 => ⟨S2x16384x256, .f32⟩
  | _ => ⟨S8x16384x64, .bf16⟩

abbrev hbmTy0_1 (i : Nat) : BufTy := match i % 128 with
  | 0 => ⟨S2x16384x256, .f32⟩
  | 1 => ⟨S2x16384x16, .f32⟩
  | 2 => ⟨S2x16384x16, .i32⟩
  | 3 => ⟨S2x16384x16x1, .i32⟩
  | 4 => ⟨S1x1x1x256, .i32⟩
  | 5 => ⟨S2x16384x16x256, .i32⟩
  | 6 => ⟨S2x16384x16x256, .i32⟩
  | 7 => ⟨S2x16384x16x256, .i1⟩
  | 8 => ⟨S_, .i1⟩
  | 9 => ⟨S2x16384x256, .i1⟩
  | 10 => ⟨S8x16384x64, .f32⟩
  | 11 => ⟨S1x16384x256, .i1⟩
  | 12 => ⟨S2x16384x256, .i1⟩
  | 13 => ⟨S2x16384x256, .i1⟩
  | 14 => ⟨S_, .f32⟩
  | 15 => ⟨S_, .f32⟩
  | 16 => ⟨S2x16384x256, .f32⟩
  | 17 => ⟨S2x16384x256, .f32⟩
  | 18 => ⟨S2x16384x256, .f32⟩
  | _ => ⟨S8x16384x64, .bf16⟩

abbrev hbmTy (i : Nat) : BufTy := match i / 128 with
  | 0 => hbmTy0_0 i
  | 1 => hbmTy0_1 i
  | _ => ⟨S8x16384x64, .bf16⟩

abbrev bufTy : (tb : Table) → Fin (tcTables nBuf tb) → BufTy
  | .hbm, ⟨i, _⟩ => hbmTy i
  | _, _ => ⟨S8x16384x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_c : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_0 : Ref sig .tc := ⟨.hbm, 86, rfl⟩
abbrev main_call2_v12 : Ref sig .tc := ⟨.hbm, 87, rfl⟩
abbrev main_call2_v13 : Ref sig .tc := ⟨.hbm, 88, rfl⟩
abbrev main_v52 : Ref sig .tc := ⟨.hbm, 89, rfl⟩
abbrev main_v53 : Ref sig .tc := ⟨.hbm, 90, rfl⟩
abbrev main_c_10 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_11 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_12 : Ref sig .tc := ⟨.hbm, 115, rfl⟩
abbrev main_cst_13 : Ref sig .tc := ⟨.hbm, 116, rfl⟩
abbrev main_call3_v0 : Ref sig .tc := ⟨.hbm, 117, rfl⟩
abbrev main_call3_v1 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_14 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v81 : Ref sig .tc := ⟨.hbm, 128, rfl⟩
abbrev main_values : Ref sig .tc := ⟨.hbm, 129, rfl⟩
abbrev main_indices : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_c_15 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_16 : Ref sig .tc := ⟨.hbm, 142, rfl⟩
abbrev main_cst_17 : Ref sig .tc := ⟨.hbm, 143, rfl⟩
abbrev main_call5_v0 : Ref sig .tc := ⟨.hbm, 144, rfl⟩
abbrev main_call5_v1 : Ref sig .tc := ⟨.hbm, 145, rfl⟩
abbrev main_v92 : Ref sig .tc := ⟨.hbm, 146, rfl⟩

abbrev nD : Nat := 1
abbrev τ : Topo := Topo.v7x

variable {F : FTy → Type} [FloatOps F]
-- ==== Out.lean ====
abbrev S16384x1024 : Shape := ⟨2, ![16384, 1024]⟩
abbrev S16384x512 : Shape := ⟨2, ![16384, 512]⟩
abbrev S512 : Shape := ⟨1, ![512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S1024x20 : Shape := ⟨2, ![1024, 20]⟩
abbrev S_ : Shape := ⟨0, ![]⟩
abbrev S1024x128 : Shape := ⟨2, ![1024, 128]⟩
abbrev S20 : Shape := ⟨1, ![20]⟩
abbrev S1x20 : Shape := ⟨2, ![1, 20]⟩
abbrev S1x128 : Shape := ⟨2, ![1, 128]⟩
abbrev S1x512 : Shape := ⟨2, ![1, 512]⟩
abbrev S1x1024 : Shape := ⟨2, ![1, 1024]⟩
abbrev S16384x128 : Shape := ⟨2, ![16384, 128]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩

abbrev nBuf : Space → Nat
  | .hbm => 31
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x16, .f32⟩
  | .hbm, ⟨10, _⟩ => ⟨S16, .f32⟩
  | .hbm, ⟨11, _⟩ => ⟨S1024x20, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S1024x128, .f32⟩
  | .hbm, ⟨17, _⟩ => ⟨S1024x128, .f32⟩
  | .hbm, ⟨18, _⟩ => ⟨S1024x128, .bf16⟩
  | .hbm, ⟨19, _⟩ => ⟨S20, .f32⟩
  | .hbm, ⟨20, _⟩ => ⟨S1x20, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S1x512, .f32⟩
  | .hbm, ⟨25, _⟩ => ⟨S1x512, .f32⟩
  | .hbm, ⟨26, _⟩ => ⟨S1024x1024, .bf16⟩
  | .hbm, ⟨27, _⟩ => ⟨S1x1024, .f32⟩
  | .hbm, ⟨28, _⟩ => ⟨S16384x1024, .f32⟩
  | .hbm, ⟨29, _⟩ => ⟨S16384x1024, .bf16⟩
  | .hbm, ⟨30, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1024x128, .bf16⟩
  | .local _ .vmem, ⟨11, _⟩ => ⟨S1024x128, .bf16⟩
  | .local _ .vmem, ⟨12, _⟩ => ⟨S1x128, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x128, .f32⟩
  | .local _ .vmem, ⟨18, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_call1_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutRefIdeal.lean ====
abbrev S16384x1024 : Shape := ⟨2, ![16384, 1024]⟩
abbrev S16384x512 : Shape := ⟨2, ![16384, 512]⟩
abbrev S512 : Shape := ⟨1, ![512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x16, .f32⟩
  | .hbm, ⟨10, _⟩ => ⟨S16, .f32⟩
  | .hbm, ⟨11, _⟩ => ⟨S16384x512, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x512, .f32⟩
  | .hbm, ⟨23, _⟩ => ⟨S16384x512, .f32⟩
  | .hbm, ⟨24, _⟩ => ⟨S1x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x512, .f32⟩
  | .hbm, ⟨39, _⟩ => ⟨S16384x512, .f32⟩
  | .hbm, ⟨40, _⟩ => ⟨S1x512, .f32⟩
  | .hbm, ⟨41, _⟩ => ⟨S16384x512, .f32⟩
  | .hbm, ⟨42, _⟩ => ⟨S16384x512, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Rows.lean ====
abbrev S16384x256 : Shape := ⟨2, ![16384, 256]⟩
abbrev S32x64 : Shape := ⟨2, ![32, 64]⟩
abbrev S2048x256 : Shape := ⟨2, ![2048, 256]⟩
abbrev S256x64 : Shape := ⟨2, ![256, 64]⟩
abbrev S16384x4x64 : Shape := ⟨3, ![16384, 4, 64]⟩
abbrev S4x16384x64 : Shape := ⟨3, ![4, 16384, 64]⟩
abbrev S4x1024x1024 : Shape := ⟨3, ![4, 1024, 1024]⟩
abbrev S4x1023x1024 : Shape := ⟨3, ![4, 1023, 1024]⟩
abbrev S_ : Shape := ⟨0, ![]⟩
abbrev S1x2048 : Shape := ⟨2, ![1, 2048]⟩
abbrev S1x1x2048 : Shape := ⟨3, ![1, 1, 2048]⟩
abbrev S2x1x2048 : Shape := ⟨3, ![2, 1, 2048]⟩
abbrev S1x2048x256 : Shape := ⟨3, ![1, 2048, 256]⟩
abbrev S2x2048x256 : Shape := ⟨3, ![2, 2048, 256]⟩
abbrev S1x256x64 : Shape := ⟨3, ![1, 256, 64]⟩
abbrev S2x256x64 : Shape := ⟨3, ![2, 256, 64]⟩
abbrev S4x1024x64 : Shape := ⟨3, ![4, 1024, 64]⟩
abbrev S1x1024x1024 : Shape := ⟨3, ![1, 1024, 1024]⟩
abbrev S1x1024x64 : Shape := ⟨3, ![1, 1024, 64]⟩
abbrev S1024x1024 : Shape := ⟨2, ![1024, 1024]⟩
abbrev S1x1x1024 : Shape := ⟨3, ![1, 1, 1024]⟩
abbrev S1x1024 : Shape := ⟨2, ![1, 1024]⟩
abbrev S1x1024x256 : Shape := ⟨3, ![1, 1024, 256]⟩
abbrev S1024x256 : Shape := ⟨2, ![1024, 256]⟩
abbrev S1024x64 : Shape := ⟨2, ![1024, 64]⟩

abbrev nBuf : Space → Nat
  | .hbm => 28
  | .vmem => 12
  | .smem => 0
  | _ => 0

abbrev bufTy : (tb : Table) → Fin (tcTables nBuf tb) → BufTy
  | .hbm, ⟨0, _⟩ => ⟨S16384x256, .f32⟩
  | .hbm, ⟨1, _⟩ => ⟨S32x64, .f32⟩
  | .hbm, ⟨2, _⟩ => ⟨S32x64, .f32⟩
  | .hbm, ⟨3, _⟩ => ⟨S2048x256, .f32⟩
  | .hbm, ⟨4, _⟩ => ⟨S256x64, .f32⟩
  | .hbm, ⟨5, _⟩ => ⟨S2048x256, .f32⟩
  | .hbm, ⟨6, _⟩ => ⟨S256x64, .f32⟩
  | .hbm, ⟨7, _⟩ => ⟨S16384x4x64, .f32⟩
  | .hbm, ⟨8, _⟩ => ⟨S4x16384x64, .f32⟩
  | .hbm, ⟨9, _⟩ => ⟨S4x1024x1024, .f32⟩
  | .hbm, ⟨10, _⟩ => ⟨S4x1023x1024, .f32⟩
  | .hbm, ⟨11, _⟩ => ⟨S_, .i32⟩
  | .hbm, ⟨12, _⟩ => ⟨S_, .f32⟩
  | .hbm, ⟨13, _⟩ => ⟨S4x1024x1024, .f32⟩
  | .hbm, ⟨14, _⟩ => ⟨S1x2048, .f32⟩
  | .hbm, ⟨15, _⟩ => ⟨S1x2048, .f32⟩
  | .hbm, ⟨16, _⟩ => ⟨S1x1x2048, .f32⟩
  | .hbm, ⟨17, _⟩ => ⟨S1x1x2048, .f32⟩
  | .hbm, ⟨18, _⟩ => ⟨S2x1x2048, .f32⟩
  | .hbm, ⟨19, _⟩ => ⟨S1x2048x256, .f32⟩
  | .hbm, ⟨20, _⟩ => ⟨S1x2048x256, .f32⟩
  | .hbm, ⟨21, _⟩ => ⟨S2x2048x256, .f32⟩
  | .hbm, ⟨22, _⟩ => ⟨S2x2048x256, .bf16⟩
  | .hbm, ⟨23, _⟩ => ⟨S1x256x64, .f32⟩
  | .hbm, ⟨24, _⟩ => ⟨S1x256x64, .f32⟩
  | .hbm, ⟨25, _⟩ => ⟨S2x256x64, .f32⟩
  | .hbm, ⟨26, _⟩ => ⟨S2x256x64, .bf16⟩
  | .hbm, ⟨27, _⟩ => ⟨S4x1024x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x256, .bf16⟩
  | .local _ .vmem, ⟨7, _⟩ => ⟨S1x2048x256, .bf16⟩
  | .local _ .vmem, ⟨8, _⟩ => ⟨S1x256x64, .bf16⟩
  | .local _ .vmem, ⟨9, _⟩ => ⟨S1x256x64, .bf16⟩
  | .local _ .vmem, ⟨10, _⟩ => ⟨S1x1024x64, .f32⟩
  | .local _ .vmem, ⟨11, _⟩ => ⟨S1x1024x64, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RowsRefIdeal.lean ====
abbrev S16384x256 : Shape := ⟨2, ![16384, 256]⟩
abbrev S32x64 : Shape := ⟨2, ![32, 64]⟩
abbrev S2048x256 : Shape := ⟨2, ![2048, 256]⟩
abbrev S256x64 : Shape := ⟨2, ![256, 64]⟩
abbrev S_ : Shape := ⟨0, ![]⟩
abbrev S16400x256 : Shape := ⟨2, ![16400, 256]⟩
abbrev S16400x128 : Shape := ⟨2, ![16400, 128]⟩
abbrev S16400x2x64 : Shape := ⟨3, ![16400, 2, 64]⟩
abbrev S1024 : Shape := ⟨1, ![1024]⟩
abbrev S1024x1 : Shape := ⟨2, ![1024, 1]⟩
abbrev S32 : Shape := ⟨1, ![32]⟩
abbrev S1x32 : Shape := ⟨2, ![1, 32]⟩
abbrev S1024x32 : Shape := ⟨2, ![1024, 32]⟩
abbrev S1024x32x1 : Shape := ⟨3, ![1024, 32, 1]⟩
abbrev S1024x32x2x64 : Shape := ⟨4, ![1024, 32, 2, 64]⟩
abbrev S32x1x64 : Shape := ⟨3, ![32, 1, 64]⟩
abbrev S1x32x1x64 : Shape := ⟨4, ![1, 32, 1, 64]⟩
abbrev S2x1024x32x64 : Shape := ⟨4, ![2, 1024, 32, 64]⟩
abbrev S2x1024x2048 : Shape := ⟨3, ![2, 1024, 2048]⟩
abbrev S2x1024x256 : Shape := ⟨3, ![2, 1024, 256]⟩
abbrev S2x1024x64 : Shape := ⟨3, ![2, 1024, 64]⟩
abbrev S4x1024x64 : Shape := ⟨3, ![4, 1024, 64]⟩

abbrev nBuf : Space → Nat
  | .hbm => 87
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S32x64, .f32⟩
  | .hbm, ⟨2, _⟩ => ⟨S32x64, .f32⟩
  | .hbm, ⟨3, _⟩ => ⟨S2048x256, .f32⟩
  | .hbm, ⟨4, _⟩ => ⟨S256x64, .f32⟩
  | .hbm, ⟨5, _⟩ => ⟨S2048x256, .f32⟩
  | .hbm, ⟨6, _⟩ => ⟨S256x64, .f32⟩
  | .hbm, ⟨7, _⟩ => ⟨S_, .i32⟩
  | .hbm, ⟨8, _⟩ => ⟨S_, .f32⟩
  | .hbm, ⟨9, _⟩ => ⟨S16400x256, .f32⟩
  | .hbm, ⟨10, _⟩ => ⟨S16400x128, .f32⟩
  | .hbm, ⟨11, _⟩ => ⟨S16400x2x64, .f32⟩
  | .hbm, ⟨12, _⟩ => ⟨S16400x128, .f32⟩
  | .hbm, ⟨13, _⟩ => ⟨S16400x2x64, .f32⟩
  | .hbm, ⟨14, _⟩ => ⟨S1024, .i32⟩
  | .hbm, ⟨15, _⟩ => ⟨S1024x1, .i32⟩
  | .hbm, ⟨16, _⟩ => ⟨S_, .i32⟩
  | .hbm, ⟨17, _⟩ => ⟨S1024x1, .i32⟩
  | .hbm, ⟨18, _⟩ => ⟨S1024x1, .i32⟩
  | .hbm, ⟨19, _⟩ => ⟨S32, .i32⟩
  | .hbm, ⟨20, _⟩ => ⟨S1x32, .i32⟩
  | .hbm, ⟨21, _⟩ => ⟨S1024x32, .i32⟩
  | .hbm, ⟨22, _⟩ => ⟨S1024x32, .i32⟩
  | .hbm, ⟨23, _⟩ => ⟨S1024x32, .i32⟩
  | .hbm, ⟨24, _⟩ => ⟨S_, .i32⟩
  | .hbm, ⟨25, _⟩ => ⟨S1024x32, .i32⟩
  | .hbm, ⟨26, _⟩ => ⟨S1024x32, .i1⟩
  | .hbm, ⟨27, _⟩ => ⟨S_, .i32⟩
  | .hbm, ⟨28, _⟩ => ⟨S1024x32, .i32⟩
  | .hbm, ⟨29, _⟩ => ⟨S1024x32, .i32⟩
  | .hbm, ⟨30, _⟩ => ⟨S1024x32, .i32⟩
  | .hbm, ⟨31, _⟩ => ⟨S1024x32x1, .i32⟩
  | .hbm, ⟨32, _⟩ => ⟨S1024x32x2x64, .f32⟩
  | .hbm, ⟨33, _⟩ => ⟨S32x1x64, .f32⟩
  | .hbm, ⟨34, _⟩ => ⟨S1x32x1x64, .f32⟩
  | .hbm, ⟨35, _⟩ => ⟨S1024x32x2x64, .f32⟩
  | .hbm, ⟨36, _⟩ => ⟨S1024x32x2x64, .f32⟩
  | .hbm, ⟨37, _⟩ => ⟨S2x1024x32x64, .f32⟩
  | .hbm, ⟨38, _⟩ => ⟨S2x1024x2048, .f32⟩
  | .hbm, ⟨39, _⟩ => ⟨S2x1024x256, .f32⟩
  | .hbm, ⟨40, _⟩ => ⟨S2x1024x256, .f32⟩
  | .hbm, ⟨41, _⟩ => ⟨S2x1024x256, .f32⟩
  | .hbm, ⟨42, _⟩ => ⟨S_, .f32⟩
  | .hbm, ⟨43, _⟩ => ⟨S2x1024x256, .f32⟩
  | .hbm, ⟨44, _⟩ => ⟨S2x1024x256, .f32⟩
  | .hbm, ⟨45, _⟩ => ⟨S_, .f32⟩
  | .hbm, ⟨46, _⟩ => ⟨S2x1024x256, .f32⟩
  | .hbm, ⟨47, _⟩ => ⟨S2x1024x256, .f32⟩
  | .hbm, ⟨48, _⟩ => ⟨S2x1024x256, .f32⟩
  | .hbm, ⟨49, _⟩ => ⟨S2x1024x64, .f32⟩
  | .hbm, ⟨50, _⟩ => ⟨S1024, .i32⟩
  | .hbm, ⟨51, _⟩ => ⟨S1024x1, .i32⟩
  | .hbm, ⟨52, _⟩ => ⟨S_, .i32⟩
  | .hbm, ⟨53, _⟩ => ⟨S1024x1, .i32⟩
  | .hbm, ⟨54, _⟩ => ⟨S1024x1, .i32⟩
  | .hbm, ⟨55, _⟩ => ⟨S32, .i32⟩
  | .hbm, ⟨56, _⟩ => ⟨S1x32, .i32⟩
  | .hbm, ⟨57, _⟩ => ⟨S1024x32, .i32⟩
  | .hbm, ⟨58, _⟩ => ⟨S1024x32, .i32⟩
  | .hbm, ⟨59, _⟩ => ⟨S1024x32, .i32⟩
  | .hbm, ⟨60, _⟩ => ⟨S_, .i32⟩
  | .hbm, ⟨61, _⟩ => ⟨S1024x32, .i32⟩
  | .hbm, ⟨62, _⟩ => ⟨S1024x32, .i1⟩
  | .hbm, ⟨63, _⟩ => ⟨S_, .i32⟩
  | .hbm, ⟨64, _⟩ => ⟨S1024x32, .i32⟩
  | .hbm, ⟨65, _⟩ => ⟨S1024x32, .i32⟩
  | .hbm, ⟨66, _⟩ => ⟨S1024x32, .i32⟩
  | .hbm, ⟨67, _⟩ => ⟨S1024x32x1, .i32⟩
  | .hbm, ⟨68, _⟩ => ⟨S1024x32x2x64, .f32⟩
  | .hbm, ⟨69, _⟩ => ⟨S32x1x64, .f32⟩
  | .hbm, ⟨70, _⟩ => ⟨S1x32x1x64, .f32⟩
  | .hbm, ⟨71, _⟩ => ⟨S1024x32x2x64, .f32⟩
  | .hbm, ⟨72, _⟩ => ⟨S1024x32x2x64, .f32⟩
  | .hbm, ⟨73, _⟩ => ⟨S2x1024x32x64, .f32⟩
  | .hbm, ⟨74, _⟩ => ⟨S2x1024x2048, .f32⟩
  | .hbm, ⟨75, _⟩ => ⟨S2x1024x256, .f32⟩
  | .hbm, ⟨76, _⟩ => ⟨S2x1024x256, .f32⟩
  | .hbm, ⟨77, _⟩ => ⟨S2x1024x256, .f32⟩
  | .hbm, ⟨78, _⟩ => ⟨S_, .f32⟩
  | .hbm, ⟨79, _⟩ => ⟨S2x1024x256, .f32⟩
  | .hbm, ⟨80, _⟩ => ⟨S2x1024x256, .f32⟩
  | .hbm, ⟨81, _⟩ => ⟨S_, .f32⟩
  | .hbm, ⟨82, _⟩ => ⟨S2x1024x256, .f32⟩
  | .hbm, ⟨83, _⟩ => ⟨S2x1024x256, .f32⟩
  | .hbm, ⟨84, _⟩ => ⟨S2x1024x256, .f32⟩
  | .hbm, ⟨85, _⟩ => ⟨S2x1024x64, .f32⟩
  | .hbm, ⟨86, _⟩ => ⟨S4x1024x64, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_4 : Ref sig .tc := ⟨.hbm, 60, rfl⟩
abbrev main_v39 : Ref sig .tc := ⟨.hbm, 61, rfl⟩
abbrev main_v40 : Ref sig .tc := ⟨.hbm, 62, rfl⟩
abbrev main_c_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call2_v0 : Ref sig .tc := ⟨.hbm, 76, rfl⟩
abbrev main_call2_v1 : Ref sig .tc := ⟨.hbm, 77, rfl⟩
abbrev main_call2_cst : Ref sig .tc := ⟨.hbm, 78, rfl⟩
abbrev main_call2_v2 : Ref sig .tc := ⟨.hbm, 79, rfl⟩
abbrev main_call2_v3 : Ref sig .tc := ⟨.hbm, 80, rfl⟩
abbrev main_call2_cst_0 : Ref sig .tc := ⟨.hbm, 81, rfl⟩
abbrev main_call2_v4 : Ref sig .tc := ⟨.hbm, 82, rfl⟩
abbrev main_call2_v5 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩

abbrev nD : Nat := 1
abbrev τ : Topo := Topo.v7x

variable {F : FTy → Type} [FloatOps F]
-- ==== Proof.SbIdeal.Setup.lean ====
/-
  The launch set-up of the stick-breaking attention kernel: what the arrays hold when the kernel starts, the blocks its
  windows stage, the memrefs a grid point works on, and the two accumulators it keeps between instructions.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the kernel starts: after the host operations that build the triangle of ones. -/
abbrev V (c : Dev nD) (b : Ref sig .tc) : Buf (Elt F) ((c : Thread nD τ).loc b) := StableHlo.after hostOps0 (fun b => m (c, b)) b

/-- None of those host operations draws fresh values. -/
theorem hostOps0_fresh : (hostOps0 : List (HloOp τ sig (Elt F))).Forall fun op => op.fresh = ∅ := by
  simp only [List.Forall]; repeat' constructor

set_option maxHeartbeats 800000 in
/-- The program is the host operations followed by the kernel. -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- A buffer that no host operation writes is as launched when the kernel starts. -/
theorem V_kept (c : Dev nD) (b : Ref sig .tc)
    (h : b ≠ main_v0 ∧ b ≠ main_v1 ∧ b ≠ main_v2 ∧ b ≠ main_v3 ∧ b ≠ main_v4 ∧ b ≠ main_v5 ∧ b ≠ main_v6 ∧ b ≠ main_v7) :
    V m c b = m ((c : Thread nD τ).loc b) := by
  obtain ⟨h0, h1, h2, h3, h4, h5, h6, h7⟩ := h
  exact StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by assumption)))

/-- The queries are as launched when the kernel starts. -/
theorem V_main_arg0 (c : Dev nD) : V m c main_arg0 = m ((c : Thread nD τ).loc main_arg0) := V_kept m c _ (by decide)
/-- The keys are as launched when the kernel starts. -/
theorem V_main_arg1 (c : Dev nD) : V m c main_arg1 = m ((c : Thread nD τ).loc main_arg1) := V_kept m c _ (by decide)
/-- The values are as launched when the kernel starts. -/
theorem V_main_arg2 (c : Dev nD) : V m c main_arg2 = m ((c : Thread nD τ).loc main_arg2) := V_kept m c _ (by decide)

/-- Window `w`'s block at point `t`, read off its array as the kernel finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The queries' staging buffer holds its block at every point. -/
theorem before0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The keys' staging buffer holds its block at every point. -/
theorem before1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The values' staging buffer holds its block at every point. -/
theorem before2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The triangle's staging buffer holds its block at every point. -/
theorem before3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- A run that leaves every window's array at what the proof data compute leaves the three argument arrays unchanged. -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c)))⟩) h

/-- The memrefs of the queries, keys, values, triangle and output that point `t` works on. -/
abbrev msQ (t : Fin (cfg0 (F := F)).N) : Memref sig .tc .vmem S1x256x64 .bf16 := win0_0.stage ((cfg0 (F := F)).slots t 0)
abbrev msK (t : Fin (cfg0 (F := F)).N) : Memref sig .tc .vmem S1x16384x64 .bf16 := win0_1.stage ((cfg0 (F := F)).slots t 1)
abbrev msV (t : Fin (cfg0 (F := F)).N) : Memref sig .tc .vmem S1x16384x64 .bf16 := win0_2.stage ((cfg0 (F := F)).slots t 2)
abbrev msT (t : Fin (cfg0 (F := F)).N) : Memref sig .tc .vmem S256x256 .bf16 := win0_3.stage ((cfg0 (F := F)).slots t 3)
abbrev msO (t : Fin (cfg0 (F := F)).N) : Memref sig .tc .vmem S1x256x64 .f32 := win0_4.stage ((cfg0 (F := F)).slots t 4)
/-- The two accumulators: the running logarithm a row carries, and the running output rows. -/
abbrev scC : Memref sig .tc .vmem S256x1 .f32 := Memref.whole cc0_scratch0
abbrev scA : Memref sig .tc .vmem S256x64 .f32 := Memref.whole cc0_scratch1

/-- The kernel's own state between points: the two accumulators at some contents, and the generator register. -/
theorem PhiA0_eq (c : Dev nD) :
    (Pipeline.ΦA spec0 c : sProp 𝕄)
      = iprop(iprop((∃ d, owns (c : Thread nD τ) scC fullShare d) ∗ (∃ d, owns (c : Thread nD τ) scA fullShare d)) ∗ (∃ r, prngReg c r)) := by
  unfold Pipeline.ΦA; rw [scopedRest0_eq]; simp only [scC, scA, owns_whole]; try rfl

end Cert.KernelIdeal.Sb

end
-- ==== Proof.SbIdeal.Body.lean ====
/-
  The kernel body of the stick-breaking attention at one grid point: a load and a store of a whole memref in terms of
  what it holds; the loop over the earlier key tiles, whose effect is the recursion `back`, answered by induction on the
  number of tiles still ahead; and the whole body, which leaves `outBlk` in the output block.
-/
module

public import proofs.«01_k».proof.Proof.SbIdeal.Setup
public import Idealize.ShloMosaic.Lib.LaneScatter.Tiles
public import Idealize.ShloMosaic.Lib.LaneScatter.Own

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop's calls are ordered by the number of key tiles still ahead. -/
abbrev 𝒱₀ : Variants := Variants.nat

/-! ## Loads and stores of a memref held at known contents -/

section Own

variable (c : Dev nD) (bd : Option 𝒱₀.V) (E : Set ℕ)
variable {s : Shape} {e : EltTy} {α : Type}

/-- A load through a rectangle reads that part of what the memref holds. -/
theorem own_load {M : Memref sig .tc .vmem s e} {r : Rect s} {hl : M.view.LoadsAt r.toLoadRect} {X : s.Idx → Elt F e}
    {k : (r.shape.Idx → Elt F e) → Prog (TpuEff nD τ sig (Elt F) (Λ₀ F) .tc) α} {Q : α → sProp 𝕄} :
    owns (c : Thread nD τ) M fullShare X
      ⊢ iprop((owns (c : Thread nD τ) M fullShare X -∗ wp frame (wpE (defs₀ (F := F)) 𝒱₀ (c : Thread nD τ) bd) E (k (View.ld X r)) Q)
        -∗ wp frame (wpE (defs₀ (F := F)) 𝒱₀ (c : Thread nD τ) bd) E (.op (.load M r.toLoadRect hl) k) Q) := by
  unfold owns
  iintro ⟨%f, %hf, H⟩ Hk
  subst hf
  iapply (wp_load 𝒱₀ (c : Thread nD τ) bd E (m := M) (r := r.toLoadRect) (View.setOn_subset_set _ _)) $$ H
  iintro H
  iapply Hk
  iexists f; isplitr; · (ipureintro; rfl)
  iexact H

/-- A load of the whole memref reads all it holds. -/
theorem own_load_whole {M : Memref sig .tc .vmem s e} {off : Fin s.rank → ℕ} {inb : ∀ a, off a + s.size a ≤ s.size a}
    (h0 : off = fun _ => 0) {hl : M.view.LoadsAt (Rect.unit (s := s) off s.size inb).toLoadRect} {X : s.Idx → Elt F e}
    {k : (s.Idx → Elt F e) → Prog (TpuEff nD τ sig (Elt F) (Λ₀ F) .tc) α} {Q : α → sProp 𝕄} :
    owns (c : Thread nD τ) M fullShare X
      ⊢ iprop((owns (c : Thread nD τ) M fullShare X -∗ wp frame (wpE (defs₀ (F := F)) 𝒱₀ (c : Thread nD τ) bd) E (k X) Q)
        -∗ wp frame (wpE (defs₀ (F := F)) 𝒱₀ (c : Thread nD τ) bd) E (.op (.load M (Rect.unit (s := s) off s.size inb).toLoadRect hl) k) Q) := by
  have h := own_load (F := F) c bd E (M := M) (r := Rect.unit (s := s) off s.size inb) (hl := hl) (X := X) (k := k) (Q := Q)
  rw [View.ld_unit_zero h0] at h
  exact h

/-- A store of the whole memref leaves it at the stored payload. -/
theorem own_store_whole {M : Memref sig .tc .vmem s e} {off : Fin s.rank → ℕ} {inb : ∀ a, off a + s.size a ≤ s.size a}
    (h0 : off = fun _ => 0) {w : s.Idx → Elt F e} {hx : (M.access (Rect.unit (s := s) off s.size inb)).Stores Finset.univ}
    {hm : (Finset.univ : Finset (Rect.unit (s := s) off s.size inb).shape.Idx) = Finset.univ ∨ ∀ a, (Rect.unit (s := s) off s.size inb).stride a = 1}
    {X : s.Idx → Elt F e} {k : PUnit → Prog (TpuEff nD τ sig (Elt F) (Λ₀ F) .tc) α} {Q : α → sProp 𝕄} :
    owns (c : Thread nD τ) M fullShare X
      ⊢ iprop((owns (c : Thread nD τ) M fullShare w -∗ wp frame (wpE (defs₀ (F := F)) 𝒱₀ (c : Thread nD τ) bd) E (k ⟨⟩) Q)
        -∗ wp frame (wpE (defs₀ (F := F)) 𝒱₀ (c : Thread nD τ) bd) E (.op (.store M (Rect.unit (s := s) off s.size inb) w Finset.univ hx hm) k) Q) := by
  unfold owns
  iintro ⟨%f, %hf, H⟩ Hk
  iapply (wp_store 𝒱₀ (c : Thread nD τ) bd E (m := M) (r := Rect.unit (s := s) off s.size inb) (w := w) (Mk := Finset.univ)
    (S := M.view.set) (View.set_slice_subset _ _)) $$ H
  iintro H
  iapply Hk
  iexists _; isplitr; swap; · iexact H
  ipureintro
  exact LaneScatter.read_whole_store M.view f (fun a => congrFun h0 a) inb w

end Own

/-! ## The loop over the earlier key tiles -/

/-- The loop's counter with `n` tiles still ahead: the word of `n - 1`. -/
abbrev ahead (n : ℕ) : BitVec 32 := Scalar.subi (BitVec.ofNat 32 n) 1#32

/-- With no tile ahead the counter is below zero, so the loop's test on it fails. -/
theorem ahead_zero : Scalar.cmpi .sge (ahead 0) 0#32 = 0#1 := by decide

/-- With a tile ahead the counter is that tile's number. -/
theorem ahead_succ : ∀ n < 64, ahead (n + 1) = BitVec.ofNat 32 n := by decide +kernel

/-- A tile's number passes the loop's test. -/
theorem sge_zero : ∀ n < 64, Scalar.cmpi .sge (BitVec.ofNat 32 n) 0#32 = 1#1 := by decide +kernel

/-- A tile's number names rows inside the keys and the values. -/
theorem chk_of_lt : ∀ n < 64, k0_chk1 (BitVec.ofNat 32 n) := by decide +kernel

/-- Key or value tile number `n`. -/
def tileAt (X : Vec F S1x16384x64 .bf16) (n : ℕ) (h : n < 64) : Vec F S1x256x64 .bf16 :=
  View.ld X (Rect.unit (s := S1x16384x64) (k0_off2 (BitVec.ofNat 32 n)) S1x256x64.size (k0_off2_inb (BitVec.ofNat 32 n) (chk_of_lt n h)))

/-- Whether the loop goes on with the carried logarithms at `C`: one of them is above the exit threshold. -/
abbrev goesOn (C : Vec F S256x1 .f32) : BitVec 1 := Scalar.cmpf .ogt (k0_pay1 C) (Named.named κ "sb_exit" 0xC2D00000#32)

/-- The two accumulators after the loop, `n` tiles still ahead: nearest tile first, as long as the loop goes on. -/
def back (v1 : FVec F S256x64 .bf16) (v3 : FVec F S256x256 .bf16) (X3 X4 : Vec F S1x16384x64 .bf16) :
    (n : ℕ) → n ≤ 64 → Vec F S256x1 .f32 → Vec F S256x64 .f32 → Vec F S256x1 .f32 × Vec F S256x64 .f32
  | 0, _, C, A => (C, A)
  | n + 1, h, C, A =>
    if goesOn C = 1#1 then
      back v1 v3 X3 X4 n (Nat.le_of_succ_le h) (k0_pay2 (k0_pay16 v1 (tileAt X3 n h)) C)
        (k0_pay17 v1 v3 (tileAt X3 n h) C A (tileAt X4 n h))
    else (C, A)

section Loop

variable (c : Dev nD) (i : grid0.Coords)
  (arg7 : Memref sig .tc .vmem S256x1 .f32) (harg7 : arg7.IsWhole) (arg3 : Memref sig .tc .vmem S1x16384x64 .bf16) (harg3 : arg3.IsWhole)
  (v1 : FVec F S256x64 .bf16) (v3 : FVec F S256x256 .bf16) (arg8 : Memref sig .tc .vmem S256x64 .f32) (harg8 : arg8.IsWhole)
  (arg4 : Memref sig .tc .vmem S1x16384x64 .bf16) (harg4 : arg4.IsWhole) (X3 X4 : Vec F S1x16384x64 .bf16)

/-- What the loop holds: the keys, the values, and the two accumulators at `s`. -/
def held (s : Vec F S256x1 .f32 × Vec F S256x64 .f32) : sProp 𝕄 :=
  iprop(owns (c : Thread nD τ) arg3 fullShare X3 ∗ owns (c : Thread nD τ) arg4 fullShare X4
    ∗ owns (c : Thread nD τ) arg7 fullShare s.1 ∗ owns (c : Thread nD τ) arg8 fullShare s.2)

/-- The loop's specification with `n` tiles ahead: from accumulators `C` and `A` it ends, with some counter, at `back`. -/
def spec (n : ℕ) (hn : n ≤ 64) (C : Vec F S256x1 .f32) (A : Vec F S256x64 .f32) : sWPT 𝕄 (BitVec 32) := do
  sWPT.consume (held c arg7 arg3 arg8 arg4 X3 X4 (C, A))
  let r ← sWPT.arbitrary
  sWPT.produce (held c arg7 arg3 arg8 arg4 X3 X4 (back v1 v3 X3 X4 n hn C A))
  pure r

theorem spec_apply (n : ℕ) (hn : n ≤ 64) (C : Vec F S256x1 .f32) (A : Vec F S256x64 .f32) (K : BitVec 32 → sProp 𝕄) :
    spec c arg7 arg3 v1 v3 arg8 arg4 X3 X4 n hn C A K
      = iprop(held c arg7 arg3 arg8 arg4 X3 X4 (C, A)
        ∗ ∀ r : BitVec 32, (held c arg7 arg3 arg8 arg4 X3 X4 (back v1 v3 X3 X4 n hn C A) -∗ K r)) := rfl

/-- The loop meets its specification, by induction on the number of tiles ahead. With none, its test on the counter fails.
    With one more, the test is whether a carried logarithm is above the threshold. If so it adds the nearest tile to both
    accumulators and goes on with one tile fewer. If not it ends. -/
theorem spec_le (E : Set ℕ) : ∀ (n : ℕ) (hn : n ≤ 64) (C : Vec F S256x1 .f32) (A : Vec F S256x64 .f32) (K : BitVec 32 → sProp 𝕄),
    spec c arg7 arg3 v1 v3 arg8 arg4 X3 X4 n hn C A K
      ⊢ wp frame (wpE (defs₀ (F := F)) 𝒱₀ (c : Thread nD τ) (some n)) E
          (defs₀ (F := F) .tc 1 ⟨i, arg7, harg7, arg3, harg3, v1, v3, arg8, harg8, arg4, harg4, ahead n⟩) K := by
  intro n
  induction n with
  | zero =>
    intro hn C A K
    rw [spec_apply]
    show _ ⊢ wp frame (wpE (defs₀ (F := F)) 𝒱₀ (c : Thread nD τ) (some 0)) E
      (cc0_while1 i arg7 harg7 arg3 harg3 v1 v3 arg8 harg8 arg4 harg4 (ahead 0)) K
    simp only [cc0_while1_eq_skeleton]; unfold cc0_while1_skel
    have hcond : ∀ b : BitVec 1, ¬ Scalar.andi (0#1) b = 1#1 := by decide
    simp only [ahead_zero, hcond, ↓reduceIte, Prog.lift, Prog.bind_op, Prog.bind_ret, Prog.pure_eq_ret]
    unfold held
    iintro ⟨⟨H3, H4, H7, H8⟩, Hk⟩
    iapply (own_load_whole c (some 0) E (funext fun a => by fin_cases a <;> rfl)) $$ H7; iintro H7
    rw [wp_ret]; imodintro
    iapply Hk
    simp only [back]
    isplitl [H3]; · iexact H3
    isplitl [H4]; · iexact H4
    isplitl [H7]; · iexact H7
    iexact H8
  | succ n ih =>
    intro hn C A K
    have hlt : n < 64 := hn
    rw [spec_apply]
    show _ ⊢ wp frame (wpE (defs₀ (F := F)) 𝒱₀ (c : Thread nD τ) (some (n + 1))) E
      (cc0_while1 i arg7 harg7 arg3 harg3 v1 v3 arg8 harg8 arg4 harg4 (ahead (n + 1))) K
    rw [ahead_succ n hlt]
    simp only [cc0_while1_eq_skeleton]; unfold cc0_while1_skel
    simp only [sge_zero n hlt, Prog.lift, Prog.bind_op, Prog.bind_ret, Prog.pure_eq_ret]
    unfold held
    iintro ⟨⟨H3, H4, H7, H8⟩, Hk⟩
    iapply (own_load_whole c (some (n + 1)) E (funext fun a => by fin_cases a <;> rfl)) $$ H7; iintro H7
    by_cases hgo : goesOn C = 1#1
    · have hand : Scalar.andi (1#1) (goesOn C) = 1#1 := by rw [hgo]; decide
      rw [if_pos hand]
      simp only [k0_part3_eq_skeleton]; unfold k0_part3_skel
      simp only [Prog.lift, Prog.bind_op, Prog.bind_ret, Prog.pure_eq_ret]
      iapply (wp_assume 𝒱₀ (c : Thread nD τ) (some (n + 1)) E (chk_of_lt n hlt))
      iapply (own_load c (some (n + 1)) E) $$ H3; iintro H3
      iapply (own_load_whole c (some (n + 1)) E (funext fun a => by fin_cases a <;> rfl)) $$ H7; iintro H7
      iapply (own_load_whole c (some (n + 1)) E (funext fun a => by fin_cases a <;> rfl)) $$ H8; iintro H8
      iapply (own_load c (some (n + 1)) E) $$ H4; iintro H4
      iapply (own_load_whole c (some (n + 1)) E (funext fun a => by fin_cases a <;> rfl)) $$ H8; iintro H8
      iapply (own_store_whole c (some (n + 1)) E (funext fun a => by fin_cases a <;> rfl)) $$ H8; iintro H8
      iapply (own_load_whole c (some (n + 1)) E (funext fun a => by fin_cases a <;> rfl)) $$ H7; iintro H7
      iapply (own_load_whole c (some (n + 1)) E (funext fun a => by fin_cases a <;> rfl)) $$ H7; iintro H7
      iapply (own_store_whole c (some (n + 1)) E (funext fun a => by fin_cases a <;> rfl)) $$ H7; iintro H7
      iapply (wp_call_spec 𝒱₀ (c : Thread nD τ) (some (n + 1)) E
        (spec c arg7 arg3 v1 v3 arg8 arg4 X3 X4 n (Nat.le_of_succ_le hn) (k0_pay2 (k0_pay16 v1 (tileAt X3 n hlt)) C)
          (k0_pay17 v1 v3 (tileAt X3 n hlt) C A (tileAt X4 n hlt))) n
        (fun u hu => by cases hu; exact Nat.lt_succ_self n)
        (ih (Nat.le_of_succ_le hn) _ _))
      rw [spec_apply]; unfold held
      isplitl [H3 H4 H7 H8]
      · isplitl [H3]; · iexact H3
        isplitl [H4]; · iexact H4
        isplitl [H7]; · iexact H7
        iexact H8
      iintro %r ⟨H3, H4, H7, H8⟩
      rw [wp_ret]; imodintro
      iapply Hk
      rw [back, if_pos hgo]
      isplitl [H3]; · iexact H3
      isplitl [H4]; · iexact H4
      isplitl [H7]; · iexact H7
      iexact H8
    · have hand : ¬ Scalar.andi (1#1) (goesOn C) = 1#1 := by
        intro h; apply hgo; revert h; generalize goesOn C = b; revert b; decide
      rw [if_neg hand]
      rw [wp_ret]; imodintro
      iapply Hk
      rw [back, if_neg hgo]
      isplitl [H3]; · iexact H3
      isplitl [H4]; · iexact H4
      isplitl [H7]; · iexact H7
      iexact H8

end Loop

/-! ## The body -/

/-- The key or value tile on the diagonal. -/
def tileDiag (i : grid0.Coords) (X : Vec F S1x16384x64 .bf16) : Vec F S1x256x64 .bf16 :=
  View.ld X (Rect.unit (s := S1x16384x64) (k0_off1 i) S1x256x64.size (k0_off1_inb i))

/-- The carried logarithms after the diagonal tile. -/
def diagC (i : grid0.Coords) (x0 : Vec F S1x256x64 .bf16) (x1 : Vec F S1x16384x64 .bf16) : Vec F S256x1 .f32 :=
  k0_pay13 (k0_pay9 x0 (tileDiag i x1)) k0_pay5

/-- The output rows after the diagonal tile. -/
def diagA (i : grid0.Coords) (x0 : Vec F S1x256x64 .bf16) (x1 x2 : Vec F S1x16384x64 .bf16) (x3 : Vec F S256x256 .bf16) : Vec F S256x64 .f32 :=
  k0_pay12 (k0_pay4 x3) (k0_pay7 x0 (tileDiag i x1)) k0_pay8 (k0_pay9 x0 (tileDiag i x1)) (k0_pay10 x0 (tileDiag i x1))
    (k0_pay11 x0 (tileDiag i x1)) k0_pay5 k0_pay6 (tileDiag i x2)

/-- What the body leaves in the output block: the output rows after the diagonal tile and the loop over the earlier ones. -/
def outBlk (i : grid0.Coords) (x0 : Vec F S1x256x64 .bf16) (x1 x2 : Vec F S1x16384x64 .bf16) (x3 : Vec F S256x256 .bf16) : Vec F S1x256x64 .f32 :=
  k0_pay14 (back (k0_pay3 x0) (k0_pay4 x3) x1 x2 (i 1).val (Nat.le_of_lt (i 1).isLt) (diagC i x0 x1) (diagA i x0 x1 x2 x3)).2

/-- THE BODY on whole memrefs at known contents: it gives the inputs back as they were, the output block at `outBlk`, and
    the two accumulators at something. -/
theorem body_run (c : Dev nD) (i : grid0.Coords)
    (arg2 : Memref sig .tc .vmem S1x256x64 .bf16) (harg2 : arg2.IsWhole) (arg3 : Memref sig .tc .vmem S1x16384x64 .bf16) (harg3 : arg3.IsWhole)
    (arg4 : Memref sig .tc .vmem S1x16384x64 .bf16) (harg4 : arg4.IsWhole) (arg5 : Memref sig .tc .vmem S256x256 .bf16) (harg5 : arg5.IsWhole)
    (arg6 : Memref sig .tc .vmem S1x256x64 .f32) (harg6 : arg6.IsWhole) (arg7 : Memref sig .tc .vmem S256x1 .f32) (harg7 : arg7.IsWhole)
    (arg8 : Memref sig .tc .vmem S256x64 .f32) (harg8 : arg8.IsWhole)
    (x0 : Vec F S1x256x64 .bf16) (x1 x2 : Vec F S1x16384x64 .bf16) (x3 : Vec F S256x256 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare (outBlk i x0 x1 x2 x3)
          ∗ (∃ d, owns (c : Thread nD τ) arg7 fullShare d) ∗ (∃ d, owns (c : Thread nD τ) arg8 fullShare d)) -∗ K ⟨⟩))
      ⊢ wp frame (wpE (defs₀ (F := F)) 𝒱₀ (c : Thread nD τ) none) Set.univ
          (cc0_sb_attn i arg2 harg2 arg3 harg3 arg4 harg4 arg5 harg5 arg6 harg6 arg7 harg7 arg8 harg8) K := by
  simp only [cc0_sb_attn_eq_skeleton]; unfold cc0_sb_attn_skel
  simp only [k0_part1_eq_skeleton, k0_part2_eq_skeleton]; unfold k0_part1_skel k0_part2_skel
  simp only [Prog.lift, Prog.bind_op, Prog.bind_ret, Prog.pure_eq_ret]
  iintro ⟨H2, H3, H4, H5, ⟨%d6, H6⟩, ⟨%d7, H7⟩, ⟨%d8, H8⟩, Hk⟩
  iapply (own_load_whole c none Set.univ (funext fun a => by fin_cases a <;> rfl)) $$ H2; iintro H2
  iapply (own_load_whole c none Set.univ (funext fun a => by fin_cases a <;> rfl)) $$ H5; iintro H5
  iapply (own_load_whole c none Set.univ (funext fun a => by fin_cases a <;> rfl)) $$ H7; iintro H7
  iapply (own_store_whole c none Set.univ (funext fun a => by fin_cases a <;> rfl)) $$ H7; iintro H7
  iapply (own_load_whole c none Set.univ (funext fun a => by fin_cases a <;> rfl)) $$ H8; iintro H8
  iapply (own_store_whole c none Set.univ (funext fun a => by fin_cases a <;> rfl)) $$ H8; iintro H8
  iapply (own_load c none Set.univ) $$ H3; iintro H3
  iapply (own_load_whole c none Set.univ (funext fun a => by fin_cases a <;> rfl)) $$ H7; iintro H7
  iapply (own_load_whole c none Set.univ (funext fun a => by fin_cases a <;> rfl)) $$ H8; iintro H8
  iapply (own_load c none Set.univ) $$ H4; iintro H4
  iapply (own_load_whole c none Set.univ (funext fun a => by fin_cases a <;> rfl)) $$ H8; iintro H8
  iapply (own_store_whole c none Set.univ (funext fun a => by fin_cases a <;> rfl)) $$ H8; iintro H8
  iapply (own_load_whole c none Set.univ (funext fun a => by fin_cases a <;> rfl)) $$ H7; iintro H7
  iapply (own_load_whole c none Set.univ (funext fun a => by fin_cases a <;> rfl)) $$ H7; iintro H7
  iapply (own_store_whole c none Set.univ (funext fun a => by fin_cases a <;> rfl)) $$ H7; iintro H7
  iapply (wp_call_spec 𝒱₀ (c : Thread nD τ) none Set.univ
    (spec c arg7 arg3 (k0_pay3 x0) (k0_pay4 x3) arg8 arg4 x1 x2 (i 1).val (Nat.le_of_lt (i 1).isLt) (diagC i x0 x1) (diagA i x0 x1 x2 x3))
    (i 1).val (fun u hu => nomatch hu)
    (spec_le c i arg7 harg7 arg3 harg3 (k0_pay3 x0) (k0_pay4 x3) arg8 harg8 arg4 harg4 x1 x2 Set.univ (i 1).val (Nat.le_of_lt (i 1).isLt) _ _))
  rw [spec_apply]; unfold held
  isplitl [H3 H4 H7 H8]
  · isplitl [H3]; · iexact H3
    isplitl [H4]; · iexact H4
    isplitl [H7]; · iexact H7
    iexact H8
  iintro %r ⟨H3, H4, H7, H8⟩
  iapply (own_load_whole c none Set.univ (funext fun a => by fin_cases a <;> rfl)) $$ H8; iintro H8
  iapply (own_load_whole c none Set.univ (funext fun a => by fin_cases a <;> rfl)) $$ H6; iintro H6
  iapply (own_store_whole c none Set.univ (funext fun a => by fin_cases a <;> rfl)) $$ H6; iintro H6
  rw [wp_ret]; imodintro
  iapply Hk
  isplitl [H2]; · iexact H2
  isplitl [H3]; · iexact H3
  isplitl [H4]; · iexact H4
  isplitl [H5]; · iexact H5
  isplitl [H6]; · iexact H6
  isplitl [H7]; · (iexists _; iexact H7)
  iexists _; iexact H8

end Cert.KernelIdeal.Sb

end
-- ==== Proof.SbIdeal.Run.lean ====
/-
  The run of the stick-breaking attention kernel: what its proof data say each point leaves, the body obligation, the
  launch, and the frame (the arguments unchanged, every semaphore at zero).
-/
module

public import proofs.«01_k».proof.Proof.SbIdeal.Body
public import Idealize.ShloMosaic.Lib.Claim

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in the output block at point `t`. -/
def outAt (c : Dev nD) (t : Fin (cfg0 (F := F)).N) : Vec F S1x256x64 .f32 :=
  outBlk (grid0.coords t) (iblk m c 0 t) (iblk m c 1 t) (iblk m c 2 t) (iblk m c 3 t)

/-- The proof data on core `c`: the arrays as the kernel finds them, each input block left as it was, the output block at
    `outAt`, the kernel's own state kept at anything, nothing owed, full shares. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

/-- The proof data's arrays are the ones the kernel finds. -/
theorem A_eq (c : Dev nD) (w : Fin (cfg0 (F := F)).W) : (dats m 0 c).A w = V m c (Pipeline.arrRef spec0 w) := by
  dsimp only [dats]

/-- What the body leaves, window by window. -/
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = outAt m c t := by dsimp only [dats]; rfl

/-- What the body finds in the inputs' staging buffers: their blocks. -/
theorem before0_0 (c : Dev nD) (t : Fin (cfg0 (F := F)).N) (d) : (dats m 0 c).before 0 t d = iblk m c 0 t :=
  before0_of m (dats m 0 c) (A_eq m c 0) (after0_0 m c) t d
theorem before0_1 (c : Dev nD) (t : Fin (cfg0 (F := F)).N) (d) : (dats m 0 c).before 1 t d = iblk m c 1 t :=
  before1_of m (dats m 0 c) (A_eq m c 1) (after0_1 m c) t d
theorem before0_2 (c : Dev nD) (t : Fin (cfg0 (F := F)).N) (d) : (dats m 0 c).before 2 t d = iblk m c 2 t :=
  before2_of m (dats m 0 c) (A_eq m c 2) (after0_2 m c) t d
theorem before0_3 (c : Dev nD) (t : Fin (cfg0 (F := F)).N) (d) : (dats m 0 c).before 3 t d = iblk m c 3 t :=
  before3_of m (dats m 0 c) (A_eq m c 3) (after0_3 m c) t d

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (msQ t) fullShare ((dats m 0 c).before 0 t d))
    ∗ (∃ d, owns (c : Thread nD τ) (msK t) fullShare ((dats m 0 c).before 1 t d))
    ∗ (∃ d, owns (c : Thread nD τ) (msV t) fullShare ((dats m 0 c).before 2 t d))
    ∗ (∃ d, owns (c : Thread nD τ) (msT t) fullShare ((dats m 0 c).before 3 t d))
    ∗ (∃ d, owns (c : Thread nD τ) (msO t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (msQ t) fullShare ((dats m 0 c).after 0 t)
    ∗ owns (c : Thread nD τ) (msK t) fullShare ((dats m 0 c).after 1 t)
    ∗ owns (c : Thread nD τ) (msV t) fullShare ((dats m 0 c).after 2 t)
    ∗ owns (c : Thread nD τ) (msT t) fullShare ((dats m 0 c).after 3 t)
    ∗ owns (c : Thread nD τ) (msO t) fullShare ((dats m 0 c).after 4 t))

/-- The body takes the one to the other at every point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outAt
  iintro ⟨⟨⟨HS0, HS1⟩, Hg⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ (iblk m c 0 t) (iblk m c 1 t) (iblk m c 2 t) (iblk m c 3 t))
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body obligation at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- THE LAUNCH: from any memory with zero counters every execution ends, with the arrays as the proof data compute them and
    every semaphore counter at zero. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame (Q' := _) (cfgs (F := F)) (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The same without the counters. -/
theorem run_main : θ_run defs (onTc (τ := τ) (main (F := F))) (s₀ m ρ) (Pipeline.FramePost (cfgs (F := F)) (dats m) 0 (V m)) :=
  (θ_run defs _ _).mono (fun _ h => h.1) (run_main_quiescent m ρ)

/-- THE FRAME: every execution ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Sb

end
-- ==== Proof.SbValue.Row.lean ====
/-
  One query row of stick-breaking attention, over the reals: the logarithm of 1 − β at a score, the sum of those over the
  columns between a key and its query, the weighted values, and the sums a tile of 256 columns adds to each.
-/
module

public import Idealize.ShloMosaic.Lib.Pointwise

@[expose] public section

set_option maxRecDepth 16384

noncomputable section

namespace Cert.Row

open Idealize.ShloMosaic

/-- The logarithm of `1 − β` where `β` is the logistic of the score: minus the softplus of the score. -/
def lnot (r : ℝ) : ℝ := -(max r 0 + Real.log (1 + Real.exp (-|r|)))

/-- The logarithm of `β` is the same function at minus the score: it exceeds the logarithm of `1 − β` by the score. -/
theorem lnot_neg (r : ℝ) : lnot (-r) = lnot r + r := by
  unfold lnot
  rw [abs_neg]
  rcases le_total r 0 with h | h
  · rw [max_eq_right h, max_eq_left (by linarith)]; ring
  · rw [max_eq_left h, max_eq_right (by linarith)]; ring

/-- The maximum with zero, at a real. -/
theorem max_coe (r : ℝ) : max (r : EReal) 0 = ((max r 0 : ℝ) : EReal) := by
  rw [← EReal.coe_zero]; exact (EReal.coe_strictMono.monotone.map_max).symm

/-- The absolute value, at a real. -/
theorem abs_coe (r : ℝ) : max (r : EReal) (-(r : EReal)) = ((|r| : ℝ) : EReal) := by
  rw [← EReal.coe_neg, abs_eq_max_neg]; exact (EReal.coe_strictMono.monotone.map_max).symm

/-- `log1p` of the exponential, at a real. -/
theorem log1p_exp_coe (r : ℝ) : Ideal.log1p (Ideal.exp (r : EReal)) = ((Real.log (1 + Real.exp r) : ℝ) : EReal) := by
  show Ideal.log (1 + ((Real.exp r : ℝ) : EReal)) = _
  rw [← EReal.coe_one, ← EReal.coe_add]
  show (if 1 + Real.exp r ≤ 0 then ⊥ else ((Real.log (1 + Real.exp r) : ℝ) : EReal)) = _
  rw [if_neg (by have := Real.exp_pos r; linarith)]

/-- The kernel's spelling of the logarithm of `1 − β`. -/
theorem kernel_lnot (r : ℝ) :
    (0 : EReal) - (max (r : EReal) 0 + Ideal.log1p (Ideal.exp (0 - max (r : EReal) (-(r : EReal))))) = ((lnot r : ℝ) : EReal) := by
  rw [abs_coe, max_coe, zero_sub, zero_sub, ← EReal.coe_neg, log1p_exp_coe, ← EReal.coe_add, ← EReal.coe_neg]
  rfl

/-- The reference's softplus: a test for a number that is not equal to itself, then the sum or the stable form. -/
def softplus (x : EReal) : EReal :=
  Scalar.select (Ideal.cmp .une (x - 0) (x - 0)) (x + 0) (max x 0 + Ideal.log1p (Ideal.exp (-(max (x - 0) (-(x - 0))))))

/-- The reference's softplus at a real. -/
theorem softplus_coe (r : ℝ) : softplus (r : EReal) = ((-lnot r : ℝ) : EReal) := by
  unfold softplus
  have h : Ideal.cmp .une ((r : EReal) - 0) ((r : EReal) - 0) = 0#1 := by simp [Ideal.cmp]
  rw [h, sub_zero, abs_coe, max_coe, ← EReal.coe_neg, log1p_exp_coe, ← EReal.coe_add]
  unfold lnot
  rw [neg_neg]
  rfl

/-- A sum of reals is the same sum among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ### Sums over the columns of a tile -/

/-- The entries of a tile that stand after `s` and before `t`, `b` columns before the tile. -/
theorem sum_after {M : Type} [AddCommMonoid M] (f : ℕ → M) (b N s t : ℕ) (ht : t ≤ N) :
    ∑ j : Fin N, (if s < j.val ∧ j.val < t then f (b + j.val) else 0) = ∑ j ∈ Finset.Ico (b + s + 1) (b + t), f j := by
  rw [Fin.sum_univ_eq_sum_range (fun j => if s < j ∧ j < t then f (b + j) else 0) N, ← Finset.sum_filter]
  have e : (Finset.range N).filter (fun j => s < j ∧ j < t) = Finset.Ico (s + 1) t := by
    ext j; simp only [Finset.mem_filter, Finset.mem_range, Finset.mem_Ico]; omega
  rw [e, show b + s + 1 = s + 1 + b by omega, show b + t = t + b by omega, ← Finset.sum_Ico_add']
  exact Finset.sum_congr rfl fun j _ => by rw [add_comm]

/-- The entries of a tile before `t`. -/
theorem sum_before {M : Type} [AddCommMonoid M] (f : ℕ → M) (b N t : ℕ) (ht : t ≤ N) :
    ∑ j : Fin N, (if j.val < t then f (b + j.val) else 0) = ∑ j ∈ Finset.Ico b (b + t), f j := by
  rw [Fin.sum_univ_eq_sum_range (fun j => if j < t then f (b + j) else 0) N, ← Finset.sum_filter]
  have e : (Finset.range N).filter (fun j => j < t) = Finset.Ico 0 t := by
    ext j; simp only [Finset.mem_filter, Finset.mem_range, Finset.mem_Ico]; omega
  rw [e, show Finset.Ico b (b + t) = Finset.Ico (0 + b) (t + b) by rw [zero_add, add_comm], ← Finset.sum_Ico_add']
  exact Finset.sum_congr rfl fun j _ => by rw [add_comm]

/-- A whole tile. -/
theorem sum_tile {M : Type} [AddCommMonoid M] (f : ℕ → M) (b N : ℕ) :
    ∑ j : Fin N, f (b + j.val) = ∑ j ∈ Finset.Ico b (b + N), f j := by
  rw [← sum_before f b N N le_rfl]
  exact Finset.sum_congr rfl fun j _ => (if_pos j.isLt).symm

/-! ### A row -/

/-- The logarithms of `1 − β` summed over the columns strictly between `s` and the query `q`. -/
def after (z : ℕ → ℝ) (q s : ℕ) : ℝ := ∑ j ∈ Finset.Ico (s + 1) q, lnot (z j)

/-- The weight of column `s` for the query `q`. -/
def weight (z : ℕ → ℝ) (q s : ℕ) : ℝ := Real.exp (lnot (z s) + z s + after z q s)

/-- What column `s` adds to the query's output: its weight times its value. -/
def term (z : ℕ → ℝ) (v : ℕ → EReal) (q s : ℕ) : EReal := ((weight z q s : ℝ) : EReal) * v s

/-- The query's output: every earlier column's part. -/
def row (z : ℕ → ℝ) (v : ℕ → EReal) (q : ℕ) : EReal := ∑ s ∈ Finset.Ico 0 q, term z v q s

/-- The exponential at a real. -/
theorem exp_coe (r : ℝ) : Ideal.exp (r : EReal) = ((Real.exp r : ℝ) : EReal) := rfl

/-- A real minus itself. -/
theorem coe_sub_self (r : ℝ) : (r : EReal) - (r : EReal) = 0 := by
  rw [← EReal.coe_sub, sub_self, EReal.coe_zero]

/-- The product with the strict lower triangle of ones: the entries after `s`, here of a tile masked to those before `t`. -/
theorem tri_sum (f : ℕ → ℝ) (b t : ℕ) (ht : t ≤ 256) (s : Fin 256) :
    ∑ j : Fin 256, (if j.val < t then ((f (b + j.val) : ℝ) : EReal) else 0) * (if s < j then (1 : EReal) else 0)
      = ((∑ j ∈ Finset.Ico (b + s.val + 1) (b + t), f j : ℝ) : EReal) := by
  rw [coe_sum, ← sum_after (fun j => ((f j : ℝ) : EReal)) b 256 s.val t ht]
  refine Finset.sum_congr rfl fun j _ => ?_
  by_cases h1 : s.val < j.val
  · rw [if_pos (show s < j from h1), mul_one]
    by_cases h2 : j.val < t
    · rw [if_pos h2, if_pos ⟨h1, h2⟩]
    · rw [if_neg h2, if_neg (fun h => h2 h.2)]
  · rw [if_neg (show ¬ s < j from h1), mul_zero, if_neg (fun h => h1 h.1)]

/-- ONE TILE, masked to its columns before `t` (`t = 256`: all of it), for a query `q` whose later columns carry
    `Σ lnot` from the tile's end on: the tile's part of the output is those columns' terms. -/
theorem tile_sum (z : ℕ → ℝ) (v : ℕ → EReal) (b t q : ℕ) (ht : t ≤ 256) (hq : b + t ≤ q) :
    ∑ s : Fin 256, (if s.val < t then
        Ideal.exp (((lnot (z (b + s.val)) : ℝ) : EReal) + ((z (b + s.val) : ℝ) : EReal)
          + (((∑ j ∈ Finset.Ico (b + s.val + 1) (b + t), lnot (z j) : ℝ) : EReal)
            + ((∑ j ∈ Finset.Ico (b + t) q, lnot (z j) : ℝ) : EReal))) * v (b + s.val) else 0)
      = ∑ s ∈ Finset.Ico b (b + t), term z v q s := by
  rw [← sum_before (term z v q) b 256 t ht]
  refine Finset.sum_congr rfl fun s _ => ?_
  by_cases h : s.val < t
  · rw [if_pos h, if_pos h]
    unfold term weight after
    rw [← EReal.coe_add, ← EReal.coe_add, ← EReal.coe_add, exp_coe,
      Finset.sum_Ico_consecutive _ (by omega) hq]
  · rw [if_neg h, if_neg h]

/-! ### The whole layer's heads -/

/-- Eight heads of 16384 positions, 64 lanes each. -/
abbrev Heads : Shape := ⟨3, ![8, 16384, 64]⟩

/-- The score of column `s` for query `r` of head `h`: the product of their lanes. -/
def score (q k : Heads.Idx → EReal) (h : Fin 8) (r : Fin 16384) (s : ℕ) : ℝ :=
  if hs : s < 16384 then ∑ d : Fin 64, (q (ix3 h r d)).toReal * (k (ix3 h ⟨s, hs⟩ d)).toReal else 0

/-- Head `h`'s values at lane `d`, by column. -/
def vals (v : Heads.Idx → EReal) (h : Fin 8) (d : Fin 64) (s : ℕ) : EReal :=
  if hs : s < 16384 then v (ix3 h ⟨s, hs⟩ d) else 0

/-- Where the queries and keys are finite the product over the lanes is the score. -/
theorem score_eq (q k : Heads.Idx → EReal) (hq : ∀ i, q i = (((q i).toReal : ℝ) : EReal)) (hk : ∀ i, k i = (((k i).toReal : ℝ) : EReal))
    (h : Fin 8) (r : Fin 16384) (s : ℕ) (hs : s < 16384) :
    ∑ d : Fin 64, q (ix3 h r d) * k (ix3 h ⟨s, hs⟩ d) = ((score q k h r s : ℝ) : EReal) := by
  unfold score
  rw [dif_pos hs, coe_sum]
  refine Finset.sum_congr rfl fun d _ => ?_
  rw [EReal.coe_mul, ← hq, ← hk]

/-- The layer's attention: each query's output lanes. -/
def attend (q k v : Heads.Idx → EReal) (i : Heads.Idx) : EReal :=
  row (score q k (i 0) (i 1)) (vals v (i 0) (i 2)) (i 1).val

end Cert.Row

end
-- ==== Proof.SbValue.Pay.lean ====
/-
  The kernel's stick-breaking tiles over the reals: what the diagonal tile and each earlier tile make of the two accumulators,
  and the output block as the rows' sums over all their earlier columns.
-/
module

public import proofs.«01_k».proof.Proof.SbIdeal.Body
public import proofs.«01_k».proof.Proof.SbValue.Row
public import Idealize.ShloMosaic.Lib.Pointwise

@[expose] public section

set_option maxRecDepth 16384

noncomputable section

namespace Cert.KernelIdeal.Sb

open Cert.KernelIdeal Cert.KernelIdeal.Gen Cert.Row
open Idealize.ShloMosaic Idealize.ShloMosaic.TcCoe Idealize.SL.Sem

/-- The absolute value in the exact arithmetic. -/
theorem absf_eq (x : EReal) : FloatOps.absf (F := Ideal) (φ := .f32) x = max x (-x) := rfl

/-- A comparison of two small naturals as words. -/
theorem slt_small (a b : Fin 256) :
    IntOp.cmpi .slt (BitVec.ofNat 32 a.val) (BitVec.ofNat 32 b.val) = if a.val < b.val then 1#1 else 0#1 := by
  revert a b; decide +kernel

/-- The scores of a tile. -/
theorem pay15_at (x : FVec Ideal S256x64 .bf16) (k : Vec Ideal S1x256x64 .bf16) (q s : Fin 256) :
    k0_pay15 (F := Ideal) x k (ix2 q s) = ∑ d : Fin 64, x (ix2 q d) * k (ix3 0 s d) := by
  pointwise [k0_pay15]

/-- The logarithms of `1 − β` of a tile whose scores are reals. -/
theorem pay16_at (x : FVec Ideal S256x64 .bf16) (k : Vec Ideal S1x256x64 .bf16) (q s : Fin 256) (r : ℝ)
    (h : ∑ d : Fin 64, x (ix2 q d) * k (ix3 0 s d) = (r : EReal)) :
    k0_pay16 (F := Ideal) x k (ix2 q s) = ((lnot r : ℝ) : EReal) := by
  refine Eq.trans ?_ (kernel_lnot r)
  pointwise [k0_pay16, k0_pay15, h, absf_eq]

/-- The diagonal tile's scores. -/
theorem pay7_at (x k : Vec Ideal S1x256x64 .bf16) (q s : Fin 256) :
    k0_pay7 (F := Ideal) x k (ix2 q s) = ∑ d : Fin 64, x (ix3 0 q d) * k (ix3 0 s d) := by
  pointwise [k0_pay7, k0_pay3]

/-- The diagonal tile's mask: the columns before the row. -/
theorem pay8_at (q s : Fin 256) : k0_pay8 (ix2 q s) = if s.val < q.val then 1#1 else 0#1 := by
  rw [← slt_small]
  pointwise [k0_pay8]

/-- The diagonal tile's logarithms, zero outside the mask. -/
theorem pay9_at (x k : Vec Ideal S1x256x64 .bf16) (q s : Fin 256) (r : ℝ)
    (h : ∑ d : Fin 64, x (ix3 0 q d) * k (ix3 0 s d) = (r : EReal)) :
    k0_pay9 (F := Ideal) x k (ix2 q s) = if s.val < q.val then ((lnot r : ℝ) : EReal) else 0 := by
  rw [← kernel_lnot r]
  pointwise [k0_pay9, k0_pay7, k0_pay8, k0_pay3, h, absf_eq]
  rw [slt_small]
  by_cases hs : s.val < q.val
  · rw [if_pos hs, if_pos hs]; rfl
  · rw [if_neg hs, if_neg hs]; rfl

/-- The sum of a tile's rows joins the carried one. -/
theorem pay2_at (a : FVec Ideal S256x256 .f32) (C : Vec Ideal S256x1 .f32) (q : Fin 256) :
    k0_pay2 (F := Ideal) a C (ix2 q 0) = C (ix2 q 0) + ∑ s : Fin 256, a (ix2 q s) := by
  pointwise [k0_pay2]

/-- The same for the diagonal tile. -/
theorem pay13_at (a : FVec Ideal S256x256 .f32) (C : Vec Ideal S256x1 .f32) (q : Fin 256) :
    k0_pay13 (F := Ideal) a C (ix2 q 0) = C (ix2 q 0) + ∑ s : Fin 256, a (ix2 q s) := by
  pointwise [k0_pay13]

/-- The loop's test passes while the carried sums are reals: the threshold is minus infinity. -/
theorem goesOn_coe (C : Vec Ideal S256x1 .f32) (c : ℝ) (h : C (ix2 (0 : Fin 256) 0) = (c : EReal)) : goesOn (F := Ideal) C = 1#1 := by
  have e : (c : EReal) ≤ k0_pay1 (F := Ideal) C := by
    pointwise [k0_pay1]
    rw [Finset.le_fold_max]
    exact .inr ⟨(0, 0), Finset.mem_univ _, le_of_eq h.symm⟩
  show Ideal.cmp .ogt (k0_pay1 (F := Ideal) C) ⊥ = 1#1
  simp [Ideal.cmp, lt_of_lt_of_le (EReal.bot_lt_coe c) e]

/-- Every column of a tile counts. -/
theorem lt_tile (s : Fin 256) : s.val < 256 := s.isLt

/-- AN EARLIER TILE's part of the output, for one row `q` and one output column `d`. -/
theorem pay17_at (x : FVec Ideal S256x64 .bf16) (T : FVec Ideal S256x256 .bf16) (k v : Vec Ideal S1x256x64 .bf16)
    (C : Vec Ideal S256x1 .f32) (A : Vec Ideal S256x64 .f32) (q : Fin 256) (d : Fin 64)
    (z : ℕ → ℝ) (w : ℕ → EReal) (b Q : ℕ) (hQ : b + 256 ≤ Q)
    (hT : ∀ j s : Fin 256, T (ix2 j s) = if s < j then (1 : EReal) else 0)
    (hz : ∀ s : Fin 256, ∑ d : Fin 64, x (ix2 q d) * k (ix3 0 s d) = ((z (b + s.val) : ℝ) : EReal))
    (hw : ∀ s : Fin 256, v (ix3 0 s d) = w (b + s.val))
    (hC : C (ix2 q 0) = ((∑ j ∈ Finset.Ico (b + 256) Q, lnot (z j) : ℝ) : EReal)) :
    k0_pay17 (F := Ideal) x T k C A v (ix2 q d) = (show EReal from A (ix2 q d)) + ∑ s ∈ Finset.Ico b (b + 256), term z w Q s := by
  have h16 : ∀ s : Fin 256, k0_pay16 (F := Ideal) x k (ix2 q s) = ((lnot (z (b + s.val)) : ℝ) : EReal) := fun s => pay16_at x k q s _ (hz s)
  have h15 : ∀ s : Fin 256, k0_pay15 (F := Ideal) x k (ix2 q s) = ((z (b + s.val) : ℝ) : EReal) := fun s => (pay15_at x k q s).trans (hz s)
  rw [← tile_sum z w b 256 Q le_rfl hQ]
  pointwise [k0_pay17, h16, h15, hT, hw, hC]
  refine congrArg _ (Finset.sum_congr rfl fun s _ => ?_)
  rw [← tri_sum (fun j => lnot (z j)) b 256 le_rfl s]
  simp only [coe_sub_self, zero_mul, Finset.sum_const_zero, add_zero, lt_tile, if_true]

/-- THE DIAGONAL TILE's part of the output, for one row `q`: the columns before the row. -/
theorem pay12_at (x : Vec Ideal S1x256x64 .bf16) (T : FVec Ideal S256x256 .bf16) (k v : Vec Ideal S1x256x64 .bf16) (q : Fin 256) (d : Fin 64)
    (z : ℕ → ℝ) (w : ℕ → EReal) (b : ℕ)
    (hT : ∀ j s : Fin 256, T (ix2 j s) = if s < j then (1 : EReal) else 0)
    (hz : ∀ s : Fin 256, ∑ d : Fin 64, x (ix3 0 q d) * k (ix3 0 s d) = ((z (b + s.val) : ℝ) : EReal))
    (hw : ∀ s : Fin 256, v (ix3 0 s d) = w (b + s.val)) :
    k0_pay12 (F := Ideal) T (k0_pay7 x k) k0_pay8 (k0_pay9 x k) (k0_pay10 x k) (k0_pay11 x k) (k0_pay5 (F := Ideal)) (k0_pay6 (F := Ideal)) v (ix2 q d)
      = ∑ s ∈ Finset.Ico b (b + q.val), term z w (b + q.val) s := by
  have h9 : ∀ s : Fin 256, k0_pay9 (F := Ideal) x k (ix2 q s) = if s.val < q.val then ((lnot (z (b + s.val)) : ℝ) : EReal) else 0 :=
    fun s => pay9_at x k q s _ (hz s)
  have h10 : ∀ s : Fin 256, k0_pay10 (F := Ideal) x k (ix2 q s) = if s.val < q.val then ((lnot (z (b + s.val)) : ℝ) : EReal) else 0 :=
    fun s => h9 s
  have h11 : ∀ s : Fin 256, k0_pay11 (F := Ideal) x k (ix2 q s) = 0 := fun s => by
    show (show EReal from k0_pay9 (F := Ideal) x k (ix2 q s)) - (show EReal from k0_pay9 (F := Ideal) x k (ix2 q s)) = 0
    rw [h9 s]
    by_cases hs : s.val < q.val
    · rw [if_pos hs, coe_sub_self]
    · rw [if_neg hs, sub_zero]
  have h7 : ∀ s : Fin 256, k0_pay7 (F := Ideal) x k (ix2 q s) = ((z (b + s.val) : ℝ) : EReal) := fun s => (pay7_at x k q s).trans (hz s)
  have h5 : k0_pay5 (F := Ideal) (ix2 q 0) = 0 := by pointwise [k0_pay5]
  have h6 : k0_pay6 (F := Ideal) (ix2 q d) = 0 := by pointwise [k0_pay6]
  rw [← tile_sum z w b q.val (b + q.val) (le_of_lt q.isLt) le_rfl]
  pointwise [k0_pay12, h9, h10, h11, h7, h5, h6, pay8_at, hT, hw]
  refine Finset.sum_congr rfl fun s _ => ?_
  by_cases hs : s.val < q.val
  · rw [← tri_sum (fun j => lnot (z j)) b q.val (le_of_lt q.isLt) s]
    simp only [if_pos hs, Finset.Ico_self, Finset.sum_empty, EReal.coe_zero, zero_mul, Finset.sum_const_zero, add_zero]
    rfl
  · simp only [if_neg hs]; rfl

end Cert.KernelIdeal.Sb

end
-- ==== Proof.SbValue.Block.lean ====
/-
  The output block over the reals: the loop over the earlier tiles, from the diagonal tile back to the first one, adds
  every earlier column's term to each row.
-/
module

public import proofs.«01_k».proof.Proof.SbValue.Pay

@[expose] public section

set_option maxRecDepth 16384

noncomputable section

namespace Cert.KernelIdeal.Sb

open Cert.KernelIdeal Cert.KernelIdeal.Gen Cert.Row
open Idealize.ShloMosaic Idealize.ShloMosaic.TcCoe Idealize.SL.Sem

/-- Where tile number `n` starts. -/
theorem off2_eq : ∀ n < 64, k0_off2 (BitVec.ofNat 32 n) = ![0, 256 * n, 0] := by decide +kernel

/-- A tile read at an index: the array's entry `256 n` columns further. -/
theorem tileAt_at (X : Vec Ideal S1x16384x64 .bf16) (n : ℕ) (h : n < 64) (s : Fin 256) (d : Fin 64) :
    tileAt X n h (ix3 0 s d) = X (ix3 0 ⟨256 * n + s.val, by omega⟩ d) := by
  unfold tileAt
  have e := off2_eq n h
  pointwise
  refine congrArg X ((ix3_inj ..).2 ⟨Fin.ext ?_, Fin.ext ?_, Fin.ext ?_⟩)
  · exact congrFun e 0
  · exact congrArg (· + s.val) (congrFun e 1)
  · exact (congrArg (· + d.val) (congrFun e 2)).trans (zero_add _)

/-- The diagonal tile read at an index. -/
theorem tileDiag_at (i : grid0.Coords) (X : Vec Ideal S1x16384x64 .bf16) (s : Fin 256) (d : Fin 64) :
    tileDiag i X (ix3 0 s d) = X (ix3 0 ⟨256 * (i 1).val + s.val, by have : (i 1).val < 64 := (i 1).isLt; omega⟩ d) := by
  unfold tileDiag
  have e := k0_off1_eq i
  pointwise
  refine congrArg X ((ix3_inj ..).2 ⟨Fin.ext ?_, Fin.ext ?_, Fin.ext ?_⟩)
  · exact congrFun e 0
  · exact congrArg (· + s.val) (congrFun e 1)
  · exact (congrArg (· + d.val) (congrFun e 2)).trans (zero_add _)

/-- THE LOOP: from the sums over the columns from tile `n` on, to the sums over all columns. -/
theorem back_at (x : FVec Ideal S256x64 .bf16) (T : FVec Ideal S256x256 .bf16) (X3 X4 : Vec Ideal S1x16384x64 .bf16)
    (z : Fin 256 → ℕ → ℝ) (w : Fin 64 → ℕ → EReal) (Q : Fin 256 → ℕ)
    (hT : ∀ j s : Fin 256, T (ix2 j s) = if s < j then (1 : EReal) else 0)
    (hz : ∀ (q : Fin 256) (s : ℕ) (hs : s < 16384), ∑ d : Fin 64, x (ix2 q d) * X3 (ix3 0 ⟨s, hs⟩ d) = ((z q s : ℝ) : EReal))
    (hw : ∀ (d : Fin 64) (s : ℕ) (hs : s < 16384), X4 (ix3 0 ⟨s, hs⟩ d) = w d s) :
    ∀ (n : ℕ) (hn : n ≤ 64), (∀ q, 256 * n ≤ Q q) → ∀ (C : Vec Ideal S256x1 .f32) (A : Vec Ideal S256x64 .f32),
      (∀ q : Fin 256, C (ix2 q 0) = ((∑ j ∈ Finset.Ico (256 * n) (Q q), lnot (z q j) : ℝ) : EReal)) →
      (∀ (q : Fin 256) (d : Fin 64), A (ix2 q d) = ∑ s ∈ Finset.Ico (256 * n) (Q q), term (z q) (w d) (Q q) s) →
      ∀ (q : Fin 256) (d : Fin 64), (back x T X3 X4 n hn C A).2 (ix2 q d) = row (z q) (w d) (Q q)
  | 0, _, _, _, _, _, hA, q, d => hA q d
  | n + 1, hn, hQ, C, A, hC, hA, q, d => by
    have hn' : n < 64 := hn
    have hz' : ∀ (q s : Fin 256), ∑ d : Fin 64, x (ix2 q d) * tileAt X3 n hn' (ix3 0 s d) = ((z q (256 * n + s.val) : ℝ) : EReal) := by
      intro q s
      simp only [tileAt_at]
      exact hz q _ _
    have hw' : ∀ (d : Fin 64) (s : Fin 256), tileAt X4 n hn' (ix3 0 s d) = w d (256 * n + s.val) := by
      intro d s
      rw [tileAt_at]
      exact hw d _ _
    show (if goesOn C = 1#1 then _ else (C, A)).2 (ix2 q d) = _
    rw [if_pos (goesOn_coe C _ (hC 0))]
    refine back_at x T X3 X4 z w Q hT hz hw n _ (fun q => le_trans (by omega) (hQ q)) _ _ (fun q => ?_) (fun q d => ?_) q d
    · rw [pay2_at, hC q]
      simp only [pay16_at x (tileAt X3 n hn') q _ _ (hz' q _)]
      rw [← coe_sum, ← EReal.coe_add, sum_tile (fun j => lnot (z q j)) (256 * n) 256, add_comm,
        show 256 * (n + 1) = 256 * n + 256 by ring, Finset.sum_Ico_consecutive _ (by omega) (by have := hQ q; omega)]
    · rw [pay17_at x T _ _ C A q d (z q) (w d) (256 * n) (Q q) (by have := hQ q; omega) hT (hz' q) (hw' d) (hC q), hA q d, add_comm,
        show 256 * (n + 1) = 256 * n + 256 by ring]
      exact Finset.sum_Ico_consecutive _ (by omega) (by have := hQ q; omega)

/-- THE OUTPUT BLOCK at point `i`: row `q` of it is query `256 · i₁ + q`'s sum over all earlier columns. -/
theorem outBlk_at (i : grid0.Coords) (x : Vec Ideal S1x256x64 .bf16) (X3 X4 : Vec Ideal S1x16384x64 .bf16) (T : Vec Ideal S256x256 .bf16)
    (z : Fin 256 → ℕ → ℝ) (w : Fin 64 → ℕ → EReal)
    (hT : ∀ j s : Fin 256, T (ix2 j s) = if s < j then (1 : EReal) else 0)
    (hz : ∀ (q : Fin 256) (s : ℕ) (hs : s < 16384), ∑ d : Fin 64, x (ix3 0 q d) * X3 (ix3 0 ⟨s, hs⟩ d) = ((z q s : ℝ) : EReal))
    (hw : ∀ (d : Fin 64) (s : ℕ) (hs : s < 16384), X4 (ix3 0 ⟨s, hs⟩ d) = w d s) (q : Fin 256) (d : Fin 64) :
    outBlk (F := Ideal) i x X3 X4 T (ix3 0 q d) = row (z q) (w d) (256 * (i 1).val + q.val) := by
  have hi : (i 1).val < 64 := (i 1).isLt
  have h3 : ∀ (q : Fin 256) (d : Fin 64), k0_pay3 (F := Ideal) x (ix2 q d) = x (ix3 0 q d) := fun q d => by pointwise [k0_pay3]
  have h4 : ∀ j s : Fin 256, k0_pay4 (F := Ideal) T (ix2 j s) = if s < j then (1 : EReal) else 0 := fun j s => by
    rw [← hT j s]; pointwise [k0_pay4]
  have hz' : ∀ (q s : Fin 256), ∑ d : Fin 64, x (ix3 0 q d) * tileDiag i X3 (ix3 0 s d) = ((z q (256 * (i 1).val + s.val) : ℝ) : EReal) := by
    intro q s
    simp only [tileDiag_at]
    exact hz q _ _
  have hw' : ∀ (d : Fin 64) (s : Fin 256), tileDiag i X4 (ix3 0 s d) = w d (256 * (i 1).val + s.val) := by
    intro d s
    rw [tileDiag_at]
    exact hw d _ _
  have h14 : ∀ A : Vec Ideal S256x64 .f32, k0_pay14 (F := Ideal) A (ix3 0 q d) = A (ix2 q d) := fun A => by pointwise [k0_pay14]
  unfold outBlk
  rw [h14]
  refine back_at (k0_pay3 x) (k0_pay4 T) X3 X4 z w (fun q => 256 * (i 1).val + q.val) h4 (fun q s hs => ?_) hw _ _
    (fun q => by omega) _ _ (fun q => ?_) (fun q d => ?_) q d
  · simp only [h3]; exact hz q s hs
  · have h5 : k0_pay5 (F := Ideal) (ix2 q 0) = 0 := by pointwise [k0_pay5]
    unfold diagC
    rw [pay13_at, h5]
    simp only [pay9_at x (tileDiag i X3) q _ _ (hz' q _)]
    rw [coe_sum, zero_add]
    exact sum_before (fun j => ((lnot (z q j) : ℝ) : EReal)) _ 256 q.val (le_of_lt q.isLt)
  · exact pay12_at x (k0_pay4 T) _ _ q d (z q) (w d) _ h4 (hz' q) (hw' d)

end Cert.KernelIdeal.Sb

end
-- ==== Proof.SbValue.Array.lean ====
/-
  The kernel's result array over the reals: the blocks its grid points leave tile it, and each row of each is its query's sum
  over all earlier columns.
-/
module

public import proofs.«01_k».proof.Proof.SbIdeal.Run
public import proofs.«01_k».proof.Proof.SbValue.Block
public import Idealize.ShloMosaic.Lib.Pipeline.ValueKit
public import Idealize.ShloMosaic.Lib.Pipeline.Covers
public import Idealize.ShloMosaic.Lib.Claim
public import Idealize.ShloMosaic.Lib.WordCmp

@[expose] public section

set_option maxRecDepth 16384

noncomputable section

namespace Cert.KernelIdeal.Sb

open Cert.KernelIdeal Cert.KernelIdeal.Gen Cert.Row
open Idealize.ShloMosaic Idealize.ShloMosaic.TcCoe Idealize.SL.Sem
open Idealize.ShloMosaic.Pipeline (Dat)

variable (m : (ℓ : Loc nD τ sig) → Buf (Elt Ideal) ℓ)

/-- A comparison of two small naturals as words, the other way round. -/
theorem sgt_small (a b : Fin 256) :
    IntOp.cmpi .sgt (BitVec.ofNat 32 a.val) (BitVec.ofNat 32 b.val) = if b < a then 1#1 else 0#1 := by
  revert a b; decide +kernel

/-- The triangle the host builds: one where the row's number is above the column's, zero elsewhere. -/
theorem tri_at (c : Dev nD) (j s : Fin 256) : V m c main_v7 (ix2 j s) = if s < j then (1 : EReal) else 0 := by
  entry_read
  pointwise
  rw [sgt_small]
  by_cases h : s < j
  · rw [if_pos h, if_pos h]
    show (((1#1 : BitVec 1).toNat : ℝ) : EReal) = 1
    simp
  · rw [if_neg h, if_neg h]
    show (((0#1 : BitVec 1).toNat : ℝ) : EReal) = 0
    simp

/-- Every window's block at every grid point. -/
theorem idx : ∀ t : Fin grid0.N, win0_0.index t = ![(grid0.coords t 0).val, (grid0.coords t 1).val, 0] ∧ win0_1.index t = ![(grid0.coords t 0).val, 0, 0]
    ∧ win0_2.index t = ![(grid0.coords t 0).val, 0, 0] ∧ win0_3.index t = ![0, 0] ∧ win0_4.index t = ![(grid0.coords t 0).val, (grid0.coords t 1).val, 0] := by
  decide +kernel

/-- The head a grid point works on, and the number of its block of queries. -/
abbrev headOf (t : Fin grid0.N) : Fin 8 := grid0.coords t 0
abbrev blockOf (t : Fin grid0.N) : Fin 64 := grid0.coords t 1

/-- Row `r` of a grid point's block of queries is query `256 · block + r`. -/
def query (t : Fin grid0.N) (r : Fin 256) : Fin 16384 := ⟨256 * (blockOf t).val + r.val, by have := (blockOf t).isLt; omega⟩

/-- The queries' block at an index. -/
theorem iblk0_at (c : Dev nD) (t : Fin (cfg0 (F := Ideal)).N) (r : Fin 256) (d : Fin 64) :
    iblk m c 0 t (ix3 0 r d) = m ((c : Thread nD τ).loc main_arg0) (ix3 (headOf t) (query t r) d) := by
  rw [← V_main_arg0 m c]
  blk_ext [iblk, query, idx t]
  · exact Nat.add_zero _
  · exact congrArg (· + r.val) (Nat.mul_comm _ _)

/-- The keys' block at an index. -/
theorem iblk1_at (c : Dev nD) (t : Fin (cfg0 (F := Ideal)).N) (s : Fin 16384) (d : Fin 64) :
    iblk m c 1 t (ix3 0 s d) = m ((c : Thread nD τ).loc main_arg1) (ix3 (headOf t) s d) := by
  rw [← V_main_arg1 m c]
  blk_ext [iblk, idx t]
  exact Nat.add_zero _

/-- The values' block at an index. -/
theorem iblk2_at (c : Dev nD) (t : Fin (cfg0 (F := Ideal)).N) (s : Fin 16384) (d : Fin 64) :
    iblk m c 2 t (ix3 0 s d) = m ((c : Thread nD τ).loc main_arg2) (ix3 (headOf t) s d) := by
  rw [← V_main_arg2 m c]
  blk_ext [iblk, idx t]
  exact Nat.add_zero _

/-- The triangle's block at an index. -/
theorem iblk3_at (c : Dev nD) (t : Fin (cfg0 (F := Ideal)).N) (j s : Fin 256) :
    iblk m c 3 t (ix2 j s) = if s < j then (1 : EReal) else 0 := by
  rw [← tri_at m c j s]
  blk_ext [iblk, idx t]

/-- An index of a block by its row and lane. -/
theorem split_block (y : S1x256x64.Idx) : y = ix3 0 (y 1) (y 2) := by
  refine (eq_ix3 y).trans ?_
  have h0 : (y 0).val < 1 := (y 0).isLt
  exact (ix3_inj ..).2 ⟨Fin.ext (by show (y 0).val = 0; omega), rfl, rfl⟩

variable (c : Dev nD) (q k v : Heads.Idx → EReal) (hq : m ((c : Thread nD τ).loc main_arg0) = q) (hk : m ((c : Thread nD τ).loc main_arg1) = k)
    (hv : m ((c : Thread nD τ).loc main_arg2) = v)
    (fq : ∀ i, q i = (((q i).toReal : ℝ) : EReal)) (fk : ∀ i, k i = (((k i).toReal : ℝ) : EReal))

include hq hk hv fq fk

/-- What a grid point leaves, at an index. -/
theorem outAt_at (t : Fin (cfg0 (F := Ideal)).N) (r : Fin 256) (d : Fin 64) :
    outAt m c t (ix3 0 r d) = row (score q k (headOf t) (query t r)) (vals v (headOf t) d) (query t r).val := by
  refine outBlk_at (grid0.coords t) _ _ _ _ (fun r => score q k (headOf t) (query t r)) (vals v (headOf t))
    (iblk3_at m c t) (fun r s hs => ?_) (fun d s hs => ?_) r d
  · rw [← score_eq q k fq fk]
    refine Finset.sum_congr rfl fun d _ => ?_
    rw [iblk0_at, iblk1_at, hq, hk]
  · rw [iblk2_at, hv]
    unfold vals
    rw [dif_pos hs]

/-- THE RESULT ARRAY: every query's sum over all earlier columns. -/
theorem arr : (dats m 0 c).arrAt 4 (cfg0 (F := Ideal)).N = attend q k v := by
  refine (dats m 0 c).arrAt_eq_of_covers 4 _ (by decide +kernel) fun t _ y => ?_
  blk_simp
  rw [after0_4]
  have e : (win0_4.blk t).view.emb y = (ix3 (headOf t) (query t (y 1)) (y 2) : Heads.Idx) := by
    blk_ext [query, idx t]
    exact congrArg (· + _) (Nat.mul_comm _ _)
  rw [e]
  exact (congrArg (outAt m c t) (split_block y)).trans (outAt_at m c q k v hq hk hv fq fk t (y 1) (y 2))

end Cert.KernelIdeal.Sb

end
-- ==== Proof.SbValue.Window.lean ====
/-
  The reversed cumulative sum along the last axis, as the reference prints it: a window as long as the axis, padded at its
  end, read at an index as the sum from that entry on.
-/
module

public import Idealize.ShloMosaic.Lib.Pointwise

@[expose] public section

set_option maxRecDepth 16384

noncomputable section

namespace Cert.Row

open Idealize.ShloMosaic

/-- A fold of additions is a sum. -/
theorem foldl_add {α : Type} (l : List α) (f : α → EReal) (b : EReal) : l.foldl (fun r n => r + f n) b = b + (l.map f).sum := by
  induction l generalizing b with
  | nil => simp
  | cons a l ih => rw [List.foldl_cons, ih, List.map_cons, List.sum_cons, add_assoc]

/-- The window sum at an index: the entries from that index to the axis's end. -/
theorem window_sum {A B N N1 : ℕ} (x : FVec Ideal ⟨3, ![A, B, N]⟩ .f32) (init : FVec Ideal ⟨0, ![]⟩ .f32) (hinit : ∀ i, init i = (0 : EReal))
    (h : (⟨3, ![A, B, N]⟩ : Shape).ReduceWindows (![1, 1, N] : Fin 3 → Nat) ![1, 1, 1] ![0, 0, 0] ![0, 0, N1] ⟨3, ![A, B, N]⟩)
    (hu : 0 < (⟨0, ![]⟩ : Shape).numel) (a : Fin A) (b : Fin B) (c : Fin N) :
    Host.reduceWindowAdd (F := Ideal) ![1, 1, N] ![1, 1, 1] ![0, 0, 0] ![0, 0, N1] x init h hu (ix3 a b c)
      = ∑ k : Fin N, if hk : c.val + k.val < N then (show EReal from x (ix3 a b ⟨c.val + k.val, hk⟩)) else 0 := by
  unfold Host.reduceWindowAdd
  rw [Ideal.hostReduceWindowAdd_def, hinit]
  unfold Ideal.hostReduceWindowAdd Host.reduceWindow
  dsimp only
  rw [foldl_add, zero_add, ← Fin.sum_univ_def, ← Equiv.sum_comp (Shape.rowMajor _)]
  simp only [Equiv.symm_apply_apply]
  rw [sum_idx3]
  simp only [Fin.sum_univ_one]
  refine Finset.sum_congr rfl fun k _ => ?_
  by_cases hk : c.val + k.val < N
  · rw [dif_pos hk, dif_pos (by
      intro i
      fin_cases i
      · exact ⟨Nat.zero_le _, by show a.val * 1 + 0 - 0 < A; have := a.isLt; omega⟩
      · exact ⟨Nat.zero_le _, by show b.val * 1 + 0 - 0 < B; have := b.isLt; omega⟩
      · exact ⟨Nat.zero_le _, by show c.val * 1 + k.val - 0 < N; omega⟩)]
    refine congrArg x (funext fun i => Fin.ext ?_)
    fin_cases i
    · show a.val * 1 + 0 - 0 = a.val; omega
    · show b.val * 1 + 0 - 0 = b.val; omega
    · show c.val * 1 + k.val - 0 = c.val + k.val; omega
  · rw [dif_neg hk, dif_neg (fun hall => hk (by
      have : c.val * 1 + k.val - 0 < N := (hall 2).2
      omega))]

end Cert.Row

end
-- ==== Proof.SbValue.Ref.lean ====
/-
  The reference's result over the reals, at an index: its query's sum over all earlier columns.
-/
module

public import proofs.«01_k».proof.Proof.Gen.ReferenceIdeal.Run
public import proofs.«01_k».proof.Proof.SbValue.Row
public import proofs.«01_k».proof.Proof.SbValue.Window
public import Idealize.ShloMosaic.Lib.Pointwise
public import Idealize.ShloMosaic.Lib.WordCmp

@[expose] public section

set_option maxRecDepth 16384

noncomputable section

namespace Cert.ReferenceIdeal.Sb

open Cert.ReferenceIdeal Cert.ReferenceIdeal.Gen Cert.Row
open Idealize.ShloMosaic Idealize.ShloMosaic.TcCoe Idealize.SL.Sem

/-- A comparison of two columns' numbers as words. -/
theorem slt_cols (a b : ℕ) (ha : a < 16384) (hb : b < 16384) :
    IntOp.cmpi .slt (BitVec.ofNat 32 a) (BitVec.ofNat 32 b) = if a < b then 1#1 else 0#1 := by
  rw [WordCmp.cmpi_slt_ofNat (by omega) (by omega)]
  by_cases h : a < b <;> simp [h]

/-- The absolute value in the exact arithmetic. -/
theorem absf_eq (x : EReal) : FloatOps.absf (F := Ideal) (φ := .f32) x = max x (-x) := rfl

/-- The reference's reversed cumulative sum at an index. -/
theorem win_at (x : FVec Ideal S8x16384x16384 .f32) (h : Fin 8) (r s : Fin 16384) :
    Host.reduceWindowAdd (F := Ideal) ![1, 1, 16384] ![1, 1, 1] ![0, 0, 0] ![0, 0, 16383] x
        (broadcastInDim S_ ![] bcast_S_S_ (constant S_ FTy.f32 0x00000000#32))
        reduceWindows_S8x16384x16384_S8x16384x16384_w1s1p0_0_w1s1p0_0_w16384s1p0_16383 h_S_ (ix3 h r s)
      = ∑ k : Fin 16384, if hk : s.val + k.val < 16384 then (show EReal from x (ix3 h r ⟨s.val + k.val, hk⟩)) else 0 :=
  window_sum x _ (fun i => by rw [Subsingleton.elim i ix0]; pointwise) _ _ h r s

/-- The reference's logarithm of `β` at a real score. -/
theorem log_beta (r : ℝ) :
    -(max (-(r : EReal)) 0 + Ideal.log1p (Ideal.exp (-(max (-(r : EReal)) (-(-(r : EReal))))))) = ((lnot r + r : ℝ) : EReal) := by
  have e := softplus_coe (-r)
  have c : Ideal.cmp .une (((-r : ℝ) : EReal) - 0) (((-r : ℝ) : EReal) - 0) = 0#1 := by simp [Ideal.cmp]
  unfold softplus at e
  rw [c, sub_zero, EReal.coe_neg, lnot_neg] at e
  exact (congrArg (fun x : EReal => -x) e).trans (by rw [← EReal.coe_neg, neg_neg])

/-- The reference's logarithm of `1 − β` at a real score. -/
theorem log_rest (r : ℝ) :
    -(max (r : EReal) 0 + Ideal.log1p (Ideal.exp (-(max (r : EReal) (-(r : EReal)))))) = ((lnot r : ℝ) : EReal) := by
  have e := log_beta (-r)
  rw [EReal.coe_neg, neg_neg, lnot_neg] at e
  rw [e, add_neg_cancel_right]

/-- THE REFERENCE'S RESULT at an index, where the query's scores are reals. -/
theorem res_at (m : (ℓ : Loc nD τ sig) → Buf (Elt Ideal) ℓ) (c : Dev nD) (h : Fin 8) (r : Fin 16384) (d : Fin 64)
    (q k v : S8x16384x64.Idx → EReal) (hq : m ((c.tc : Thread nD τ).loc main_arg0) = q)
    (hk : m ((c.tc : Thread nD τ).loc main_arg1) = k) (hv : m ((c.tc : Thread nD τ).loc main_arg2) = v)
    (z : ℕ → ℝ) (w : ℕ → EReal)
    (hz : ∀ s : Fin 16384, ∑ d : Fin 64, q (ix3 h r d) * k (ix3 h s d) = ((z s.val : ℝ) : EReal))
    (hw : ∀ s : Fin 16384, v (ix3 h s d) = w s.val) :
    Value.res_main_v20 (F := Ideal) m c (ix3 h r d) = row z w r.val := by
  unfold Value.res_main_v20
  have hid : (id (constant S_ FTy.f32 0#32) : FVec Ideal S_ .f32) ix0 = (0 : EReal) := by
    show (constant S_ FTy.f32 0#32 : FVec Ideal S_ .f32) ix0 = (0 : EReal)
    pointwise
  have hrow : row z w r.val = ∑ x : Fin 16384, if x.val < r.val then term z w r.val x.val else 0 := by
    have e := sum_before (term z w r.val) 0 16384 r.val (le_of_lt r.isLt)
    simp only [zero_add] at e
    exact e.symm
  rw [hrow]
  pointwise [hq, hk, hv, hz, hw, absf_eq, hid]
  refine Finset.sum_congr (M := EReal) rfl fun x _ => ?_
  rw [win_at, slt_cols _ _ x.isLt r.isLt]
  by_cases hx : x.val < r.val
  · simp only [if_pos hx]
    pointwise [hq, hk, hv, hz, absf_eq, hid]
    simp only [ne_eq, not_true, if_false, neg_neg]
    have lb := log_beta (z x.val)
    rw [neg_neg] at lb
    have hwin : (∑ k : Fin 16384, if _h : x.val + k.val < 16384 then
          Scalar.select (IntOp.cmpi .slt (BitVec.ofNat 32 (x.val + k.val)) (BitVec.ofNat 32 r.val))
            (-(max ((z (x.val + k.val) : ℝ) : EReal) 0 + Ideal.log1p (Ideal.exp (-(max ((z (x.val + k.val) : ℝ) : EReal) (-((z (x.val + k.val) : ℝ) : EReal))))))) 0
          else (0 : EReal)) = ((lnot (z x.val) + after z r.val x.val : ℝ) : EReal) := by
      unfold after
      rw [← Finset.sum_eq_sum_Ico_succ_bot hx (fun j => lnot (z j)), coe_sum]
      have e := sum_before (fun j => ((lnot (z j) : ℝ) : EReal)) x.val 16384 (r.val - x.val) (by omega)
      rw [show x.val + (r.val - x.val) = r.val by omega] at e
      rw [← e]
      refine Finset.sum_congr rfl fun k _ => ?_
      by_cases hk : x.val + k.val < 16384
      · rw [dif_pos hk, slt_cols _ _ hk r.isLt, log_rest]
        by_cases hr : x.val + k.val < r.val
        · rw [if_pos hr, if_pos (by omega)]; rfl
        · rw [if_neg hr, if_neg (by omega)]; rfl
      · rw [dif_neg hk, if_neg (by omega)]
    rw [hwin, lb, log_rest, ← EReal.coe_sub, ← EReal.coe_add, exp_coe, add_sub_cancel_left]
    rfl
  · simp only [if_neg hx]
    rfl

end Cert.ReferenceIdeal.Sb

end
-- ==== Proof.SbValue.Finite.lean ====
/-
  The precondition read off: where it holds, every query and key entry is a real.
-/
module

public import proofs.«01_k».proof.Proof.Gen.Pre_finite
public import proofs.«01_k».proof.Proof.SbValue.Row
public import Idealize.ShloMosaic.Lib.ReduceAll
public import Idealize.ShloMosaic.Lib.Pointwise

@[expose] public section

set_option maxRecDepth 16384

noncomputable section

namespace Cert.Pre_finite.Sb

open Cert.Pre_finite Cert.Pre_finite.Gen Cert.Row
open Idealize.ShloMosaic Idealize.SL.Sem

/-- The pattern of plus infinity. -/
theorem ofBits_inf : Ideal.ofBits .f32 0x7F800000#32 = ⊤ := by
  simp [Ideal.ofBits, Ideal.ieee]

/-- An entry below infinity in absolute value is a real. -/
theorem real_of_abs (x : EReal) (h : Ideal.cmp .olt (max x (-x)) ⊤ = 1#1) : x = ((x.toReal : ℝ) : EReal) := by
  induction x with
  | bot => simp [Ideal.cmp] at h
  | top => simp [Ideal.cmp] at h
  | coe r => rw [EReal.toReal_coe]

/-- One bit and another are both set. -/
theorem both (a b : BitVec 1) (h : IntOp.andi a b = 1#1) : a = 1#1 ∧ b = 1#1 := by
  revert a b; decide

/-- Where the precondition holds the queries and the keys are reals. -/
theorem reals (q k v : FVec Ideal S8x16384x64 .bf16) (h : fn (F := Ideal) q k v = fun _ => 1#1) :
    (∀ i : Heads.Idx, (show EReal from q i) = (((show EReal from q i).toReal : ℝ) : EReal))
      ∧ (∀ i : Heads.Idx, (show EReal from k i) = (((show EReal from k i).toReal : ℝ) : EReal)) := by
  have h0 := congrFun h ix0
  dsimp only [fn] at h0
  obtain ⟨ha, hb⟩ := both _ _ h0
  have ta := fun i => Host.reduce_andi_all _ _ _ _ _ ha i
  have tb := fun i => Host.reduce_andi_all _ _ _ _ _ hb i
  refine ⟨fun i => real_of_abs _ ?_, fun i => real_of_abs _ ?_⟩
  · rw [← ofBits_inf]; exact (Eq.trans (by idx_vars i; pointwise; rfl) (ta i))
  · rw [← ofBits_inf]; exact (Eq.trans (by idx_vars i; pointwise; rfl) (tb i))

end Cert.Pre_finite.Sb

end
-- ==== Proof.SbValue.Equal.lean ====
/-
  The stick-breaking attention kernel computes its reference: at finite queries and keys both results are each query's sum
  over all earlier columns.
-/
module

public import proofs.«01_k».proof.Defs
public import proofs.«01_k».proof.Proof.SbValue.Array
public import proofs.«01_k».proof.Proof.SbValue.Ref
public import proofs.«01_k».proof.Proof.SbValue.Finite

@[expose] public section

set_option maxRecDepth 16384

noncomputable section

namespace Cert.Equal

open Cert.Row
open Idealize.ShloMosaic Idealize.ShloMosaic.TcCoe Idealize.SL.Sem

/-- The reference's whole result, at finite queries and keys. -/
theorem reference_eq (m : (ℓ : Loc Cert.ReferenceIdeal.nD Cert.ReferenceIdeal.τ Cert.ReferenceIdeal.sig) → Buf (Elt Ideal) ℓ)
    (c : Dev Cert.ReferenceIdeal.nD) (q k v : Heads.Idx → EReal)
    (hq : m ((c.tc : Thread Cert.ReferenceIdeal.nD Cert.ReferenceIdeal.τ).loc Cert.ReferenceIdeal.main_arg0) = q)
    (hk : m ((c.tc : Thread Cert.ReferenceIdeal.nD Cert.ReferenceIdeal.τ).loc Cert.ReferenceIdeal.main_arg1) = k)
    (hv : m ((c.tc : Thread Cert.ReferenceIdeal.nD Cert.ReferenceIdeal.τ).loc Cert.ReferenceIdeal.main_arg2) = v)
    (fq : ∀ i, q i = (((q i).toReal : ℝ) : EReal)) (fk : ∀ i, k i = (((k i).toReal : ℝ) : EReal)) :
    Cert.ReferenceIdeal.Value.res_main_v20 (F := Ideal) m c = attend q k v := by
  funext i
  have e : (i : Heads.Idx) = ix3 ((i : Heads.Idx) 0) ((i : Heads.Idx) 1) ((i : Heads.Idx) 2) := eq_ix3 i
  refine (congrArg (Cert.ReferenceIdeal.Value.res_main_v20 (F := Ideal) m c) e).trans ?_
  refine Cert.ReferenceIdeal.Sb.res_at m c ((i : Heads.Idx) 0) ((i : Heads.Idx) 1) ((i : Heads.Idx) 2) q k v hq hk hv _ _
    (fun s => score_eq q k fq fk _ _ s.val s.isLt) (fun s => ?_)
  unfold vals
  rw [dif_pos s.isLt]

/-- ON FINITE QUERIES AND KEYS the kernel's result is the reference's. -/
theorem algebraic : Cert.algebraic_KernelIdeal_ReferenceIdeal_pre_finite := by
  intro m g m' g' hpre hagree
  refine ⟨fun c => attend (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · have hr := θ_run_and ((θ_run Cert.KernelIdeal.defs _ _).mono (fun _ h c => (h c).1 4) (Cert.KernelIdeal.Sb.run_main (F := Ideal) m g))
      ((θ_run Cert.KernelIdeal.defs _ _).mono (fun _ h => h.1) (Cert.KernelIdeal.Sb.frame (F := Ideal) m g))
    refine (θ_run Cert.KernelIdeal.defs _ _).mono (fun _ h c => ⟨(h.1 c).trans ?_, h.2 c⟩) hr
    obtain ⟨fq, fk⟩ := Cert.Pre_finite.Sb.reals _ _ _ (hpre c)
    exact Cert.KernelIdeal.Sb.arr m c _ _ _ rfl rfl rfl fq fk
  · refine (θ_run Cert.ReferenceIdeal.defs _ _).mono (fun _ h c => ⟨(h c).1.trans ?_, (h c).2⟩) (Cert.ReferenceIdeal.Value.run (F := Ideal) m' g')
    obtain ⟨h0, h1, h2⟩ := hagree c
    obtain ⟨fq, fk⟩ := Cert.Pre_finite.Sb.reals _ _ _ (hpre c)
    exact reference_eq m' c _ _ _ h0 h1 h2 fq fk

end Cert.Equal

end
-- ==== Proof.MoeValue.Row.lean ====
/-
  The experts' mixture of one token, over the extended reals: each expert's gated product, the weighted sum of the experts on
  top of the residual row, and its normalisation.
-/
module

public import Idealize.ShloMosaic.Lib.Pipeline.ValueKit

@[expose] public section

noncomputable section

namespace Cert.Experts

open Idealize.ShloMosaic

/-- A sum of terms that share a finite factor that is not negative. -/
theorem sum_mul {ι : Type} (s : Finset ι) (a : ι → EReal) (w : EReal) (h0 : 0 ≤ w) (ht : w ≠ ⊤) :
    ∑ i ∈ s, a i * w = (∑ i ∈ s, a i) * w := by
  classical
  induction s using Finset.induction_on with
  | empty => simp
  | insert i s hi ih => rw [Finset.sum_insert hi, Finset.sum_insert hi, ih, EReal.right_distrib_of_nonneg_of_ne_top h0 ht]

/-- A row times a matrix, one column. -/
def dot {n : ℕ} (h : Fin n → EReal) (a : Fin n → EReal) : EReal := ∑ d, h d * a d

/-- One hidden entry of an expert: the gate's silu times the other product. -/
def hidden (h g u : Fin 1024 → EReal) : EReal := dot h g * Ideal.logistic (dot h g) * dot h u

/-- One entry of an expert's row. -/
def expert (h : Fin 1024 → EReal) (g u : Fin 1024 → Fin 512 → EReal) (d : Fin 512 → EReal) : EReal :=
  ∑ f, hidden h (fun k => g k f) (fun k => u k f) * d f

/-- An expert's weight may be applied to the hidden entries or to the result. -/
theorem weigh (h : Fin 1024 → EReal) (g u : Fin 1024 → Fin 512 → EReal) (d : Fin 512 → EReal) (w : EReal) (h0 : 0 ≤ w) (ht : w ≠ ⊤) :
    ∑ f, hidden h (fun k => g k f) (fun k => u k f) * w * d f = expert h g u d * w := by
  unfold expert
  rw [← sum_mul _ _ _ h0 ht]
  exact Finset.sum_congr rfl fun f _ => mul_right_comm _ _ _

/-- One entry of a row divided by the root of its mean square, times a gain. -/
def normed (x g : Fin 1024 → EReal) (j : Fin 1024) : EReal :=
  x j * Ideal.rsqrt (Ideal.div (∑ k, x k * x k) (Ideal.ofBits FTy.f32 1149239296#32) + Ideal.ofBits FTy.f32 897988541#32) * g j

/-- Of a row of lanes all but one of which are masked, the sum. -/
theorem pick (w : Fin 128 → EReal) (e : Fin 16) :
    ∑ x : Fin 128, Scalar.select (IntOp.cmpi CmpIPredicate.eq (BitVec.ofNat 32 x.val) (Scalar.addi (BitVec.ofNat 32 e.val) 4#32)) (w x) 0
      = w ⟨4 + e.val, by omega⟩ := by
  have hb : ∀ (x : Fin 128) (e : Fin 16),
      IntOp.cmpi CmpIPredicate.eq (BitVec.ofNat 32 x.val) (Scalar.addi (BitVec.ofNat 32 e.val) 4#32) = if x.val = 4 + e.val then 1#1 else 0#1 := by
    decide +kernel
  rw [Finset.sum_eq_single (⟨4 + e.val, by omega⟩ : Fin 128)]
  · rw [hb, if_pos rfl]; rfl
  · intro x _ hx
    rw [hb, if_neg (fun h => hx (Fin.ext h))]; rfl
  · intro h; exact absurd (Finset.mem_univ _) h

/-- The mixed layer's rows: the residual plus the experts' rows at their weights, normalised. -/
def mix (x h : (⟨2, ![16384, 1024]⟩ : Shape).Idx → EReal) (w : (⟨2, ![16384, 128]⟩ : Shape).Idx → EReal)
    (g u : (⟨3, ![16, 1024, 512]⟩ : Shape).Idx → EReal) (d : (⟨3, ![16, 512, 1024]⟩ : Shape).Idx → EReal)
    (o : (⟨1, ![1024]⟩ : Shape).Idx → EReal) (n : Fin 16384) (j : Fin 1024) : EReal :=
  normed (fun k => x (ix2 n k) + ∑ e : Fin 16,
      expert (fun l => h (ix2 n l)) (fun l f => g (ix3 e l f)) (fun l f => u (ix3 e l f)) (fun f => d (ix3 e f k))
        * w (ix2 n ⟨4 + e.val, by omega⟩))
    (fun k => o (ix1 k)) j

end Cert.Experts

end
-- ==== Proof.MoeValue.Pay.lean ====
/-
  What one grid point of the experts' kernel computes, at an index.
-/
module

public import proofs.«01_k».proof.Proof.Gen.MoeIdeal.Skeleton
public import proofs.«01_k».proof.Proof.MoeValue.Row
public import Idealize.ShloMosaic.Lib.Pipeline.ValueKit

@[expose] public section

set_option maxRecDepth 16384

noncomputable section

namespace Cert.MoeIdeal.Mo

open Cert.MoeIdeal Cert.MoeIdeal.Gen Cert.Experts
open Idealize.ShloMosaic Idealize.ShloMosaic.TcCoe Idealize.SL.Sem

/-- The accumulator is stored as it is. -/
theorem pay1_at (a : FVec Ideal S512x1024 .f32) (r : Fin 512) (j : Fin 1024) : k0_pay1 a (ix2 r j) = a (ix2 r j) := by
  pointwise [k0_pay1]

/-- The block of the result: the residual plus the accumulator, each row normalised. -/
theorem pay2_at (x a : FVec Ideal S512x1024 .f32) (w : FVec Ideal S1x1024 .f32) (r : Fin 512) (j : Fin 1024) :
    k0_pay2 (F := Ideal) x a w (ix2 r j) = normed (fun k => x (ix2 r k) + a (ix2 r k)) (fun k => w (ix2 0 k)) j := by
  pointwise [k0_pay2]
  rfl

/-- The accumulator starts at zero. -/
theorem pay3_at (r : Fin 512) (j : Fin 1024) : k0_pay3 (F := Ideal) (ix2 r j) = (0 : EReal) := by
  pointwise [k0_pay3]

/-- One expert's part is added to the accumulator. -/
theorem pay4_at (i : grid0.Coords) (h : FVec Ideal S512x1024 .bf16) (w : FVec Ideal S512x128 .f32) (g u : FVec Ideal S1x1024x512 .bf16)
    (a : FVec Ideal S512x1024 .f32) (d : FVec Ideal S1x512x1024 .bf16) (r : Fin 512) (j : Fin 1024) :
    k0_pay4 (F := Ideal) i h w g u a d (ix2 r j) = a (ix2 r j) + ∑ f : Fin 512,
      hidden (fun k => h (ix2 r k)) (fun k => g (ix3 0 k f)) (fun k => u (ix3 0 k f))
        * w (ix2 r ⟨4 + (i 1).val, by have : (i 1).val < 16 := (i 1).isLt; omega⟩) * d (ix3 0 f j) := by
  have hw := pick (fun x => w (ix2 r x)) (i 1)
  pointwise [k0_pay4]
  refine congrArg (a (ix2 r j) + ·) (Finset.sum_congr (M := EReal) rfl fun f _ => congrArg (· * d (ix3 0 f j)) ?_)
  exact congrArg (hidden (fun k => h (ix2 r k)) (fun k => g (ix3 0 k f)) (fun k => u (ix3 0 k f)) * ·) hw

end Cert.MoeIdeal.Mo

end
-- ==== Proof.MoeValue.Array.lean ====
/-
  The experts' kernel's result array over the reals: a run of sixteen grid points adds the experts' parts up, the last one
  normalises the rows.
-/
module

public import proofs.«01_k».proof.Proof.Gen.MoeIdeal.Frame
public import proofs.«01_k».proof.Proof.MoeValue.Pay
public import Idealize.ShloMosaic.Lib.Pipeline.ValueKit
public import Idealize.ShloMosaic.Lib.Pipeline.Covers
public import Idealize.ShloMosaic.Lib.Pipeline.ReadBack
public import Idealize.ShloMosaic.Lib.Claim

@[expose] public section

set_option maxRecDepth 16384

noncomputable section

namespace Cert.MoeIdeal.Mo

open Cert.MoeIdeal Cert.MoeIdeal.Gen Cert.Experts
open Idealize.ShloMosaic Idealize.ShloMosaic.TcCoe Idealize.SL.Sem
open Idealize.ShloMosaic.Pipeline (Dat)

variable (m : (ℓ : Loc nD τ sig) → Buf (Elt Ideal) ℓ)

/-- Every window's block at every grid point, and the point's expert. -/
theorem idx : ∀ t : Fin cfg0.N, win0_0.index t = ![t.val / 16, 0] ∧ win0_1.index t = ![t.val / 16, 0] ∧ win0_2.index t = ![t.val / 16, 0]
    ∧ win0_3.index t = ![t.val % 16, 0, 0] ∧ win0_4.index t = ![t.val % 16, 0, 0] ∧ win0_5.index t = ![t.val % 16, 0, 0]
    ∧ win0_6.index t = ![0, 0] ∧ win0_7.index t = ![t.val / 16, 0] ∧ (grid0.coords t 1).val = t.val % 16 :=
  (by decide +kernel : ∀ t : Fin grid0.N, _)

/-- The part of a grid point's expert in an entry of the block. -/
def part (c : Dev nD) (t : Fin cfg0.N) (y : S512x1024.Idx) : EReal :=
  ∑ f : Fin 512,
    hidden (fun k => iblk m c 1 t (ix2 (y 0) k)) (fun k => iblk m c 3 t (ix3 0 k f)) (fun k => iblk m c 4 t (ix3 0 k f))
      * iblk m c 2 t (ix2 (y 0) ⟨4 + t.val % 16, by omega⟩) * iblk m c 5 t (ix3 0 f (y 1))

/-- What a grid point stores into the accumulator: what it held plus the point's part. -/
theorem step_at (c : Dev nD) (t : Fin cfg0.N) (a : FVec Ideal S512x1024 .f32) (y : S512x1024.Idx) :
    k0_pay1 (k0_pay4 (F := Ideal) (grid0.coords t) (iblk m c 1 t) (iblk m c 2 t) (iblk m c 3 t) (iblk m c 4 t) a (iblk m c 5 t)) y
      = (show EReal from a y) + part m c t y := by
  obtain ⟨-, -, -, -, -, -, -, -, h⟩ := idx t
  obtain ⟨r, j, rfl⟩ : ∃ (r : Fin 512) (j : Fin 1024), y = ix2 r j := ⟨y 0, y 1, eq_ix2 y⟩
  rw [pay1_at, pay4_at]
  simp only [h]
  rfl

/-- The accumulator after a run of sixteen points: the sum of their parts. -/
theorem acc_at (c : Dev nD) (t : Fin cfg0.N) (hf : t.val % 16 = 15) (y : S512x1024.Idx) :
    (outsAt0 m c t.val t.isLt).2 y = ∑ e : Fin 16, part m c ⟨16 * (t.val / 16) + e.val, Pipeline.run_point_lt_of_flush t hf e⟩ y := by
  refine (Pipeline.eq_sum_fin_of_reset_step_apply_of_flush (fun n h => (outsAt0 m c n h).2) 16 (fun _ => (0 : EReal)) (part m c)
    (fun t h j => ?_) (fun t h j => ?_) t hf y).trans (zero_add _)
  · rw [outsAt0_A m c t h (by omega)]
    frame_out
    refine (step_at m c t _ _).trans (congrArg (· + part m c t j) ?_)
    obtain ⟨r, k, rfl⟩ : ∃ (r : Fin 512) (k : Fin 1024), j = ix2 r k := ⟨j 0, j 1, eq_ix2 j⟩
    exact pay3_at r k
  · by_cases h1 : t.val % 16 = 15
    · rw [outsAt0_C m c t h h1]
      frame_out
      rw [read_unread_whole]
      exact step_at m c t _ _
    · rw [outsAt0_B m c t h h1]
      frame_out
      rw [read_unread_whole]
      exact step_at m c t _ _

/-- The block of the result a run's last point writes: the residual plus the accumulator, normalised. -/
theorem out_at (c : Dev nD) (t : Fin cfg0.N) (hf : t.val % 16 = 15) (r : Fin 512) (j : Fin 1024) :
    (outsAt0 m c t.val t.isLt).1 (ix2 r j)
      = normed (fun k => (show EReal from iblk m c 0 t (ix2 r k)) + (show EReal from (outsAt0 m c t.val t.isLt).2 (ix2 r k)))
        (fun k => iblk m c 6 t (ix2 0 k)) j := by
  rw [outsAt0_C m c t (by omega) hf]
  frame_out
  exact pay2_at _ _ _ r j

/-- A row of a grid point's block, as a row of the whole array. -/
def row (t : Fin cfg0.N) (r : Fin 512) : Fin 16384 :=
  ⟨t.val / 16 * 512 + r.val, by have : t.val < 512 := t.isLt; omega⟩

theorem iblk0_at (c : Dev nD) (t : Fin cfg0.N) (r : Fin 512) (k : Fin 1024) :
    iblk m c 0 t (ix2 r k) = m ((c : Thread nD τ).loc main_arg0) (ix2 (row t r) k) := by
  blk_ext [iblk, row, V, idx t]

theorem iblk1_at (c : Dev nD) (t : Fin cfg0.N) (r : Fin 512) (k : Fin 1024) :
    iblk m c 1 t (ix2 r k) = m ((c : Thread nD τ).loc main_arg1) (ix2 (row t r) k) := by
  blk_ext [iblk, row, V, idx t]

theorem iblk2_at (c : Dev nD) (t : Fin cfg0.N) (r : Fin 512) (k : Fin 128) :
    iblk m c 2 t (ix2 r k) = m ((c : Thread nD τ).loc main_arg2) (ix2 (row t r) k) := by
  blk_ext [iblk, row, V, idx t]

theorem iblk3_at (c : Dev nD) (t : Fin cfg0.N) (k : Fin 1024) (f : Fin 512) :
    iblk m c 3 t (ix3 0 k f) = m ((c : Thread nD τ).loc main_arg3) (ix3 ⟨t.val % 16, by omega⟩ k f) := by
  dsimp only [iblk]
  entry_read
  blk_ext [idx t]

theorem iblk4_at (c : Dev nD) (t : Fin cfg0.N) (k : Fin 1024) (f : Fin 512) :
    iblk m c 4 t (ix3 0 k f) = m ((c : Thread nD τ).loc main_arg4) (ix3 ⟨t.val % 16, by omega⟩ k f) := by
  dsimp only [iblk]
  entry_read
  blk_ext [idx t]

theorem iblk5_at (c : Dev nD) (t : Fin cfg0.N) (f : Fin 512) (k : Fin 1024) :
    iblk m c 5 t (ix3 0 f k) = m ((c : Thread nD τ).loc main_arg5) (ix3 ⟨t.val % 16, by omega⟩ f k) := by
  dsimp only [iblk]
  entry_read
  blk_ext [idx t]

theorem iblk6_at (c : Dev nD) (t : Fin cfg0.N) (k : Fin 1024) :
    iblk m c 6 t (ix2 0 k) = m ((c : Thread nD τ).loc main_arg6) (ix1 k) := by
  dsimp only [iblk]
  entry_read
  have e : (win0_6.blk t).view.emb (ix2 0 k) = ix2 0 k := by blk_ext [idx t]
  refine (congrArg (broadcastInDim S1x1024 ![1] bcast_S1024_S1x1024_1 (m ((c : Thread nD τ).loc main_arg6))) e).trans ?_
  pointwise

/-- The part of a point's expert, over the whole arrays. -/
theorem part_at (c : Dev nD) (t : Fin cfg0.N) (r : Fin 512) (j : Fin 1024) (e : Fin 16) (he : t.val % 16 = e.val) :
    part m c t (ix2 r j) = ∑ f : Fin 512,
      Cert.Experts.hidden (fun k => m ((c : Thread nD τ).loc main_arg1) (ix2 (row t r) k))
          (fun k => m ((c : Thread nD τ).loc main_arg3) (ix3 e k f)) (fun k => m ((c : Thread nD τ).loc main_arg4) (ix3 e k f))
        * m ((c : Thread nD τ).loc main_arg2) (ix2 (row t r) ⟨4 + e.val, by omega⟩)
        * m ((c : Thread nD τ).loc main_arg5) (ix3 e f j) := by
  obtain rfl : e = ⟨t.val % 16, Nat.mod_lt _ (by decide)⟩ := Fin.ext he.symm
  refine Finset.sum_congr (M := EReal) rfl fun f _ => ?_
  refine congrArg₂ (· * ·) (congrArg₂ (· * ·) ?_ (iblk2_at m c t r _)) (iblk5_at m c t f j)
  exact congr (congrArg₂ Cert.Experts.hidden (funext fun k => iblk1_at m c t r k) (funext fun k => iblk3_at m c t k f))
    (funext fun k => iblk4_at m c t k f)

/-- The result array is the mixed layer's rows, where the weights are bounded by zero and infinity. -/
theorem arr (c : Dev nD) (hw : ∀ (n : Fin 16384) (e : Fin 16),
      (0 : EReal) ≤ m ((c : Thread nD τ).loc main_arg2) (ix2 n ⟨4 + e.val, by omega⟩)
        ∧ (show EReal from m ((c : Thread nD τ).loc main_arg2) (ix2 n ⟨4 + e.val, by omega⟩)) ≠ ⊤) :
    (dats m 0 c).arrAt 7 cfg0.N = fun y : S16384x1024.Idx =>
      mix (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (y 0) (y 1) := by
  refine (dats m 0 c).arrAt_eq_of_covers 7 _ (by decide +kernel) fun t hf y => ?_
  have ht := (flush0_7 t).mp hf
  obtain ⟨r, j, rfl⟩ : ∃ (r : Fin 512) (j : Fin 1024), y = (ix2 r j : S512x1024.Idx) := ⟨y 0, y 1, eq_ix2 y⟩
  blk_simp
  rw [after0_7]
  have e : (win0_7.blk t).view.emb (ix2 r j : S512x1024.Idx) = (ix2 (row t r) j : S16384x1024.Idx) := by
    blk_ext [row, idx t]
  rw [e]
  refine (out_at m c t ht r j).trans ?_
  unfold mix
  refine congrArg₂ (fun x g => normed x g j) (funext fun k => ?_) (funext fun k => iblk6_at m c t k)
  refine congrArg₂ (· + ·) (iblk0_at m c t r k) ((acc_at m c t ht _).trans (Finset.sum_congr (M := EReal) rfl fun s _ => ?_))
  have hr : row ⟨16 * (t.val / 16) + s.val, Pipeline.run_point_lt_of_flush t ht s⟩ r = row t r := Fin.ext (by
    show (16 * (t.val / 16) + s.val) / 16 * 512 + r.val = t.val / 16 * 512 + r.val
    omega)
  obtain ⟨h0, h1⟩ := hw (row t r) s
  rw [part_at m c _ r k s (by show (16 * (t.val / 16) + s.val) % 16 = s.val; omega), hr]
  exact weigh _ _ _ _ _ h0 h1

end Cert.MoeIdeal.Mo

end
-- ==== Proof.MoeValue.Ref.lean ====
/-
  The experts' reference at an index.
-/
module

public import proofs.«01_k».proof.Proof.Gen.MoeRefIdeal.Run
public import proofs.«01_k».proof.Proof.MoeValue.Row
public import Idealize.ShloMosaic.Lib.Pipeline.ValueKit

@[expose] public section

set_option maxRecDepth 16384

noncomputable section

namespace Cert.MoeRefIdeal.Mo

open Cert.MoeRefIdeal Cert.MoeRefIdeal.Gen Cert.Experts
open Idealize.ShloMosaic Idealize.ShloMosaic.TcCoe Idealize.SL.Sem

variable (m : (ℓ : Loc nD τ sig) → Buf (Elt Ideal) ℓ) (c : Dev nD)

/-- An entry of the reference's result is the mixed layer's. -/
theorem res_at (n : Fin 16384) (j : Fin 1024) :
    Cert.MoeRefIdeal.Value.res_main_v27 (F := Ideal) m c (ix2 n j)
      = mix (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) n j := by
  have hd : ∀ a h : Fin 1024 → EReal, ∑ d, a d * h d = dot h a := fun a h => Finset.sum_congr rfl fun d _ => mul_comm _ _
  pointwise [Cert.MoeRefIdeal.Value.res_main_v27]
  unfold mix normed expert Cert.Experts.hidden
  simp only [← hd]
  rfl

end Cert.MoeRefIdeal.Mo

end
-- ==== Proof.MoeValue.Weights.lean ====
/-
  The precondition read off: where it holds, every expert's weight is at least zero and below infinity.
-/
module

public import proofs.«01_k».proof.Proof.Gen.Pre_weights
public import proofs.«01_k».proof.Proof.SbValue.Finite

@[expose] public section

set_option maxRecDepth 16384

noncomputable section

namespace Cert.Pre_weights.Mo

open Cert.Pre_weights Cert.Pre_weights.Gen Cert.Pre_finite.Sb
open Idealize.ShloMosaic Idealize.SL.Sem

/-- A value compared as at least zero and below infinity. -/
theorem bounds (x : EReal) (h : IntOp.andi (Ideal.cmp .oge x 0) (Ideal.cmp .olt x ⊤) = 1#1) : 0 ≤ x ∧ x ≠ ⊤ := by
  obtain ⟨h0, h1⟩ := both _ _ h
  constructor
  · by_contra hn
    simp [Ideal.cmp, hn] at h0
  · rintro rfl
    simp [Ideal.cmp] at h1

/-- Where the precondition holds the weights of the sixteen experts are bounded by zero and infinity. -/
theorem weights (x : FVec Ideal S16384x1024 .f32) (h2 : FVec Ideal S16384x1024 .bf16) (w : FVec Ideal S16384x128 .f32)
    (g u : FVec Ideal S16x1024x512 .f32) (d : FVec Ideal S16x512x1024 .f32) (o : FVec Ideal S1024 .f32)
    (h : fn (F := Ideal) x h2 w g u d o = fun _ => 1#1) (n : Fin 16384) (e : Fin 16) :
    (0 : EReal) ≤ w (ix2 n ⟨4 + e.val, by omega⟩) ∧ (show EReal from w (ix2 n ⟨4 + e.val, by omega⟩)) ≠ ⊤ := by
  have h0 := congrFun h ix0
  dsimp only [fn] at h0
  have ta := Host.reduce_andi_all _ _ _ _ _ h0 (ix2 n e)
  refine bounds _ ?_
  rw [← ofBits_inf]
  refine Eq.trans ?_ ta
  pointwise

end Cert.Pre_weights.Mo

end
-- ==== Proof.MoeValue.Equal.lean ====
/-
  The experts' kernel computes its reference: at weights bounded by zero and infinity both results are the mixed layer's rows.
-/
module

public import proofs.«01_k».proof.Defs
public import proofs.«01_k».proof.Proof.Gen.MoeIdeal.Value
public import proofs.«01_k».proof.Proof.MoeValue.Array
public import proofs.«01_k».proof.Proof.MoeValue.Ref
public import proofs.«01_k».proof.Proof.MoeValue.Weights

@[expose] public section

set_option maxRecDepth 16384

noncomputable section

namespace Cert.EqualMoe

open Cert.Experts
open Idealize.ShloMosaic Idealize.ShloMosaic.TcCoe Idealize.SL.Sem

/-- The reference's whole result. -/
theorem reference_eq (m : (ℓ : Loc Cert.MoeRefIdeal.nD Cert.MoeRefIdeal.τ Cert.MoeRefIdeal.sig) → Buf (Elt Ideal) ℓ) (c : Dev Cert.MoeRefIdeal.nD) :
    Cert.MoeRefIdeal.Value.res_main_v27 (F := Ideal) m c = fun y : Cert.MoeRefIdeal.S16384x1024.Idx =>
      mix (m ((c.tc : Thread Cert.MoeRefIdeal.nD Cert.MoeRefIdeal.τ).loc Cert.MoeRefIdeal.main_arg0))
        (m ((c.tc : Thread Cert.MoeRefIdeal.nD Cert.MoeRefIdeal.τ).loc Cert.MoeRefIdeal.main_arg1))
        (m ((c.tc : Thread Cert.MoeRefIdeal.nD Cert.MoeRefIdeal.τ).loc Cert.MoeRefIdeal.main_arg2))
        (m ((c.tc : Thread Cert.MoeRefIdeal.nD Cert.MoeRefIdeal.τ).loc Cert.MoeRefIdeal.main_arg3))
        (m ((c.tc : Thread Cert.MoeRefIdeal.nD Cert.MoeRefIdeal.τ).loc Cert.MoeRefIdeal.main_arg4))
        (m ((c.tc : Thread Cert.MoeRefIdeal.nD Cert.MoeRefIdeal.τ).loc Cert.MoeRefIdeal.main_arg5))
        (m ((c.tc : Thread Cert.MoeRefIdeal.nD Cert.MoeRefIdeal.τ).loc Cert.MoeRefIdeal.main_arg6)) (y 0) (y 1) := by
  funext y
  obtain ⟨n, j, rfl⟩ : ∃ (n : Fin 16384) (j : Fin 1024), y = (ix2 n j : Cert.MoeRefIdeal.S16384x1024.Idx) := ⟨y 0, y 1, eq_ix2 y⟩
  exact Cert.MoeRefIdeal.Mo.res_at m c n j

/-- AT WEIGHTS BOUNDED BY ZERO AND INFINITY the experts' kernel's result is the reference's. -/
theorem algebraic : Cert.algebraic_MoeIdeal_MoeRefIdeal_pre_weights := by
  intro m g m' g' hpre hagree
  refine ⟨fun c => fun y : Cert.MoeIdeal.S16384x1024.Idx =>
      mix (m ((c.tc : Thread Cert.MoeIdeal.nD Cert.MoeIdeal.τ).loc Cert.MoeIdeal.main_arg0))
        (m ((c.tc : Thread Cert.MoeIdeal.nD Cert.MoeIdeal.τ).loc Cert.MoeIdeal.main_arg1))
        (m ((c.tc : Thread Cert.MoeIdeal.nD Cert.MoeIdeal.τ).loc Cert.MoeIdeal.main_arg2))
        (m ((c.tc : Thread Cert.MoeIdeal.nD Cert.MoeIdeal.τ).loc Cert.MoeIdeal.main_arg3))
        (m ((c.tc : Thread Cert.MoeIdeal.nD Cert.MoeIdeal.τ).loc Cert.MoeIdeal.main_arg4))
        (m ((c.tc : Thread Cert.MoeIdeal.nD Cert.MoeIdeal.τ).loc Cert.MoeIdeal.main_arg5))
        (m ((c.tc : Thread Cert.MoeIdeal.nD Cert.MoeIdeal.τ).loc Cert.MoeIdeal.main_arg6)) (y 0) (y 1), ?_, ?_⟩
  · refine (θ_run Cert.MoeIdeal.defs _ _).mono (fun _ h c => ⟨(h c).1.trans ?_, (h c).2⟩) (Cert.MoeIdeal.Value.run_blocks (F := Ideal) m g)
    exact Cert.MoeIdeal.Mo.arr m c fun n e => Cert.Pre_weights.Mo.weights _ _ _ _ _ _ _ (hpre c) n e
  · refine (θ_run Cert.MoeRefIdeal.defs _ _).mono (fun _ h c => ⟨(h c).1.trans ?_, (h c).2⟩) (Cert.MoeRefIdeal.Value.run (F := Ideal) m' g')
    obtain ⟨h0, h1, h2, h3, h4, h5, h6⟩ := hagree c
    rw [reference_eq, h0, h1, h2, h3, h4, h5, h6]

end Cert.EqualMoe

end
-- ==== Proof.InValue.Row.lean ====
/-
  The input projection's mathematics, an entry at a time: normalised rows against the columns of the weights, rotated by the
  positions' angles where the layer rotates them.
-/
module

public import proofs.«01_k».proof.Proof.MoeValue.Row

@[expose] public section

noncomputable section

namespace Cert.Proj

open Cert.Experts
open Idealize.ShloMosaic

/-- The rows. -/
abbrev Rows : Type := (⟨2, ![16384, 1024]⟩ : Shape).Idx → EReal

/-- The positions. -/
abbrev Places : Type := (⟨1, ![16384]⟩ : Shape).Idx → BitVec 32

/-- The norm's gain. -/
abbrev Gain : Type := (⟨1, ![1024]⟩ : Shape).Idx → EReal

/-- The projection's weights. -/
abbrev Weights : Type := (⟨2, ![1024, 2840]⟩ : Shape).Idx → EReal

/-- A column of the projection of a row, counted modulo the number of columns. -/
def col (x : Rows) (g : Gain) (w : Weights) (n : Fin 16384) (j : ℕ) : EReal :=
  ∑ k : Fin 1024, normed (fun k => x (ix2 n k)) (fun k => g (ix1 k)) k * w (ix2 k (Fin.ofNat 2840 j))

/-- The inverse frequency of a pair of lanes. -/
def freq (i : ℕ) : EReal :=
  Ideal.pow (Ideal.ofBits .f32 1223959552#32)
    (Ideal.div (-(Ideal.ofBits .f32 1073741824#32 * FloatOps.sitofp (F := Ideal) FTy.f32 (BitVec.ofNat 32 i))) (Ideal.ofBits .f32 1098907648#32))

/-- The angle of a row's position at a pair of lanes. -/
def angle (p : Places) (n : Fin 16384) (i : ℕ) : EReal :=
  FloatOps.sitofp (F := Ideal) FTy.f32 (p (ix1 n)) * freq i

/-- The rotation of heads of 64 lanes: the first eight lanes with the next eight, the others untouched. -/
def rope (y a : ℕ → EReal) (l : ℕ) : EReal :=
  if l % 64 < 8 then y l * Ideal.cos (a (l % 64)) - y (l + 8) * Ideal.sin (a (l % 64))
  else if l % 64 - 8 < 8 then y l * Ideal.cos (a (l % 64 - 8)) + y (l - 8) * Ideal.sin (a (l % 64 - 8))
  else y l

/-- What multiplies a lane's left neighbour in the kernel. -/
def low (l : ℕ) (s : EReal) : EReal := if 8 ≤ l % 64 ∧ l % 64 < 16 then s else 0

/-- What multiplies a lane's right neighbour in the kernel. -/
def high (l : ℕ) (s : EReal) : EReal := if l % 64 < 8 then 0 - s else 0

/-- The frequency the kernel keeps at a lane: none where it does not rotate. -/
def lane (l : ℕ) : EReal := if l % 64 < 8 then freq (l % 64) else if l % 64 - 8 < 8 then freq (l % 64 - 8) else 0

/-- The kernel's rotation: a lane, its left neighbour and its right one, three products added up. -/
def turn (a u v q f : EReal) (l : ℕ) : EReal :=
  a * Ideal.cos (q * f) + u * low l (Ideal.sin (q * f)) + v * high l (Ideal.sin (q * f))

/-- It depends on the lane within its head alone. -/
theorem turn_congr (a u v q f : EReal) {l l' : ℕ} (h : l % 64 = l' % 64) : turn a u v q f l = turn a u v q f l' := by
  unfold turn low high
  rw [h]

/-- The kernel's rotation is the rotation. -/
theorem rope_eq (y : ℕ → EReal) (q u v : EReal) (l : ℕ) (hu : 8 ≤ l % 64 → l % 64 < 16 → u = y (l - 8))
    (hv : l % 64 < 8 → v = y (l + 8)) : turn (y l) u v q (lane l) l = rope y (fun i => q * freq i) l := by
  unfold turn rope low high lane
  by_cases h0 : l % 64 < 8
  · rw [if_pos h0, if_pos h0, if_pos h0, if_neg (by omega), hv h0, mul_zero, add_zero]
    rw [zero_sub, mul_neg, sub_eq_add_neg]
  · by_cases h1 : l % 64 - 8 < 8
    · rw [if_neg h0, if_neg h0, if_neg h0, if_pos h1, if_pos h1, if_pos (by omega), hu (by omega) (by omega), mul_zero, add_zero]
    · rw [if_neg h0, if_neg h0, if_neg h0, if_neg h1, if_neg h1, if_neg (by omega), mul_zero, mul_zero, mul_zero, add_zero, add_zero]
      have hc : Ideal.cos 0 = 1 := by
        show ((Real.cos 0 : ℝ) : EReal) = 1
        rw [Real.cos_zero]; rfl
      rw [hc, mul_one]

/-- A gate: the logistic of its column, and of zero past the last gate. -/
def gate (x : Rows) (g : Gain) (w : Weights) (n : Fin 16384) (j : ℕ) : EReal :=
  Ideal.div 1 (1 + Ideal.exp (-(if j < 24 then col x g w n (1280 + j) else 0)))

/-- A rotated query, scaled. -/
def query (x : Rows) (p : Places) (g : Gain) (w : Weights) (n : Fin 16384) (j : ℕ) : EReal :=
  rope (col x g w n) (angle p n) j * Ideal.ofBits .f32 1040187392#32

/-- A rotated key whose heads begin at a column of the projection. -/
def key (o : ℕ) (x : Rows) (p : Places) (g : Gain) (w : Weights) (n : Fin 16384) (j : ℕ) : EReal :=
  rope (fun l => col x g w n (o + l)) (angle p n) j

/-- A column left as it is, counted from a column of the projection. -/
def plain (o : ℕ) (x : Rows) (g : Gain) (w : Weights) (n : Fin 16384) (j : ℕ) : EReal :=
  col x g w n (o + j)

/-- A scaled query of the stick-breaking attention. -/
def scaled (o : ℕ) (x : Rows) (g : Gain) (w : Weights) (n : Fin 16384) (j : ℕ) : EReal :=
  col x g w n (o + j) * Ideal.ofBits .f32 1040187392#32

/-- An array of a row per token, from the value of its every entry. -/
def whole {N : ℕ} (f : Fin 16384 → ℕ → EReal) : (⟨2, ![16384, N]⟩ : Shape).Idx → EReal := fun y => f (y 0) (y 1).val

end Cert.Proj

end
-- ==== Proof.InValue.Pay.lean ====
/-
  The input projection's kernel over the reals: what each grid point stores, at an index.
-/
module

public import proofs.«01_k».proof.Proof.Gen.InProjIdeal.Frame
public import proofs.«01_k».proof.Proof.InValue.Row
public import Idealize.ShloMosaic.Lib.Pipeline.ValueKit

@[expose] public section

set_option maxRecDepth 16384

noncomputable section

namespace Cert.InProjIdeal.In

open Cert.InProjIdeal Cert.InProjIdeal.Gen Cert.Experts Cert.Proj
open Idealize.ShloMosaic Idealize.ShloMosaic.TcCoe Idealize.SL.Sem

variable (x0 : Vec Ideal S512x1024 .f32) (x1 : Vec Ideal S512x1 .i32) (x2 : Vec Ideal S1x1024 .f32) (x3 : Vec Ideal S1x128 .f32) (x4 : Vec Ideal S1024x512 .bf16) (x5 : Vec Ideal S1024x768 .bf16) (x6 : Vec Ideal S1024x128 .bf16) (x7 : Vec Ideal S1024x1536 .bf16)

/-- A column of a block of weights against a normalised row of the block. -/
def line (x0 : Vec Ideal S512x1024 .f32) (x2 : Vec Ideal S1x1024 .f32) {N : ℕ} (w : (⟨2, ![1024, N]⟩ : Shape).Idx → EReal)
    (r : Fin 512) (j : Fin N) : EReal :=
  ∑ k : Fin 1024, normed (fun k => x0 (ix2 r k)) (fun k => x2 (ix2 0 k)) k * w (ix2 k j)

/-- The position of a row of the block, as a real. -/
def place (x1 : Vec Ideal S512x1 .i32) (r : Fin 512) : EReal := FloatOps.sitofp (F := Ideal) FTy.f32 (x1 (ix2 r 0))

/-- The normalised rows. -/
theorem pay31_at (r : Fin 512) (k : Fin 1024) : k0_pay31 (F := Ideal) x0 x1 x2 x3 x4 x5 x6 x7 (ix2 r k)
    = normed (fun k => x0 (ix2 r k)) (fun k => x2 (ix2 0 k)) k := by
  pointwise [k0_pay31, k0_pay3]
  rfl

/-- The cosines. -/
theorem pay32_at (r : Fin 512) (j : Fin 128) : k0_pay32 (F := Ideal) x0 x1 x2 x3 x4 x5 x6 x7 (ix2 r j) = Ideal.cos (place x1 r * x3 (ix2 0 j)) := by
  pointwise [k0_pay32, k0_pay5, k0_pay4]
  rfl

/-- What multiplies the left neighbour, at a lane. -/
theorem pay37_at (r : Fin 512) (j : Fin 128) : k0_pay37 (F := Ideal) x0 x1 x2 x3 x4 x5 x6 x7 (ix2 r j)
    = low j.val (Ideal.sin (FloatOps.sitofp (F := Ideal) FTy.f32 (x1 (ix2 r 0)) * x3 (ix2 0 j))) := by
  pointwise [k0_pay37, k0_pay33, k0_pay34, k0_pay35, k0_pay36, k0_pay11, k0_pay10, k0_pay9, k0_pay8, k0_pay7, k0_pay6, k0_pay4]
  generalize Ideal.sin _ = s
  fin_cases j <;> rfl

/-- What multiplies the right neighbour, at a lane. -/
theorem pay38_at (r : Fin 512) (j : Fin 128) : k0_pay38 (F := Ideal) x0 x1 x2 x3 x4 x5 x6 x7 (ix2 r j)
    = high j.val (Ideal.sin (FloatOps.sitofp (F := Ideal) FTy.f32 (x1 (ix2 r 0)) * x3 (ix2 0 j))) := by
  pointwise [k0_pay38, k0_pay33, k0_pay34, k0_pay35, k0_pay36, k0_pay12, k0_pay10, k0_pay9, k0_pay8, k0_pay7, k0_pay6, k0_pay4]
  generalize Ideal.sin _ = s
  fin_cases j <;> rfl

/-- What multiplies the left neighbour, as the first heads of the queries spell it. -/
theorem pay11_at (r : Fin 512) (j : Fin 128) : k0_pay11 (F := Ideal) (k0_pay33 x0 x1 x2 x3 x4 x5 x6 x7) (k0_pay34 x0 x1 x2 x3 x4 x5 x6 x7) (k0_pay35 x0 x1 x2 x3 x4 x5 x6 x7) (k0_pay36 x0 x1 x2 x3 x4 x5 x6 x7) (ix2 r j)
    = low j.val (Ideal.sin (FloatOps.sitofp (F := Ideal) FTy.f32 (x1 (ix2 r 0)) * x3 (ix2 0 j))) := pay37_at x0 x1 x2 x3 x4 x5 x6 x7 r j

/-- What multiplies the right neighbour, as the first heads of the queries spell it. -/
theorem pay12_at (r : Fin 512) (j : Fin 128) : k0_pay12 (F := Ideal) (k0_pay33 x0 x1 x2 x3 x4 x5 x6 x7) (k0_pay34 x0 x1 x2 x3 x4 x5 x6 x7) (k0_pay35 x0 x1 x2 x3 x4 x5 x6 x7) (k0_pay36 x0 x1 x2 x3 x4 x5 x6 x7) (ix2 r j)
    = high j.val (Ideal.sin (FloatOps.sitofp (F := Ideal) FTy.f32 (x1 (ix2 r 0)) * x3 (ix2 0 j))) := pay38_at x0 x1 x2 x3 x4 x5 x6 x7 r j

/-- The first two heads of the rotated queries. -/
theorem pay14_at (r : Fin 512) (j : Fin 128) : k0_pay14 (F := Ideal) (k0_pay31 x0 x1 x2 x3 x4 x5 x6 x7) (k0_pay32 x0 x1 x2 x3 x4 x5 x6 x7) (k0_pay33 x0 x1 x2 x3 x4 x5 x6 x7) (k0_pay34 x0 x1 x2 x3 x4 x5 x6 x7) (k0_pay35 x0 x1 x2 x3 x4 x5 x6 x7) (k0_pay36 x0 x1 x2 x3 x4 x5 x6 x7) x4 (ix2 r j)
    = turn (line x0 x2 x4 r ⟨j.val, by omega⟩) (line x0 x2 x4 r ⟨(j.val + 128 - 8) % 128, by omega⟩)
        (line x0 x2 x4 r ⟨(j.val + 128 - 120) % 128, by omega⟩) (place x1 r) (x3 (ix2 0 j)) j.val * Ideal.ofBits .f32 1040187392#32 := by
  pointwise [k0_pay14, k0_pay13]
  simp only [pay31_at, pay32_at, pay11_at, pay12_at]
  rfl

/-- The heads of the rotated queries from lane 256. -/
theorem pay18_at (r : Fin 512) (j : Fin 128) : k0_pay18 (F := Ideal) (k0_pay32 x0 x1 x2 x3 x4 x5 x6 x7) (k0_pay37 x0 x1 x2 x3 x4 x5 x6 x7) (k0_pay38 x0 x1 x2 x3 x4 x5 x6 x7) (k0_pay39 x0 x1 x2 x3 x4 x5 x6 x7) (ix2 r j)
    = turn (line x0 x2 x4 r ⟨256 + j.val, by omega⟩) (line x0 x2 x4 r ⟨256 + (j.val + 128 - 8) % 128, by omega⟩)
        (line x0 x2 x4 r ⟨256 + (j.val + 128 - 120) % 128, by omega⟩) (place x1 r) (x3 (ix2 0 j)) j.val * Ideal.ofBits .f32 1040187392#32 := by
  pointwise [k0_pay18, k0_pay39, k0_pay13]
  simp only [pay31_at, pay32_at, pay37_at, pay38_at]
  rfl

/-- The heads of the rotated queries from lane 384. -/
theorem pay19_at (r : Fin 512) (j : Fin 128) : k0_pay19 (F := Ideal) (k0_pay32 x0 x1 x2 x3 x4 x5 x6 x7) (k0_pay37 x0 x1 x2 x3 x4 x5 x6 x7) (k0_pay38 x0 x1 x2 x3 x4 x5 x6 x7) (k0_pay39 x0 x1 x2 x3 x4 x5 x6 x7) (ix2 r j)
    = turn (line x0 x2 x4 r ⟨384 + j.val, by omega⟩) (line x0 x2 x4 r ⟨384 + (j.val + 128 - 8) % 128, by omega⟩)
        (line x0 x2 x4 r ⟨384 + (j.val + 128 - 120) % 128, by omega⟩) (place x1 r) (x3 (ix2 0 j)) j.val * Ideal.ofBits .f32 1040187392#32 := by
  pointwise [k0_pay19, k0_pay39, k0_pay13]
  simp only [pay31_at, pay32_at, pay37_at, pay38_at]
  rfl

/-- The heads of the rotated queries from lane 128. -/
theorem pay17_at (r : Fin 512) (j : Fin 128) : k0_pay17 (F := Ideal) (k0_pay15 (k0_pay31 x0 x1 x2 x3 x4 x5 x6 x7) (k0_pay32 x0 x1 x2 x3 x4 x5 x6 x7) (k0_pay33 x0 x1 x2 x3 x4 x5 x6 x7) (k0_pay34 x0 x1 x2 x3 x4 x5 x6 x7) (k0_pay35 x0 x1 x2 x3 x4 x5 x6 x7) (k0_pay36 x0 x1 x2 x3 x4 x5 x6 x7) x4) k0_pay16 (ix2 r j)
    = turn (line x0 x2 x4 r ⟨128 + j.val, by omega⟩) (line x0 x2 x4 r ⟨128 + (j.val + 128 - 8) % 128, by omega⟩)
        (line x0 x2 x4 r ⟨128 + (j.val + 128 - 120) % 128, by omega⟩) (place x1 r) (x3 (ix2 0 j)) j.val * Ideal.ofBits .f32 1040187392#32 := by
  pointwise [k0_pay17, k0_pay15, k0_pay16, k0_pay13]
  simp only [pay31_at, pay32_at, pay11_at, pay12_at]
  rfl

/-- Two heads' lanes, counted among all the queries' lanes. -/
theorem heads_at (r : Fin 512) (o : ℕ) (ho : o % 128 = 0) (h : o + 128 ≤ 512) (b : Fin 128) (j : Fin 512) (hj : j.val = o + b.val) :
    turn (line x0 x2 x4 r ⟨o + b.val, by omega⟩) (line x0 x2 x4 r ⟨o + (b.val + 128 - 8) % 128, by omega⟩)
        (line x0 x2 x4 r ⟨o + (b.val + 128 - 120) % 128, by omega⟩) (place x1 r) (x3 (ix2 0 b)) b.val
      = turn (line x0 x2 x4 r j) (line x0 x2 x4 r ⟨j.val / 128 * 128 + (j.val % 128 + 128 - 8) % 128, by omega⟩)
        (line x0 x2 x4 r ⟨j.val / 128 * 128 + (j.val % 128 + 128 - 120) % 128, by omega⟩) (place x1 r)
        (x3 (ix2 0 ⟨j.val % 128, Nat.mod_lt _ (by decide)⟩)) j.val := by
  have e0 : (⟨o + b.val, by omega⟩ : Fin 512) = j := Fin.ext hj.symm
  have e1 : (⟨j.val / 128 * 128 + (j.val % 128 + 128 - 8) % 128, by omega⟩ : Fin 512) = ⟨o + (b.val + 128 - 8) % 128, by omega⟩ :=
    Fin.ext (by show j.val / 128 * 128 + (j.val % 128 + 128 - 8) % 128 = o + (b.val + 128 - 8) % 128; omega)
  have e2 : (⟨j.val / 128 * 128 + (j.val % 128 + 128 - 120) % 128, by omega⟩ : Fin 512) = ⟨o + (b.val + 128 - 120) % 128, by omega⟩ :=
    Fin.ext (by show j.val / 128 * 128 + (j.val % 128 + 128 - 120) % 128 = o + (b.val + 128 - 120) % 128; omega)
  have e3 : (⟨j.val % 128, Nat.mod_lt _ (by decide)⟩ : Fin 128) = b := Fin.ext (by show j.val % 128 = b.val; omega)
  rw [e0, e1, e2, e3]
  exact turn_congr _ _ _ _ _ (by omega)

/-- The rotated queries. -/
theorem out8_at (r : Fin 512) (j : Fin 512) : out0_8 (F := Ideal) x0 x1 x2 x3 x4 x5 x6 x7 (ix2 r j)
    = turn (line x0 x2 x4 r j) (line x0 x2 x4 r ⟨j.val / 128 * 128 + (j.val % 128 + 128 - 8) % 128, by omega⟩)
        (line x0 x2 x4 r ⟨j.val / 128 * 128 + (j.val % 128 + 128 - 120) % 128, by omega⟩) (place x1 r)
        (x3 (ix2 0 ⟨j.val % 128, Nat.mod_lt _ (by decide)⟩)) j.val * Ideal.ofBits .f32 1040187392#32 := by
  frame_out
  canon_tiles x h
  all_goals
    obtain ⟨a, b, rfl⟩ : ∃ (a : Fin 512) (b : Fin 128), x = (ix2 a b : S512x128.Idx) := ⟨x 0, x 1, eq_ix2 x⟩
    obtain rfl : r = a := Fin.ext h0
  · exact (pay19_at x0 x1 x2 x3 x4 x5 x6 x7 r b).trans (congrArg (· * _) (heads_at x0 x1 x2 x3 x4 r 384 (by decide) (by decide) b j h1))
  · exact (pay18_at x0 x1 x2 x3 x4 x5 x6 x7 r b).trans (congrArg (· * _) (heads_at x0 x1 x2 x3 x4 r 256 (by decide) (by decide) b j h1))
  · exact (pay17_at x0 x1 x2 x3 x4 x5 x6 x7 r b).trans (congrArg (· * _) (heads_at x0 x1 x2 x3 x4 r 128 (by decide) (by decide) b j h1))
  · refine (pay14_at x0 x1 x2 x3 x4 x5 x6 x7 r b).trans (congrArg (· * _) (Eq.trans ?_ (heads_at x0 x1 x2 x3 x4 r 0 (by decide) (by decide) b j
      (h1.trans (Nat.zero_add _).symm))))
    simp only [Nat.zero_add]

/-- The keys and values to compress. -/
theorem out9_at (r : Fin 512) (j : Fin 256) : out0_9 (F := Ideal) x0 x1 x2 x3 x4 x5 x6 x7 (ix2 r j)
    = line x0 x2 x5 r ⟨j.val, by omega⟩ := by
  frame_out
  pointwise [k0_pay21, k0_pay20, k0_pay40]
  simp only [pay31_at]
  rfl

/-- The selection's rotated keys. -/
theorem out10_at (r : Fin 512) (j : Fin 128) : out0_10 (F := Ideal) x0 x1 x2 x3 x4 x5 x6 x7 (ix2 r j)
    = turn (line x0 x2 x5 r ⟨256 + j.val, by omega⟩) (line x0 x2 x5 r ⟨256 + (j.val + 128 - 8) % 128, by omega⟩)
        (line x0 x2 x5 r ⟨256 + (j.val + 128 - 120) % 128, by omega⟩) (place x1 r) (x3 (ix2 0 j)) j.val := by
  frame_out
  pointwise [k0_pay24, k0_pay23, k0_pay22, k0_pay20, k0_pay40]
  simp only [pay31_at, pay32_at, pay37_at, pay38_at]
  rfl

/-- The selection's values. -/
theorem out11_at (r : Fin 512) (j : Fin 128) : out0_11 (F := Ideal) x0 x1 x2 x3 x4 x5 x6 x7 (ix2 r j)
    = line x0 x2 x5 r ⟨384 + j.val, by omega⟩ := by
  frame_out
  pointwise [k0_pay25, k0_pay20, k0_pay40]
  simp only [pay31_at]
  rfl

/-- The window's rotated keys. -/
theorem out12_at (r : Fin 512) (j : Fin 128) : out0_12 (F := Ideal) x0 x1 x2 x3 x4 x5 x6 x7 (ix2 r j)
    = turn (line x0 x2 x5 r ⟨512 + j.val, by omega⟩) (line x0 x2 x5 r ⟨512 + (j.val + 128 - 8) % 128, by omega⟩)
        (line x0 x2 x5 r ⟨512 + (j.val + 128 - 120) % 128, by omega⟩) (place x1 r) (x3 (ix2 0 j)) j.val := by
  frame_out
  pointwise [k0_pay26, k0_pay20, k0_pay40]
  simp only [pay31_at, pay32_at, pay37_at, pay38_at]
  rfl

/-- The window's values. -/
theorem out13_at (r : Fin 512) (j : Fin 128) : out0_13 (F := Ideal) x0 x1 x2 x3 x4 x5 x6 x7 (ix2 r j)
    = line x0 x2 x5 r ⟨640 + j.val, by omega⟩ := by
  frame_out
  pointwise [k0_pay27, k0_pay20, k0_pay40]
  simp only [pay31_at]
  rfl

/-- The gates. -/
theorem out14_at (r : Fin 512) (j : Fin 128) : out0_14 (F := Ideal) x0 x1 x2 x3 x4 x5 x6 x7 (ix2 r j)
    = Ideal.logistic (line x0 x2 x6 r j) := by
  frame_out
  pointwise [k0_pay28]
  simp only [pay31_at]
  rfl

/-- The stick-breaking queries. -/
theorem out15_at (r : Fin 512) (j : Fin 512) : out0_15 (F := Ideal) x0 x1 x2 x3 x4 x5 x6 x7 (ix2 r j)
    = line x0 x2 x7 r ⟨j.val, by omega⟩ * Ideal.ofBits .f32 1040187392#32 := by
  frame_out
  pointwise [k0_pay30, k0_pay41, k0_pay29]
  simp only [pay31_at]
  rfl

/-- The stick-breaking keys. -/
theorem out16_at (r : Fin 512) (j : Fin 512) : out0_16 (F := Ideal) x0 x1 x2 x3 x4 x5 x6 x7 (ix2 r j)
    = line x0 x2 x7 r ⟨512 + j.val, by omega⟩ := by
  frame_out
  pointwise [k0_pay1, k0_pay41, k0_pay29]
  simp only [pay31_at]
  rfl

/-- The stick-breaking values. -/
theorem out17_at (r : Fin 512) (j : Fin 512) : out0_17 (F := Ideal) x0 x1 x2 x3 x4 x5 x6 x7 (ix2 r j)
    = line x0 x2 x7 r ⟨1024 + j.val, by omega⟩ := by
  frame_out
  pointwise [k0_pay2, k0_pay41, k0_pay29]
  simp only [pay31_at]
  rfl

end Cert.InProjIdeal.In

end
-- ==== Proof.InValue.Array.lean ====
/-
  The input projection's kernel over the reals: the host's buffers, the blocks, and the ten result arrays.
-/
module

public import proofs.«01_k».proof.Proof.Gen.InProjIdeal.Frame
public import proofs.«01_k».proof.Proof.InValue.Pay
public import Idealize.ShloMosaic.Lib.Pipeline.ValueKit
public import Idealize.ShloMosaic.Lib.Pipeline.Covers
public import Idealize.ShloMosaic.Lib.StableHlo.Run

@[expose] public section

set_option maxRecDepth 16384

noncomputable section

namespace Cert.InProjIdeal.In

open Cert.InProjIdeal Cert.InProjIdeal.Gen Cert.Experts Cert.Proj
open Idealize.ShloMosaic Idealize.ShloMosaic.TcCoe Idealize.SL.Sem
open Idealize.ShloMosaic.Pipeline (Dat)

variable (m : (ℓ : Loc nD τ sig) → Buf (Elt Ideal) ℓ)

/-- Every window's block at every grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] :=
  (by decide +kernel : ∀ t : Fin grid0.N, _)

/-- A row of a grid point's block, as a row of the whole array. -/
def row (t : Fin cfg0.N) (r : Fin 512) : Fin 16384 :=
  ⟨t.val * 512 + r.val, by have : t.val < 32 := t.isLt; omega⟩

set_option maxHeartbeats 4000000 in
/-- The positions, as a column. -/
theorem V25_at (c : Dev nD) (n : Fin 16384) : V m c main_v25 (ix2 n 0) = m ((c : Thread nD τ).loc main_arg1) (ix1 n) := by
  dsimp only [V]
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results
  pointwise

set_option maxHeartbeats 4000000 in
/-- The gain, as a row. -/
theorem V26_at (c : Dev nD) (k : Fin 1024) : V m c main_v26 (ix2 0 k) = m ((c : Thread nD τ).loc main_arg2) (ix1 k) := by
  dsimp only [V]
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results
  pointwise

set_option maxHeartbeats 4000000 in
/-- The frequency of every lane. -/
theorem V24_at (c : Dev nD) (j : Fin 128) : V m c main_v24 (ix2 0 j) = lane j.val := by
  dsimp only [V]
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results
  pointwise
  after_results_simp
  pointwise
  rfl

set_option maxHeartbeats 4000000 in
/-- The queries' columns of the weights. -/
theorem V1_at (c : Dev nD) (k : Fin 1024) (j : Fin 512) : V m c main_v1 (ix2 k j) = m ((c : Thread nD τ).loc main_arg3) (ix2 k (Fin.ofNat 2840 j.val)) := by
  dsimp only [V]
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  pointwise
  exact congrArg (fun q => m ((c : Thread nD τ).loc main_arg3) (ix2 k q)) (Fin.ext (Nat.mod_eq_of_lt (by omega)).symm)

set_option maxHeartbeats 4000000 in
/-- The keys' and values' columns. -/
theorem V3_at (c : Dev nD) (k : Fin 1024) (j : Fin 768) : V m c main_v3 (ix2 k j) = m ((c : Thread nD τ).loc main_arg3) (ix2 k (Fin.ofNat 2840 (512 + j.val))) := by
  dsimp only [V]
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  pointwise
  exact congrArg (fun q => m ((c : Thread nD τ).loc main_arg3) (ix2 k q)) (Fin.ext (Nat.mod_eq_of_lt (by omega)).symm)

set_option maxHeartbeats 4000000 in
/-- The stick-breaking columns. -/
theorem V8_at (c : Dev nD) (k : Fin 1024) (j : Fin 1536) : V m c main_v8 (ix2 k j) = m ((c : Thread nD τ).loc main_arg3) (ix2 k (Fin.ofNat 2840 (1304 + j.val))) := by
  dsimp only [V]
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  pointwise
  exact congrArg (fun q => m ((c : Thread nD τ).loc main_arg3) (ix2 k q)) (Fin.ext (Nat.mod_eq_of_lt (by omega)).symm)

set_option maxHeartbeats 4000000 in
/-- The gates' columns, and zeros. -/
theorem V6_at (c : Dev nD) (k : Fin 1024) (j : Fin 128) : V m c main_v6 (ix2 k j) = if j.val < 24 then (show EReal from m ((c : Thread nD τ).loc main_arg3) (ix2 k (Fin.ofNat 2840 (1280 + j.val)))) else 0 := by
  dsimp only [V]
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  pointwise
  by_cases h : j.val < 24
  · rw [dif_pos h, if_pos h]
    exact congrArg (fun q => m ((c : Thread nD τ).loc main_arg3) (ix2 k q)) (Fin.ext (Nat.mod_eq_of_lt (by omega)).symm)
  · rw [dif_neg h, if_neg h]
    show ((((0#32 : BitVec 32).toInt : ℤ) : ℝ) : EReal) = 0
    simp

/-- The row blocks are the rows. -/
theorem iblk0_at (c : Dev nD) (t : Fin cfg0.N) (r : Fin 512) (k : Fin 1024) :
    iblk m c 0 t (ix2 r k) = m ((c : Thread nD τ).loc main_arg0) (ix2 (row t r) k) := by
  blk_ext [iblk, row, V, idx t]

/-- The block of the positions. -/
theorem iblk1_at (c : Dev nD) (t : Fin cfg0.N) (r : Fin 512) :
    iblk m c 1 t (ix2 r 0) = m ((c : Thread nD τ).loc main_arg1) (ix1 (row t r)) := by
  have e : (win0_1.blk t).view.emb (ix2 r 0) = ix2 (row t r) 0 := by blk_ext [row, idx t]
  exact (congrArg (V m c main_v25) e).trans (V25_at m c _)

/-- The gain's block. -/
theorem iblk2_at (c : Dev nD) (t : Fin cfg0.N) (k : Fin 1024) : iblk m c 2 t (ix2 0 k) = m ((c : Thread nD τ).loc main_arg2) (ix1 k) := by
  have e : (win0_2.blk t).view.emb (ix2 0 k) = ix2 0 k := by blk_ext [idx t]
  exact (congrArg (V m c main_v26) e).trans (V26_at m c k)

/-- The frequencies' block. -/
theorem iblk3_at (c : Dev nD) (t : Fin cfg0.N) (j : Fin 128) : iblk m c 3 t (ix2 0 j) = lane j.val := by
  have e : (win0_3.blk t).view.emb (ix2 0 j) = ix2 0 j := by blk_ext [idx t]
  exact (congrArg (V m c main_v24) e).trans (V24_at m c j)

theorem iblk4_at (c : Dev nD) (t : Fin cfg0.N) (k : Fin 1024) (j : Fin 512) :
    iblk m c 4 t (ix2 k j) = m ((c : Thread nD τ).loc main_arg3) (ix2 k (Fin.ofNat 2840 j.val)) := by
  have e : (win0_4.blk t).view.emb (ix2 k j) = ix2 k j := by blk_ext [idx t]
  exact (congrArg (V m c main_v1) e).trans (V1_at m c k j)

theorem iblk5_at (c : Dev nD) (t : Fin cfg0.N) (k : Fin 1024) (j : Fin 768) :
    iblk m c 5 t (ix2 k j) = m ((c : Thread nD τ).loc main_arg3) (ix2 k (Fin.ofNat 2840 (512 + j.val))) := by
  have e : (win0_5.blk t).view.emb (ix2 k j) = ix2 k j := by blk_ext [idx t]
  exact (congrArg (V m c main_v3) e).trans (V3_at m c k j)

theorem iblk7_at (c : Dev nD) (t : Fin cfg0.N) (k : Fin 1024) (j : Fin 1536) :
    iblk m c 7 t (ix2 k j) = m ((c : Thread nD τ).loc main_arg3) (ix2 k (Fin.ofNat 2840 (1304 + j.val))) := by
  have e : (win0_7.blk t).view.emb (ix2 k j) = ix2 k j := by blk_ext [idx t]
  exact (congrArg (V m c main_v8) e).trans (V8_at m c k j)

theorem iblk6_at (c : Dev nD) (t : Fin cfg0.N) (k : Fin 1024) (j : Fin 128) :
    iblk m c 6 t (ix2 k j) = if j.val < 24 then (show EReal from m ((c : Thread nD τ).loc main_arg3) (ix2 k (Fin.ofNat 2840 (1280 + j.val)))) else 0 := by
  have e : (win0_6.blk t).view.emb (ix2 k j) = ix2 k j := by blk_ext [idx t]
  exact (congrArg (V m c main_v6) e).trans (V6_at m c k j)

/-- A column of a block of the weights, over the whole arrays. -/
theorem line_at (c : Dev nD) (t : Fin cfg0.N) (r : Fin 512) {N : ℕ} (w : (⟨2, ![1024, N]⟩ : Shape).Idx → EReal) (j : Fin N) (q : ℕ)
    (h : ∀ k : Fin 1024, w (ix2 k j) = m ((c : Thread nD τ).loc main_arg3) (ix2 k (Fin.ofNat 2840 q))) :
    line (iblk m c 0 t) (iblk m c 2 t) w r j = col (m ((c : Thread nD τ).loc main_arg0)) (m ((c : Thread nD τ).loc main_arg2)) (m ((c : Thread nD τ).loc main_arg3)) (row t r) q := by
  refine Finset.sum_congr (M := EReal) rfl fun k _ => congrArg₂ (· * ·) ?_ (h k)
  exact congrArg₂ (fun x g => normed x g k) (funext fun k => iblk0_at m c t r k) (funext fun k => iblk2_at m c t k)

/-- A row's position, over the whole array. -/
theorem place_at (c : Dev nD) (t : Fin cfg0.N) (r : Fin 512) :
    place (iblk m c 1 t) r = FloatOps.sitofp (F := Ideal) FTy.f32 (m ((c : Thread nD τ).loc main_arg1) (ix1 (row t r))) :=
  congrArg (FloatOps.sitofp (F := Ideal) FTy.f32) (iblk1_at m c t r)

/-- The rotation of two heads of keys, over the whole arrays. -/
theorem keys_at (c : Dev nD) (t : Fin cfg0.N) (r : Fin 512) (o : ℕ) (h : o + 128 ≤ 768) (j : Fin 128) :
    turn (line (iblk m c 0 t) (iblk m c 2 t) (iblk m c 5 t) r ⟨o + j.val, by omega⟩)
        (line (iblk m c 0 t) (iblk m c 2 t) (iblk m c 5 t) r ⟨o + (j.val + 128 - 8) % 128, by omega⟩)
        (line (iblk m c 0 t) (iblk m c 2 t) (iblk m c 5 t) r ⟨o + (j.val + 128 - 120) % 128, by omega⟩)
        (place (iblk m c 1 t) r) (iblk m c 3 t (ix2 0 j)) j.val
      = key (512 + o) (m ((c : Thread nD τ).loc main_arg0)) (m ((c : Thread nD τ).loc main_arg1)) (m ((c : Thread nD τ).loc main_arg2)) (m ((c : Thread nD τ).loc main_arg3)) (row t r) j.val := by
  rw [line_at m c t r _ _ _ fun k => iblk5_at m c t k _, line_at m c t r _ _ _ fun k => iblk5_at m c t k _,
    line_at m c t r _ _ _ fun k => iblk5_at m c t k _, place_at, iblk3_at]
  simp only [← Nat.add_assoc]
  exact rope_eq (fun l => col (m ((c : Thread nD τ).loc main_arg0)) (m ((c : Thread nD τ).loc main_arg2)) (m ((c : Thread nD τ).loc main_arg3)) (row t r) (512 + o + l)) _ _ _ j.val
    (fun h0 h1 => congrArg (col _ _ _ _) (by omega)) (fun h0 => congrArg (col _ _ _ _) (by omega))

/-- The rotated queries. -/
theorem arr8 (c : Dev nD) : (dats m 0 c).arrAt 8 cfg0.N = (whole (query (m ((c : Thread nD τ).loc main_arg0)) (m ((c : Thread nD τ).loc main_arg1)) (m ((c : Thread nD τ).loc main_arg2)) (m ((c : Thread nD τ).loc main_arg3))) : S16384x512.Idx → EReal) := by
  refine (dats m 0 c).arrAt_eq_of_covers 8 _ (by decide +kernel) fun t hf y => ?_
  obtain ⟨r, j, rfl⟩ : ∃ (r : Fin 512) (j : Fin 512), y = (ix2 r j : S512x512.Idx) := ⟨y 0, y 1, eq_ix2 y⟩
  blk_simp
  rw [after0_8]
  have e : (win0_8.blk t).view.emb (ix2 r j : S512x512.Idx) = (ix2 (row t r) j : S16384x512.Idx) := by
    blk_ext [row, idx t]
  rw [e]
  refine (out8_at _ _ _ _ _ _ _ _ r j).trans ?_
  show _ = query _ _ _ _ (row t r) j.val
  refine congrArg (· * _) ?_
  rw [line_at m c t r _ _ _ fun k => iblk4_at m c t k _, line_at m c t r _ _ _ fun k => iblk4_at m c t k _,
    line_at m c t r _ _ _ fun k => iblk4_at m c t k _, place_at, iblk3_at]
  have hl : lane (j.val % 128) = lane j.val := by unfold lane; rw [show j.val % 128 % 64 = j.val % 64 by omega]
  rw [hl]
  exact rope_eq (col (m ((c : Thread nD τ).loc main_arg0)) (m ((c : Thread nD τ).loc main_arg2)) (m ((c : Thread nD τ).loc main_arg3)) (row t r)) _ _ _ j.val
    (fun h0 h1 => congrArg (col _ _ _ _) (by show j.val / 128 * 128 + (j.val % 128 + 128 - 8) % 128 = j.val - 8; omega))
    (fun h0 => congrArg (col _ _ _ _) (by show j.val / 128 * 128 + (j.val % 128 + 128 - 120) % 128 = j.val + 8; omega))

/-- The keys and values to compress. -/
theorem arr9 (c : Dev nD) : (dats m 0 c).arrAt 9 cfg0.N = (whole (plain 512 (m ((c : Thread nD τ).loc main_arg0)) (m ((c : Thread nD τ).loc main_arg2)) (m ((c : Thread nD τ).loc main_arg3))) : S16384x256.Idx → EReal) := by
  refine (dats m 0 c).arrAt_eq_of_covers 9 _ (by decide +kernel) fun t hf y => ?_
  obtain ⟨r, j, rfl⟩ : ∃ (r : Fin 512) (j : Fin 256), y = (ix2 r j : S512x256.Idx) := ⟨y 0, y 1, eq_ix2 y⟩
  blk_simp
  rw [after0_9]
  have e : (win0_9.blk t).view.emb (ix2 r j : S512x256.Idx) = (ix2 (row t r) j : S16384x256.Idx) := by
    blk_ext [row, idx t]
  rw [e]
  refine (out9_at _ _ _ _ _ _ _ _ r j).trans ?_
  show _ = plain 512 _ _ _ (row t r) j.val
  exact line_at m c t r _ _ _ fun k => (iblk5_at m c t k _).trans
    (congrArg (fun q => m ((c : Thread nD τ).loc main_arg3) (ix2 k (Fin.ofNat 2840 q))) (show 512 + j.val = 512 + j.val by omega))

/-- The selection's keys. -/
theorem arr10 (c : Dev nD) : (dats m 0 c).arrAt 10 cfg0.N = (whole (key 768 (m ((c : Thread nD τ).loc main_arg0)) (m ((c : Thread nD τ).loc main_arg1)) (m ((c : Thread nD τ).loc main_arg2)) (m ((c : Thread nD τ).loc main_arg3))) : S16384x128.Idx → EReal) := by
  refine (dats m 0 c).arrAt_eq_of_covers 10 _ (by decide +kernel) fun t hf y => ?_
  obtain ⟨r, j, rfl⟩ : ∃ (r : Fin 512) (j : Fin 128), y = (ix2 r j : S512x128.Idx) := ⟨y 0, y 1, eq_ix2 y⟩
  blk_simp
  rw [after0_10]
  have e : (win0_10.blk t).view.emb (ix2 r j : S512x128.Idx) = (ix2 (row t r) j : S16384x128.Idx) := by
    blk_ext [row, idx t]
  rw [e]
  refine (out10_at _ _ _ _ _ _ _ _ r j).trans ?_
  exact keys_at m c t r 256 (by decide) j

/-- The selection's values. -/
theorem arr11 (c : Dev nD) : (dats m 0 c).arrAt 11 cfg0.N = (whole (plain 896 (m ((c : Thread nD τ).loc main_arg0)) (m ((c : Thread nD τ).loc main_arg2)) (m ((c : Thread nD τ).loc main_arg3))) : S16384x128.Idx → EReal) := by
  refine (dats m 0 c).arrAt_eq_of_covers 11 _ (by decide +kernel) fun t hf y => ?_
  obtain ⟨r, j, rfl⟩ : ∃ (r : Fin 512) (j : Fin 128), y = (ix2 r j : S512x128.Idx) := ⟨y 0, y 1, eq_ix2 y⟩
  blk_simp
  rw [after0_11]
  have e : (win0_11.blk t).view.emb (ix2 r j : S512x128.Idx) = (ix2 (row t r) j : S16384x128.Idx) := by
    blk_ext [row, idx t]
  rw [e]
  refine (out11_at _ _ _ _ _ _ _ _ r j).trans ?_
  show _ = plain 896 _ _ _ (row t r) j.val
  exact line_at m c t r _ _ _ fun k => (iblk5_at m c t k _).trans
    (congrArg (fun q => m ((c : Thread nD τ).loc main_arg3) (ix2 k (Fin.ofNat 2840 q))) (show 512 + (384 + j.val) = 896 + j.val by omega))

/-- The window's keys. -/
theorem arr12 (c : Dev nD) : (dats m 0 c).arrAt 12 cfg0.N = (whole (key 1024 (m ((c : Thread nD τ).loc main_arg0)) (m ((c : Thread nD τ).loc main_arg1)) (m ((c : Thread nD τ).loc main_arg2)) (m ((c : Thread nD τ).loc main_arg3))) : S16384x128.Idx → EReal) := by
  refine (dats m 0 c).arrAt_eq_of_covers 12 _ (by decide +kernel) fun t hf y => ?_
  obtain ⟨r, j, rfl⟩ : ∃ (r : Fin 512) (j : Fin 128), y = (ix2 r j : S512x128.Idx) := ⟨y 0, y 1, eq_ix2 y⟩
  blk_simp
  rw [after0_12]
  have e : (win0_12.blk t).view.emb (ix2 r j : S512x128.Idx) = (ix2 (row t r) j : S16384x128.Idx) := by
    blk_ext [row, idx t]
  rw [e]
  refine (out12_at _ _ _ _ _ _ _ _ r j).trans ?_
  exact keys_at m c t r 512 (by decide) j

/-- The window's values. -/
theorem arr13 (c : Dev nD) : (dats m 0 c).arrAt 13 cfg0.N = (whole (plain 1152 (m ((c : Thread nD τ).loc main_arg0)) (m ((c : Thread nD τ).loc main_arg2)) (m ((c : Thread nD τ).loc main_arg3))) : S16384x128.Idx → EReal) := by
  refine (dats m 0 c).arrAt_eq_of_covers 13 _ (by decide +kernel) fun t hf y => ?_
  obtain ⟨r, j, rfl⟩ : ∃ (r : Fin 512) (j : Fin 128), y = (ix2 r j : S512x128.Idx) := ⟨y 0, y 1, eq_ix2 y⟩
  blk_simp
  rw [after0_13]
  have e : (win0_13.blk t).view.emb (ix2 r j : S512x128.Idx) = (ix2 (row t r) j : S16384x128.Idx) := by
    blk_ext [row, idx t]
  rw [e]
  refine (out13_at _ _ _ _ _ _ _ _ r j).trans ?_
  show _ = plain 1152 _ _ _ (row t r) j.val
  exact line_at m c t r _ _ _ fun k => (iblk5_at m c t k _).trans
    (congrArg (fun q => m ((c : Thread nD τ).loc main_arg3) (ix2 k (Fin.ofNat 2840 q))) (show 512 + (640 + j.val) = 1152 + j.val by omega))

/-- The gates. -/
theorem arr14 (c : Dev nD) : (dats m 0 c).arrAt 14 cfg0.N = (whole (gate (m ((c : Thread nD τ).loc main_arg0)) (m ((c : Thread nD τ).loc main_arg2)) (m ((c : Thread nD τ).loc main_arg3))) : S16384x128.Idx → EReal) := by
  refine (dats m 0 c).arrAt_eq_of_covers 14 _ (by decide +kernel) fun t hf y => ?_
  obtain ⟨r, j, rfl⟩ : ∃ (r : Fin 512) (j : Fin 128), y = (ix2 r j : S512x128.Idx) := ⟨y 0, y 1, eq_ix2 y⟩
  blk_simp
  rw [after0_14]
  have e : (win0_14.blk t).view.emb (ix2 r j : S512x128.Idx) = (ix2 (row t r) j : S16384x128.Idx) := by
    blk_ext [row, idx t]
  rw [e]
  refine (out14_at _ _ _ _ _ _ _ _ r j).trans ?_
  show _ = gate _ _ _ (row t r) j.val
  refine congrArg (fun z : EReal => Ideal.div 1 (1 + Ideal.exp (-z))) ?_
  by_cases h : j.val < 24
  · refine (line_at m c t r _ _ _ fun k => (iblk6_at m c t k j).trans (if_pos h)).trans (if_pos h).symm
  · refine Eq.trans ?_ (if_neg h).symm
    refine Finset.sum_eq_zero (M := EReal) fun k _ => ?_
    rw [iblk6_at, if_neg h, mul_zero]

/-- The stick-breaking queries. -/
theorem arr15 (c : Dev nD) : (dats m 0 c).arrAt 15 cfg0.N = (whole (scaled 1304 (m ((c : Thread nD τ).loc main_arg0)) (m ((c : Thread nD τ).loc main_arg2)) (m ((c : Thread nD τ).loc main_arg3))) : S16384x512.Idx → EReal) := by
  refine (dats m 0 c).arrAt_eq_of_covers 15 _ (by decide +kernel) fun t hf y => ?_
  obtain ⟨r, j, rfl⟩ : ∃ (r : Fin 512) (j : Fin 512), y = (ix2 r j : S512x512.Idx) := ⟨y 0, y 1, eq_ix2 y⟩
  blk_simp
  rw [after0_15]
  have e : (win0_15.blk t).view.emb (ix2 r j : S512x512.Idx) = (ix2 (row t r) j : S16384x512.Idx) := by
    blk_ext [row, idx t]
  rw [e]
  refine (out15_at _ _ _ _ _ _ _ _ r j).trans ?_
  exact congrArg (· * _) (line_at m c t r _ _ _ fun k => iblk7_at m c t k _)

/-- The stick-breaking keys. -/
theorem arr16 (c : Dev nD) : (dats m 0 c).arrAt 16 cfg0.N = (whole (plain 1816 (m ((c : Thread nD τ).loc main_arg0)) (m ((c : Thread nD τ).loc main_arg2)) (m ((c : Thread nD τ).loc main_arg3))) : S16384x512.Idx → EReal) := by
  refine (dats m 0 c).arrAt_eq_of_covers 16 _ (by decide +kernel) fun t hf y => ?_
  obtain ⟨r, j, rfl⟩ : ∃ (r : Fin 512) (j : Fin 512), y = (ix2 r j : S512x512.Idx) := ⟨y 0, y 1, eq_ix2 y⟩
  blk_simp
  rw [after0_16]
  have e : (win0_16.blk t).view.emb (ix2 r j : S512x512.Idx) = (ix2 (row t r) j : S16384x512.Idx) := by
    blk_ext [row, idx t]
  rw [e]
  refine (out16_at _ _ _ _ _ _ _ _ r j).trans ?_
  show _ = plain 1816 _ _ _ (row t r) j.val
  exact line_at m c t r _ _ _ fun k => (iblk7_at m c t k _).trans
    (congrArg (fun q => m ((c : Thread nD τ).loc main_arg3) (ix2 k (Fin.ofNat 2840 q))) (show 1304 + (512 + j.val) = 1816 + j.val by omega))

/-- The stick-breaking values. -/
theorem arr17 (c : Dev nD) : (dats m 0 c).arrAt 17 cfg0.N = (whole (plain 2328 (m ((c : Thread nD τ).loc main_arg0)) (m ((c : Thread nD τ).loc main_arg2)) (m ((c : Thread nD τ).loc main_arg3))) : S16384x512.Idx → EReal) := by
  refine (dats m 0 c).arrAt_eq_of_covers 17 _ (by decide +kernel) fun t hf y => ?_
  obtain ⟨r, j, rfl⟩ : ∃ (r : Fin 512) (j : Fin 512), y = (ix2 r j : S512x512.Idx) := ⟨y 0, y 1, eq_ix2 y⟩
  blk_simp
  rw [after0_17]
  have e : (win0_17.blk t).view.emb (ix2 r j : S512x512.Idx) = (ix2 (row t r) j : S16384x512.Idx) := by
    blk_ext [row, idx t]
  rw [e]
  refine (out17_at _ _ _ _ _ _ _ _ r j).trans ?_
  show _ = plain 2328 _ _ _ (row t r) j.val
  exact line_at m c t r _ _ _ fun k => (iblk7_at m c t k _).trans
    (congrArg (fun q => m ((c : Thread nD τ).loc main_arg3) (ix2 k (Fin.ofNat 2840 q))) (show 1304 + (1024 + j.val) = 2328 + j.val by omega))

end Cert.InProjIdeal.In

end
-- ==== Proof.InValue.Equal.lean ====
/-
  The input projection's kernel computes its reference: both runs leave the same ten arrays.
-/
module

public import proofs.«01_k».proof.Defs
public import proofs.«01_k».proof.Proof.Gen.InProjIdeal.Value
public import proofs.«01_k».proof.Proof.Gen.InProjRefIdeal.Run
public import proofs.«01_k».proof.Proof.InValue.Array

@[expose] public section

set_option maxRecDepth 16384

noncomputable section

namespace Cert.EqualInProj

open Cert.Experts Cert.Proj
open Idealize.ShloMosaic Idealize.ShloMosaic.TcCoe Idealize.SL.Sem

/-- Two arrays of rows agree where their entries do. -/
theorem rows_ext {N : ℕ} (a : (⟨2, ![16384, N]⟩ : Shape).Idx → EReal) (f : Fin 16384 → ℕ → EReal)
    (h : ∀ (n : Fin 16384) (j : Fin N), a (ix2 n j) = f n j.val) : a = whole f := by
  funext y
  obtain ⟨n, j, rfl⟩ : ∃ (n : Fin 16384) (j : Fin N), y = ix2 n j := ⟨y 0, y 1, eq_ix2 y⟩
  exact h n j

/-- The integer zero is the real zero. -/
theorem sitofp_zero : FloatOps.sitofp (F := Ideal) FTy.f32 0#32 = (0 : EReal) := by
  show ((((0#32 : BitVec 32).toInt : ℤ) : ℝ) : EReal) = 0
  simp

/-- A column of the reference's projection, however its number is spelt. -/
theorem col_of (x : Rows) (g : Gain) (w : Weights) (n : Fin 16384) (q : Fin 2840) (o : ℕ) (h : q.val = o) :
    (∑ k : Fin 1024, x (ix2 n k) * Ideal.rsqrt (Ideal.div (∑ k : Fin 1024, x (ix2 n k) * x (ix2 n k)) (Ideal.ofBits .f32 1149239296#32)
      + Ideal.ofBits .f32 897988541#32) * g (ix1 k) * w (ix2 k q)) = col x g w n o := by
  subst h
  exact Finset.sum_congr (M := EReal) rfl fun k _ => congrArg (_ * ·) (congrArg (fun q => w (ix2 k q)) (Fin.ext (Nat.mod_eq_of_lt q.isLt).symm))

theorem rope_low (y a : ℕ → EReal) (l : ℕ) (h : l % 64 < 8) :
    rope y a l = y l * Ideal.cos (a (l % 64)) - y (l + 8) * Ideal.sin (a (l % 64)) := if_pos h

theorem rope_mid (y a : ℕ → EReal) (l : ℕ) (h : ¬ l % 64 < 8) (h' : l % 64 - 8 < 8) :
    rope y a l = y l * Ideal.cos (a (l % 64 - 8)) + y (l - 8) * Ideal.sin (a (l % 64 - 8)) := (if_neg h).trans (if_pos h')

theorem rope_high (y a : ℕ → EReal) (l : ℕ) (h : ¬ l % 64 < 8) (h' : ¬ l % 64 - 8 < 8) :
    rope y a l = y l := (if_neg h).trans (if_neg h')

open Cert.InProjRefIdeal in
/-- The reference's queries. -/
theorem v65_at (m : (ℓ : Loc nD τ sig) → Buf (Elt Ideal) ℓ) (c : Dev nD) (n : Fin 16384) (j : Fin 512) :
    Cert.InProjRefIdeal.Value.res_main_v65 (F := Ideal) m c (ix2 n j) = query (m ((c : Thread nD τ).loc main_arg0)) (m ((c : Thread nD τ).loc main_arg1)) (m ((c : Thread nD τ).loc main_arg2)) (m ((c : Thread nD τ).loc main_arg3)) n j.val := by
  pointwise [Cert.InProjRefIdeal.Value.res_main_v65]
  refine congrArg (· * Ideal.ofBits .f32 1040187392#32) ?_
  show _ = rope (col (m ((c : Thread nD τ).loc main_arg0)) (m ((c : Thread nD τ).loc main_arg2)) (m ((c : Thread nD τ).loc main_arg3)) n) (angle (m ((c : Thread nD τ).loc main_arg1)) n) j.val
  by_cases h0 : j.val % 64 < 8
  · rw [dif_pos h0, rope_low _ _ j.val h0]
    refine congrArg₂ (· - ·) (congrArg (· * _) (col_of _ _ _ n _ _ ?_)) (congrArg (· * _) (col_of _ _ _ n _ _ ?_))
    all_goals dsimp only <;> omega
  · by_cases h1 : j.val % 64 - 8 < 8
    · refine ((dif_neg h0).trans (dif_pos h1)).trans ?_
      refine Eq.trans ?_ (rope_mid _ _ j.val h0 h1).symm
      refine congrArg₂ (· + ·) (congrArg (· * _) (col_of _ _ _ n _ _ ?_)) (congrArg (· * _) (col_of _ _ _ n _ _ ?_))
      all_goals dsimp only <;> omega
    · refine ((dif_neg h0).trans (dif_neg h1)).trans ?_
      refine Eq.trans ?_ (rope_high _ _ j.val h0 h1).symm
      exact col_of _ _ _ n _ _ (by dsimp only <;> omega)

open Cert.InProjRefIdeal in
/-- The reference's keys of the selection. -/
theorem v86_at (m : (ℓ : Loc nD τ sig) → Buf (Elt Ideal) ℓ) (c : Dev nD) (n : Fin 16384) (j : Fin 128) :
    Cert.InProjRefIdeal.Value.res_main_v86 (F := Ideal) m c (ix2 n j) = key 768 (m ((c : Thread nD τ).loc main_arg0)) (m ((c : Thread nD τ).loc main_arg1)) (m ((c : Thread nD τ).loc main_arg2)) (m ((c : Thread nD τ).loc main_arg3)) n j.val := by
  pointwise [Cert.InProjRefIdeal.Value.res_main_v86]
  show _ = rope (fun l => col (m ((c : Thread nD τ).loc main_arg0)) (m ((c : Thread nD τ).loc main_arg2)) (m ((c : Thread nD τ).loc main_arg3)) n (768 + l)) (angle (m ((c : Thread nD τ).loc main_arg1)) n) j.val
  by_cases h0 : j.val % 64 < 8
  · rw [dif_pos h0, rope_low _ _ j.val h0]
    refine congrArg₂ (· - ·) (congrArg (· * _) (col_of _ _ _ n _ _ ?_)) (congrArg (· * _) (col_of _ _ _ n _ _ ?_))
    all_goals dsimp only <;> omega
  · by_cases h1 : j.val % 64 - 8 < 8
    · refine ((dif_neg h0).trans (dif_pos h1)).trans ?_
      refine Eq.trans ?_ (rope_mid _ _ j.val h0 h1).symm
      refine congrArg₂ (· + ·) (congrArg (· * _) (col_of _ _ _ n _ _ ?_)) (congrArg (· * _) (col_of _ _ _ n _ _ ?_))
      all_goals dsimp only <;> omega
    · refine ((dif_neg h0).trans (dif_neg h1)).trans ?_
      refine Eq.trans ?_ (rope_high _ _ j.val h0 h1).symm
      exact col_of _ _ _ n _ _ (by dsimp only <;> omega)

open Cert.InProjRefIdeal in
/-- The reference's keys of the window. -/
theorem v108_at (m : (ℓ : Loc nD τ sig) → Buf (Elt Ideal) ℓ) (c : Dev nD) (n : Fin 16384) (j : Fin 128) :
    Cert.InProjRefIdeal.Value.res_main_v108 (F := Ideal) m c (ix2 n j) = key 1024 (m ((c : Thread nD τ).loc main_arg0)) (m ((c : Thread nD τ).loc main_arg1)) (m ((c : Thread nD τ).loc main_arg2)) (m ((c : Thread nD τ).loc main_arg3)) n j.val := by
  pointwise [Cert.InProjRefIdeal.Value.res_main_v108]
  show _ = rope (fun l => col (m ((c : Thread nD τ).loc main_arg0)) (m ((c : Thread nD τ).loc main_arg2)) (m ((c : Thread nD τ).loc main_arg3)) n (1024 + l)) (angle (m ((c : Thread nD τ).loc main_arg1)) n) j.val
  by_cases h0 : j.val % 64 < 8
  · rw [dif_pos h0, rope_low _ _ j.val h0]
    refine congrArg₂ (· - ·) (congrArg (· * _) (col_of _ _ _ n _ _ ?_)) (congrArg (· * _) (col_of _ _ _ n _ _ ?_))
    all_goals dsimp only <;> omega
  · by_cases h1 : j.val % 64 - 8 < 8
    · refine ((dif_neg h0).trans (dif_pos h1)).trans ?_
      refine Eq.trans ?_ (rope_mid _ _ j.val h0 h1).symm
      refine congrArg₂ (· + ·) (congrArg (· * _) (col_of _ _ _ n _ _ ?_)) (congrArg (· * _) (col_of _ _ _ n _ _ ?_))
      all_goals dsimp only <;> omega
    · refine ((dif_neg h0).trans (dif_neg h1)).trans ?_
      refine Eq.trans ?_ (rope_high _ _ j.val h0 h1).symm
      exact col_of _ _ _ n _ _ (by dsimp only <;> omega)

set_option maxHeartbeats 4000000 in
/-- THE INPUT PROJECTION'S KERNEL'S TEN RESULTS are the reference's. -/
theorem algebraic : Cert.algebraic_InProjIdeal_InProjRefIdeal := by
  intro m g m' g' _ hagree
  refine ⟨fun c => (whole (query
        (m ((c.tc : Thread Cert.InProjIdeal.nD Cert.InProjIdeal.τ).loc Cert.InProjIdeal.main_arg0))
        (m ((c.tc : Thread Cert.InProjIdeal.nD Cert.InProjIdeal.τ).loc Cert.InProjIdeal.main_arg1))
        (m ((c.tc : Thread Cert.InProjIdeal.nD Cert.InProjIdeal.τ).loc Cert.InProjIdeal.main_arg2))
        (m ((c.tc : Thread Cert.InProjIdeal.nD Cert.InProjIdeal.τ).loc Cert.InProjIdeal.main_arg3))) : Cert.InProjIdeal.S16384x512.Idx → EReal),
    fun c => (whole (plain 512
        (m ((c.tc : Thread Cert.InProjIdeal.nD Cert.InProjIdeal.τ).loc Cert.InProjIdeal.main_arg0))
        (m ((c.tc : Thread Cert.InProjIdeal.nD Cert.InProjIdeal.τ).loc Cert.InProjIdeal.main_arg2))
        (m ((c.tc : Thread Cert.InProjIdeal.nD Cert.InProjIdeal.τ).loc Cert.InProjIdeal.main_arg3))) : Cert.InProjIdeal.S16384x256.Idx → EReal),
    fun c => (whole (key 768
        (m ((c.tc : Thread Cert.InProjIdeal.nD Cert.InProjIdeal.τ).loc Cert.InProjIdeal.main_arg0))
        (m ((c.tc : Thread Cert.InProjIdeal.nD Cert.InProjIdeal.τ).loc Cert.InProjIdeal.main_arg1))
        (m ((c.tc : Thread Cert.InProjIdeal.nD Cert.InProjIdeal.τ).loc Cert.InProjIdeal.main_arg2))
        (m ((c.tc : Thread Cert.InProjIdeal.nD Cert.InProjIdeal.τ).loc Cert.InProjIdeal.main_arg3))) : Cert.InProjIdeal.S16384x128.Idx → EReal),
    fun c => (whole (plain 896
        (m ((c.tc : Thread Cert.InProjIdeal.nD Cert.InProjIdeal.τ).loc Cert.InProjIdeal.main_arg0))
        (m ((c.tc : Thread Cert.InProjIdeal.nD Cert.InProjIdeal.τ).loc Cert.InProjIdeal.main_arg2))
        (m ((c.tc : Thread Cert.InProjIdeal.nD Cert.InProjIdeal.τ).loc Cert.InProjIdeal.main_arg3))) : Cert.InProjIdeal.S16384x128.Idx → EReal),
    fun c => (whole (key 1024
        (m ((c.tc : Thread Cert.InProjIdeal.nD Cert.InProjIdeal.τ).loc Cert.InProjIdeal.main_arg0))
        (m ((c.tc : Thread Cert.InProjIdeal.nD Cert.InProjIdeal.τ).loc Cert.InProjIdeal.main_arg1))
        (m ((c.tc : Thread Cert.InProjIdeal.nD Cert.InProjIdeal.τ).loc Cert.InProjIdeal.main_arg2))
        (m ((c.tc : Thread Cert.InProjIdeal.nD Cert.InProjIdeal.τ).loc Cert.InProjIdeal.main_arg3))) : Cert.InProjIdeal.S16384x128.Idx → EReal),
    fun c => (whole (plain 1152
        (m ((c.tc : Thread Cert.InProjIdeal.nD Cert.InProjIdeal.τ).loc Cert.InProjIdeal.main_arg0))
        (m ((c.tc : Thread Cert.InProjIdeal.nD Cert.InProjIdeal.τ).loc Cert.InProjIdeal.main_arg2))
        (m ((c.tc : Thread Cert.InProjIdeal.nD Cert.InProjIdeal.τ).loc Cert.InProjIdeal.main_arg3))) : Cert.InProjIdeal.S16384x128.Idx → EReal),
    fun c => (whole (gate
        (m ((c.tc : Thread Cert.InProjIdeal.nD Cert.InProjIdeal.τ).loc Cert.InProjIdeal.main_arg0))
        (m ((c.tc : Thread Cert.InProjIdeal.nD Cert.InProjIdeal.τ).loc Cert.InProjIdeal.main_arg2))
        (m ((c.tc : Thread Cert.InProjIdeal.nD Cert.InProjIdeal.τ).loc Cert.InProjIdeal.main_arg3))) : Cert.InProjIdeal.S16384x128.Idx → EReal),
    fun c => (whole (scaled 1304
        (m ((c.tc : Thread Cert.InProjIdeal.nD Cert.InProjIdeal.τ).loc Cert.InProjIdeal.main_arg0))
        (m ((c.tc : Thread Cert.InProjIdeal.nD Cert.InProjIdeal.τ).loc Cert.InProjIdeal.main_arg2))
        (m ((c.tc : Thread Cert.InProjIdeal.nD Cert.InProjIdeal.τ).loc Cert.InProjIdeal.main_arg3))) : Cert.InProjIdeal.S16384x512.Idx → EReal),
    fun c => (whole (plain 1816
        (m ((c.tc : Thread Cert.InProjIdeal.nD Cert.InProjIdeal.τ).loc Cert.InProjIdeal.main_arg0))
        (m ((c.tc : Thread Cert.InProjIdeal.nD Cert.InProjIdeal.τ).loc Cert.InProjIdeal.main_arg2))
        (m ((c.tc : Thread Cert.InProjIdeal.nD Cert.InProjIdeal.τ).loc Cert.InProjIdeal.main_arg3))) : Cert.InProjIdeal.S16384x512.Idx → EReal),
    fun c => (whole (plain 2328
        (m ((c.tc : Thread Cert.InProjIdeal.nD Cert.InProjIdeal.τ).loc Cert.InProjIdeal.main_arg0))
        (m ((c.tc : Thread Cert.InProjIdeal.nD Cert.InProjIdeal.τ).loc Cert.InProjIdeal.main_arg2))
        (m ((c.tc : Thread Cert.InProjIdeal.nD Cert.InProjIdeal.τ).loc Cert.InProjIdeal.main_arg3))) : Cert.InProjIdeal.S16384x512.Idx → EReal), ?_, ?_⟩
  · refine (θ_run Cert.InProjIdeal.defs _ _).mono (fun _ h c => ⟨(h c).1.trans (Cert.InProjIdeal.In.arr8 m c), (h c).2.1.trans (Cert.InProjIdeal.In.arr9 m c), (h c).2.2.1.trans (Cert.InProjIdeal.In.arr10 m c), (h c).2.2.2.1.trans (Cert.InProjIdeal.In.arr11 m c), (h c).2.2.2.2.1.trans (Cert.InProjIdeal.In.arr12 m c), (h c).2.2.2.2.2.1.trans (Cert.InProjIdeal.In.arr13 m c), (h c).2.2.2.2.2.2.1.trans (Cert.InProjIdeal.In.arr14 m c), (h c).2.2.2.2.2.2.2.1.trans (Cert.InProjIdeal.In.arr15 m c), (h c).2.2.2.2.2.2.2.2.1.trans (Cert.InProjIdeal.In.arr16 m c), (h c).2.2.2.2.2.2.2.2.2.1.trans (Cert.InProjIdeal.In.arr17 m c), (h c).2.2.2.2.2.2.2.2.2.2⟩) (Cert.InProjIdeal.Value.run_blocks (F := Ideal) m g)
  · refine (θ_run Cert.InProjRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩) (Cert.InProjRefIdeal.Value.run (F := Ideal) m' g')
    all_goals
      clear h
      obtain ⟨h0, h1, h2, h3⟩ := hagree c
      simp only [← h0, ← h1, ← h2, ← h3]
      clear h0 h1 h2 h3 hagree
      refine rows_ext _ _ fun n j => ?_
    · exact v65_at m' c n j
    · pointwise
      show _ = col _ _ _ n (512 + j.val)
      exact col_of _ _ _ n _ _ (by dsimp only <;> omega)
    · exact v86_at m' c n j
    · pointwise
      show _ = col _ _ _ n (896 + j.val)
      exact col_of _ _ _ n _ _ (by dsimp only <;> omega)
    · exact v108_at m' c n j
    · pointwise
      show _ = col _ _ _ n (1152 + j.val)
      exact col_of _ _ _ n _ _ (by dsimp only <;> omega)
    · pointwise
      refine congrArg (fun z : EReal => Ideal.div 1 (1 + Ideal.exp (-z))) ?_
      by_cases h : j.val < 24
      · rw [dif_pos h, if_pos h]
        exact col_of _ _ _ n _ _ rfl
      · rw [dif_neg h, if_neg h]
        exact sitofp_zero
    · pointwise
      show _ = col _ _ _ n (1304 + j.val) * _
      exact congrArg (· * _) (col_of _ _ _ n _ _ (by dsimp only <;> omega))
    · pointwise
      show _ = col _ _ _ n (1816 + j.val)
      exact col_of _ _ _ n _ _ (by dsimp only <;> omega)
    · pointwise
      show _ = col _ _ _ n (2328 + j.val)
      exact col_of _ _ _ n _ _ (by dsimp only <;> omega)

end Cert.EqualInProj

end
-- ==== Proof.CmpValue.Pick.lean ====
/-
  The choice of the sixteen blocks, as mathematics: sixteen rounds that each take the greatest score
  left, the first of equal ones, and strike it out, take the first sixteen places of the stable sort by
  descending score.
-/
module

public import Idealize.ShloMosaic.PureOps.Ideal
public import Idealize.ShloMosaic.Lib.SortFacts

@[expose] public section

noncomputable section

namespace Cert.Picks

open Idealize.ShloMosaic

/-- One score per block of keys. -/
abbrev Scores := Fin 256 → EReal

/-- The score a struck-out block keeps. -/
abbrev struck : EReal := Ideal.ofBits .f32 0xFF61B1E6#32

/-- The score of a block the query may not see. -/
abbrev unseen : EReal := Ideal.ofBits .f32 0xF149F2CA#32

/-- A block's number as a real. -/
def number (j : Fin 256) : EReal := ((((BitVec.ofNat 32 j.val).toInt : ℤ) : ℝ) : EReal)

/-- The greatest score. -/
def peak (f : Scores) : EReal := Finset.fold max (Ideal.ofBits .f32 0xFF800000#32) f Finset.univ

/-- The first block of the greatest score, as a real. -/
def first (f : Scores) : EReal :=
  Finset.fold min (Ideal.ofBits .f32 0x7F800000#32)
    (fun j => if f j = peak f then number j else Ideal.ofBits .f32 0x43800000#32) Finset.univ

/-- One round's choice. -/
def hit (f : Scores) (j : Fin 256) : Prop := number j = first f

open Classical in
/-- The scores after one round. -/
def strike (f : Scores) : Scores := fun j => if number j = first f then struck else f j

/-- The scores after some rounds. -/
def left (f : Scores) : ℕ → Scores
  | 0 => f
  | k + 1 => strike (left f k)

theorem ofBits_ninf : Ideal.ofBits .f32 0xFF800000#32 = ⊥ := by simp [Ideal.ofBits, Ideal.ieee]

theorem ofBits_pinf : Ideal.ofBits .f32 0x7F800000#32 = ⊤ := by simp [Ideal.ofBits, Ideal.ieee]

theorem ofBits_count : Ideal.ofBits .f32 0x43800000#32 = ((256 : ℝ) : EReal) := by
  simp [Ideal.ofBits, Ideal.ieee, -EReal.coe_mul]; norm_num

theorem hidden_neg : unseen < 0 := by
  simp [unseen, Ideal.ofBits, Ideal.ieee, -EReal.coe_mul, -EReal.coe_neg]

/-- A struck-out block is below a unseen one. -/
theorem struck_hidden : struck < unseen := by
  simp [struck, unseen, Ideal.ofBits, Ideal.ieee, -EReal.coe_mul, -EReal.coe_neg]; norm_num

theorem number_eq (j : Fin 256) : number j = ((j.val : ℝ) : EReal) := by
  have h : ∀ j : Fin 256, (BitVec.ofNat 32 j.val).toInt = (j.val : ℤ) := by decide
  rw [number, h j]; norm_cast

/-- A round takes block `a` alone where `a` is the first of the greatest scores. -/
theorem hit_iff (g : Scores) (a : Fin 256) (h : ∀ b, g b < g a ∨ (g b = g a ∧ a ≤ b)) (j : Fin 256) :
    hit g j ↔ j = a := by
  have hp : peak g = g a := by
    refine le_antisymm ?_ ?_
    · refine Finset.fold_max_le _ |>.mpr ⟨?_, fun b _ => ?_⟩
      · rw [ofBits_ninf]; exact bot_le
      · rcases h b with h | h
        · exact le_of_lt h
        · exact le_of_eq h.1
    · exact Finset.le_fold_max _ |>.mpr (Or.inr ⟨a, Finset.mem_univ _, le_refl _⟩)
  have hf : first g = number a := by
    refine le_antisymm ?_ ?_
    · refine Finset.fold_min_le _ |>.mpr (Or.inr ⟨a, Finset.mem_univ _, ?_⟩)
      rw [if_pos hp.symm]
    · refine Finset.le_fold_min _ |>.mpr ⟨?_, fun b _ => ?_⟩
      · rw [ofBits_pinf]; exact le_top
      · split
        · rename_i e
          rw [hp] at e
          rcases h b with h | h
          · exact absurd e (ne_of_lt h)
          · rw [number_eq, number_eq]; exact_mod_cast h.2
        · rw [number_eq, ofBits_count]; exact_mod_cast a.isLt.le
  unfold hit
  rw [hf, number_eq, number_eq]
  constructor
  · intro e
    exact Fin.ext (by exact_mod_cast e)
  · rintro rfl; rfl

/-- Block `a` comes before block `b` in descending order of score. -/
def Ahead {n : ℕ} (f : Fin n → EReal) (a b : Fin n) : Prop := f b < f a ∨ (f b = f a ∧ a < b)

/-- The comparison the sort makes. -/
def over {n : ℕ} (f : Fin n → EReal) (a b : Fin n) : Bool := decide (f b < f a)

theorem ahead_insert {n : ℕ} (f : Fin n → EReal) (a : Fin n) (l : List (Fin n)) (ha : ∀ b ∈ l, a < b)
    (hl : l.Pairwise (Ahead f)) : (insertBefore (over f) a l).Pairwise (Ahead f) := by
  induction l with
  | nil => exact List.pairwise_singleton _ _
  | cons b l ih =>
    rw [List.pairwise_cons] at hl
    unfold insertBefore
    split
    · rename_i h
      have h : f a < f b := by simpa [over] using h
      refine List.pairwise_cons.mpr ⟨fun c hc => ?_, ih (fun c hc => ha c (List.mem_cons_of_mem b hc)) hl.2⟩
      rcases List.mem_cons.mp ((perm_insertBefore (over f) a l).mem_iff.mp hc) with rfl | hc
      · exact Or.inl h
      · exact hl.1 c hc
    · rename_i h
      have h : f b ≤ f a := by simpa [over] using h
      refine List.pairwise_cons.mpr ⟨fun c hc => ?_, List.pairwise_cons.mpr hl⟩
      have hcb : f c ≤ f b := by
        rcases List.mem_cons.mp hc with rfl | hc
        · exact le_refl _
        · rcases hl.1 c hc with h | h
          · exact h.le
          · exact h.1.le
      rcases lt_or_eq_of_le (hcb.trans h) with h | h
      · exact Or.inl h
      · exact Or.inr ⟨h, ha c hc⟩

theorem ahead_sort {n : ℕ} (f : Fin n → EReal) (l : List (Fin n)) (hl : l.Pairwise (· < ·)) :
    (stableSort (over f) l).Pairwise (Ahead f) := by
  induction l with
  | nil => exact List.Pairwise.nil
  | cons a l ih =>
    rw [List.pairwise_cons] at hl
    unfold stableSort
    exact ahead_insert f a _ (fun b hb => hl.1 b ((perm_stableSort _ l).mem_iff.mp hb)) (ih hl.2)

/-- The sort's places are in descending order of score, equal scores in order of block. -/
theorem ahead_sorted {n : ℕ} (f : Fin n → EReal) (i j : Fin n) (hij : i < j) :
    Ahead f (sortedFrom (over f) i) (sortedFrom (over f) j) := by
  have hp := List.pairwise_iff_get.mp (ahead_sort f (List.finRange n) (List.pairwise_lt_finRange n))
  unfold sortedFrom sortPositions
  exact hp _ _ (by simp only [Fin.lt_def, Fin.val_cast]; exact hij)

open Classical in
/-- The scores with the first `k` places of the sort struck out. -/
def struckOut (f : Scores) (k : ℕ) : Scores :=
  fun j => if ∃ i : Fin 256, i.val < k ∧ sortedFrom (over f) i = j then struck else f j

/-- With the first places struck out, the sort's next place is the first of the greatest. -/
theorem hit_next (f : Scores) (hf : ∀ j, struck < f j) (k : Fin 256) (j : Fin 256) :
    hit (struckOut f k.val) j ↔ j = sortedFrom (over f) k := by
  have inj := sortedFrom_injective (over f)
  have keep : ∀ i : Fin 256, ¬ i.val < k.val → struckOut f k.val (sortedFrom (over f) i) = f (sortedFrom (over f) i) := by
    intro i hi
    refine if_neg ?_
    rintro ⟨i', hi', e⟩
    exact hi (inj e ▸ hi')
  refine hit_iff _ _ (fun b => ?_) j
  rw [keep k (lt_irrefl _)]
  obtain ⟨i, rfl⟩ := sortedFrom_surjective (over f) b
  by_cases hi : i.val < k.val
  · refine Or.inl (lt_of_eq_of_lt ?_ (hf _))
    exact if_pos ⟨i, hi, rfl⟩
  · rw [keep i hi]
    rcases lt_or_eq_of_le (not_lt.mp hi) with h | h
    · rcases ahead_sorted f k i h with h | h
      · exact Or.inl h
      · exact Or.inr ⟨h.1, h.2.le⟩
    · rw [Fin.ext h.symm]
      exact Or.inr ⟨rfl, le_refl _⟩

/-- After `k` rounds the first `k` places of the sort are struck out. -/
theorem left_eq (f : Scores) (hf : ∀ j, struck < f j) (k : ℕ) (hk : k ≤ 256) : left f k = struckOut f k := by
  classical
  induction k with
  | zero => funext j; simp [left, struckOut]
  | succ k ih =>
    have key := hit_next f hf ⟨k, hk⟩
    have ih := ih (by omega)
    funext j
    have key := key j
    show strike (left f k) j = _
    rw [ih]
    unfold strike
    unfold hit at key
    by_cases hj : j = sortedFrom (over f) ⟨k, hk⟩
    · rw [if_pos (key.mpr hj)]
      exact (if_pos ⟨⟨k, hk⟩, Nat.lt_succ_self k, hj.symm⟩).symm
    · rw [if_neg (fun h => hj (key.mp h))]
      unfold struckOut
      refine if_congr ?_ rfl rfl
      constructor
      · rintro ⟨i, hi, e⟩; exact ⟨i, Nat.lt_succ_of_lt hi, e⟩
      · rintro ⟨i, hi, e⟩
        rcases Nat.lt_succ_iff_lt_or_eq.mp hi with h | h
        · exact ⟨i, h, e⟩
        · exact absurd (e.symm.trans (congrArg _ (Fin.ext h))) hj

/-- A round's choice is the sort's next place. -/
theorem hit_left (f : Scores) (hf : ∀ j, struck < f j) (k : Fin 256) (j : Fin 256) :
    hit (left f k.val) j ↔ j = sortedFrom (over f) k := by
  rw [left_eq f hf k.val k.isLt.le]
  exact hit_next f hf k j

end Cert.Picks
end
-- ==== Proof.CmpValue.Row.lean ====
/-
  The compressed attention of one query and the scores of the blocks of keys, as mathematics.
-/
module

public import Idealize.ShloMosaic.PureOps.Ideal
public import Idealize.ShloMosaic.Lib.IdealHost
public import proofs.«01_k».proof.Proof.CmpValue.Pick

@[expose] public section

noncomputable section

namespace Cert.Picks

open Idealize.ShloMosaic

/-- Which compressed rows a query sees. -/
abbrev Seen := Fin 1024 → BitVec 1

/-- One value per compressed row. -/
abbrev Logits := Fin 1024 → EReal

/-- The logits with the unseen rows unseen. -/
def masked (v : Seen) (s : Logits) : Logits := fun n => Scalar.select (v n) (s n) unseen

/-- A row's exponential weight. -/
def weight (v : Seen) (s : Logits) : Logits := fun n =>
  Scalar.select (v n) (Ideal.exp (masked v s n - Finset.fold max (Ideal.ofBits .f32 0xFF800000#32) (masked v s) Finset.univ)) 0

/-- The sum of the weights, kept off zero. -/
def total (v : Seen) (s : Logits) : EReal := max (∑ n : Fin 1024, weight v s n) (Ideal.ofBits .f32 0x0DA24260#32)

/-- A row's share of the attention. -/
def share (v : Seen) (s : Logits) : Logits := fun n => Ideal.div (weight v s n) (total v s)

theorem tiny_pos : ∃ r : ℝ, 0 < r ∧ Ideal.ofBits .f32 0x0DA24260#32 = (r : EReal) := by
  refine ⟨_, ?_, by simp [Ideal.ofBits, Ideal.ieee, -EReal.coe_mul, -EReal.coe_neg]; rfl⟩
  norm_num

theorem total_pos (v : Seen) (s : Logits) : 0 < total v s := by
  obtain ⟨r, hr, e⟩ := tiny_pos
  refine lt_of_lt_of_le ?_ (le_max_right _ _)
  rw [e]; exact_mod_cast hr

/-- A weight times the reciprocal of the sum is the share. -/
theorem share_eq (v : Seen) (s : Logits) (n : Fin 1024) : weight v s n * Ideal.div 1 (total v s) = share v s n := by
  have h : total v s ≠ 0 := (total_pos v s).ne'
  rw [share, Ideal.div, Ideal.div, if_neg h, if_neg h, one_mul]

/-- The same with the reciprocal inside the choice. -/
theorem share_select (v : Seen) (s : Logits) (n : Fin 1024) :
    Scalar.select (v n) (Ideal.exp (masked v s n - Finset.fold max (Ideal.ofBits .f32 0xFF800000#32) (masked v s) Finset.univ)
      * Ideal.div 1 (total v s)) 0 = share v s n := by
  rw [← share_eq, weight]
  unfold Scalar.select
  split
  · rfl
  · rw [zero_mul]

/-- The exponential of what is not positive is between zero and one. -/
theorem exp_small (x : EReal) (h : x ≤ 0) : ∃ r : ℝ, 0 ≤ r ∧ Ideal.exp x = (r : EReal) := by
  induction x with
  | bot => exact ⟨0, le_refl _, by simp⟩
  | top => exact absurd h (by simp)
  | coe r => exact ⟨Real.exp r, (Real.exp_pos r).le, by simp⟩

/-- A value less a bound of it is not positive. -/
theorem sub_small (x y : EReal) (h : x ≤ y) : x - y ≤ 0 := by
  induction y with
  | bot => rw [le_bot_iff.mp h]; simp
  | top => simp
  | coe r => exact EReal.sub_nonpos.mpr h

theorem weight_real (v : Seen) (s : Logits) (n : Fin 1024) : ∃ r : ℝ, 0 ≤ r ∧ weight v s n = (r : EReal) := by
  unfold weight Scalar.select
  split
  · exact exp_small _ (sub_small _ _ (Finset.le_fold_max _ |>.mpr (Or.inr ⟨n, Finset.mem_univ _, le_refl _⟩)))
  · exact ⟨0, le_refl _, by simp⟩

/-- A share is a real, and not negative. -/
theorem share_real (v : Seen) (s : Logits) (n : Fin 1024) : ∃ r : ℝ, 0 ≤ r ∧ share v s n = (r : EReal) := by
  obtain ⟨a, ha, e⟩ := weight_real v s n
  have hp := total_pos v s
  rw [share, Ideal.div, if_neg hp.ne', e]
  generalize total v s = d at hp
  induction d with
  | bot => exact absurd hp (by simp)
  | top => exact ⟨0, le_refl _, by simp⟩
  | coe d =>
    have hd : 0 < d := by exact_mod_cast hp
    exact ⟨a * d⁻¹, by positivity, by rw [EReal.coe_mul, EReal.coe_inv]⟩

/-- The four heads' shares of a row, added. -/
def shares (v : Seen) (s : Fin 4 → Logits) : Logits := fun n => ∑ r : Fin 4, share v (s r) n

theorem shares_real (v : Seen) (s : Fin 4 → Logits) (n : Fin 1024) :
    ∃ r : ℝ, 0 ≤ r ∧ shares v s n = (r : EReal) := by
  choose f hf e using fun r => share_real v (s r) n
  refine ⟨∑ r : Fin 4, f r, Finset.sum_nonneg fun r _ => hf r, ?_⟩
  unfold shares
  rw [Fin.sum_univ_four, Fin.sum_univ_four, e, e, e, e]
  simp only [EReal.coe_add]

/-- The shares less themselves are zero. -/
theorem shares_sub (v : Seen) (s : Fin 4 → Logits) (n : Fin 1024) : shares v s n - shares v s n = 0 := by
  obtain ⟨r, -, e⟩ := shares_real v s n
  rw [e, ← EReal.coe_sub, sub_self, EReal.coe_zero]

/-- The importance of each block of keys: the shares over the rows that overlap it. -/
def weigh (w : Logits) (ov : Fin 1024 → Fin 256 → EReal) : Scores := fun j => ∑ n : Fin 1024, w n * ov n j

/-- The importance from the shares split in two. -/
theorem weigh_split (v : Seen) (s : Fin 4 → Logits) (ov : Fin 1024 → Fin 256 → EReal) (j : Fin 256) :
    (∑ n : Fin 1024, shares v s n * ov n j) + ∑ n : Fin 1024, (shares v s n - shares v s n) * ov n j = weigh (shares v s) ov j := by
  have h : ∀ n : Fin 1024, (shares v s n - shares v s n) * ov n j = 0 := fun n => by rw [shares_sub, zero_mul]
  simp only [h, Finset.sum_const_zero, add_zero]
  rfl

theorem weigh_nonneg (v : Seen) (s : Fin 4 → Logits) (ov : Fin 1024 → Fin 256 → EReal) (hov : ∀ n j, 0 ≤ ov n j) (j : Fin 256) :
    0 ≤ weigh (shares v s) ov j := by
  refine Finset.sum_nonneg (N := EReal) fun n _ => ?_
  obtain ⟨r, hr, e⟩ := shares_real v s n
  rw [e]
  exact mul_nonneg (by exact_mod_cast hr) (hov n j)

/-- The number of the block of keys that a query is in. -/
def own (t : ℕ) : BitVec 32 := BitVec.ofNat 32 (t / 64)

/-- Which compressed rows the query at a place sees. -/
def seen (t : ℕ) : Seen := fun n =>
  IntOp.cmpi .sle (IntOp.addi (IntOp.muli (BitVec.ofNat 32 n.val) 16#32) 31#32) (BitVec.ofNat 32 t)

/-- Which blocks of keys the query sees. -/
def allowed (t : ℕ) (j : Fin 256) : BitVec 1 := IntOp.cmpi .sle (BitVec.ofNat 32 j.val) (own t)

/-- The blocks a query always takes: the first, its own and the one before. -/
def forced (t : ℕ) (j : Fin 256) : BitVec 1 :=
  IntOp.ori (IntOp.ori (IntOp.cmpi .eq (BitVec.ofNat 32 j.val) 0#32) (IntOp.cmpi .eq (BitVec.ofNat 32 j.val) (own t)))
    (IntOp.cmpi .eq (BitVec.ofNat 32 j.val) (IntOp.subi (own t) 1#32))

/-- Whether a compressed row and a block of keys share keys, as a real. -/
def overlap (n : Fin 1024) (j : Fin 256) : EReal :=
  (((IntOp.andi
    (IntOp.cmpi .slt (IntOp.muli (BitVec.ofNat 32 n.val) 16#32) (IntOp.addi (IntOp.muli (BitVec.ofNat 32 j.val) 64#32) 64#32))
    (IntOp.cmpi .sgt (IntOp.addi (IntOp.muli (BitVec.ofNat 32 n.val) 16#32) 32#32) (IntOp.muli (BitVec.ofNat 32 j.val) 64#32))).toNat : ℝ) : EReal)

theorem overlap_nonneg (n : Fin 1024) (j : Fin 256) : 0 ≤ overlap n j := by
  unfold overlap
  exact_mod_cast Nat.zero_le _

/-- The scores a query gives the blocks of keys. -/
def score (t : ℕ) (i : Scores) : Scores := fun j =>
  Scalar.select (allowed t j) (i j + Scalar.select (forced t j) (Ideal.ofBits .f32 0x461C4000#32) 0) unseen

theorem bonus_nonneg : 0 ≤ Ideal.ofBits .f32 0x461C4000#32 := by
  simp [Ideal.ofBits, Ideal.ieee, -EReal.coe_mul, -EReal.coe_neg]

/-- No score is as low as a struck-out one. -/
theorem struck_score (t : ℕ) (i : Scores) (hi : ∀ j, 0 ≤ i j) (j : Fin 256) : struck < score t i j := by
  unfold score Scalar.select
  split
  · refine lt_of_lt_of_le (struck_hidden.trans hidden_neg) (add_nonneg (hi j) ?_)
    split
    · exact bonus_nonneg
    · exact le_refl _
  · exact struck_hidden

open Classical in
/-- What a query's attention adds to a block's logits: nothing for the sixteen first places of the sort that
    the query sees, a unseen score for the others. -/
def penalty (t : ℕ) (f : Scores) (j : Fin 256) : EReal :=
  if (∃ k : Fin 256, k.val < 16 ∧ j = sortedFrom (over f) k) ∧ allowed t j = 1#1 then 0 else unseen

/-- One bit and another are set. -/
theorem andi_iff (a b : BitVec 1) : IntOp.andi a b = 1#1 ↔ a = 1#1 ∧ b = 1#1 := by
  revert a b; decide

/-- The penalty from the bits of the choice and of the sight. -/
theorem penalty_eq (t : ℕ) (f : Scores) (j : Fin 256) (c a : BitVec 1)
    (hc : c = 1#1 ↔ ∃ k : Fin 256, k.val < 16 ∧ j = sortedFrom (over f) k) (ha : a = allowed t j) :
    Scalar.select (IntOp.andi c a) (0 : EReal) unseen = penalty t f j := by
  subst ha
  have h := (andi_iff c (allowed t j)).trans (and_congr_left' hc)
  unfold penalty Scalar.select
  by_cases h' : IntOp.andi c (allowed t j) = 1#1
  · rw [if_pos (h.mp h')]; exact if_pos h'
  · rw [if_neg (fun e => h' (h.mpr e))]; exact if_neg h'

end Cert.Picks
end
-- ==== Proof.CmpValue.Rounds.lean ====
/-
  The kernel's sixteen rounds of choosing blocks of keys, read row by row as the rounds on one row of scores.
-/
module

public import proofs.«01_k».proof.Proof.Gen.CmpIdeal.Frame
public import Idealize.ShloMosaic.Lib.Pipeline.ValueKit
public import proofs.«01_k».proof.Proof.CmpValue.Pick

@[expose] public section

set_option maxRecDepth 16384

noncomputable section

namespace Cert.CmpIdeal.Cmp

open Cert.CmpIdeal Cert.CmpIdeal.Gen Cert.Picks
open Idealize.ShloMosaic Idealize.ShloMosaic.TcCoe Idealize.SL.Sem

/-- A tile of scores: one row per query. -/
abbrev Tile := FVec Ideal S256x256 .f32

/-- A tile's bits. -/
abbrev Bits2 := IVec S256x256 1

/-- The blocks' numbers, as reals. -/
abbrev Numbers := FVec Ideal S1x256 .f32

/-- Where a tile's row has its greatest score. -/
def greatest (S : Tile) : Bits2 :=
  cmpf .oeq S (broadcastTo S256x256 (shapeCast S256x1 (multiReduction .maximumf [1] S256 S 0xFF800000#32 reduces_S256x256_S256 (.inl rfl) rfl) shapeCasts_S256_S256x1) broadcasts_S256x1_S256x256)

/-- One round's choice in every row. -/
def choice (J : Numbers) (S : Tile) : Bits2 := k0_pay34 J (greatest S) (Scalar.ofBits .f32 0x43800000#32) (k0_pay42 J)

/-- The scores after one round. -/
def after (J : Numbers) (S : Tile) : Tile := select (choice J S) (broadcast S256x256 (Scalar.ofBits .f32 0xFF61B1E6#32)) S

/-- The choices of three rounds added to earlier ones. -/
def three (J : Numbers) (C : Bits2) (S : Tile) : Bits2 :=
  ori (ori (ori C (choice J S)) (choice J (after J S))) (choice J (after J (after J S)))

section
variable (J : Numbers) (C A : Bits2) (S : Tile)

theorem pay39_eq : k0_pay39 J C S (greatest S) (FloatOps.ofBits .f32 0x43800000#32) (k0_pay42 J) = three J C S := rfl
theorem pay40_eq : k0_pay40 J S (greatest S) (FloatOps.ofBits .f32 0x43800000#32) (k0_pay42 J) = after J (after J (after J S)) := rfl
theorem pay41_eq : k0_pay41 J S (greatest S) (FloatOps.ofBits .f32 0x43800000#32) (k0_pay42 J) = greatest (after J (after J (after J S))) := rfl
theorem pay48_eq : k0_pay48 J C S (greatest S) (FloatOps.ofBits .f32 0x43800000#32) (k0_pay42 J) = three J C S := rfl
theorem pay49_eq : k0_pay49 J S (greatest S) (FloatOps.ofBits .f32 0x43800000#32) (k0_pay42 J) = after J (after J (after J S)) := rfl
theorem pay50_eq : k0_pay50 J S (greatest S) (FloatOps.ofBits .f32 0x43800000#32) (k0_pay42 J) = greatest (after J (after J (after J S))) := rfl
theorem pay57_eq : k0_pay57 J C S (greatest S) (FloatOps.ofBits .f32 0x43800000#32) (k0_pay42 J) = three J C S := rfl
theorem pay58_eq : k0_pay58 J S (greatest S) (FloatOps.ofBits .f32 0x43800000#32) (k0_pay42 J) = after J (after J (after J S)) := rfl
theorem pay59_eq : k0_pay59 J S (greatest S) (FloatOps.ofBits .f32 0x43800000#32) (k0_pay42 J) = greatest (after J (after J (after J S))) := rfl
theorem pay66_eq : k0_pay66 J C S (greatest S) (FloatOps.ofBits .f32 0x43800000#32) (k0_pay42 J) = three J C S := rfl
theorem pay67_eq : k0_pay67 J S (greatest S) (FloatOps.ofBits .f32 0x43800000#32) (k0_pay42 J) = after J (after J (after J S)) := rfl
theorem pay68_eq : k0_pay68 J S (greatest S) (FloatOps.ofBits .f32 0x43800000#32) (k0_pay42 J) = greatest (after J (after J (after J S))) := rfl
theorem pay70_eq : k0_pay70 A J C S (greatest S) (FloatOps.ofBits .f32 0x43800000#32) (k0_pay42 J)
    = select (andi (three J C S) A) (broadcast S256x256 (Scalar.ofBits .f32 0x00000000#32)) (broadcast S256x256 (Scalar.ofBits .f32 0xF149F2CA#32)) := rfl
end

/-- A tile's row. -/
def rowOf (S : Tile) (r : Fin 256) : Scores := fun x => S (ix2 r x)

/-- One bit or another is set. -/
theorem ori_iff (a b : BitVec 1) : IntOp.ori a b = 1#1 ↔ a = 1#1 ∨ b = 1#1 := by
  revert a b; decide

section
variable (J : Numbers) (hJ : ∀ x : Fin 256, J (ix2 0 x) = number x) (S : Tile) (r : Fin 256)
include hJ

/-- One round's choice, in a row. -/
theorem choice_iff (j : Fin 256) : choice J S (ix2 r j) = 1#1 ↔ hit (rowOf S r) j := by
  have e : choice J S (ix2 r j) = BitVec.ofBool (decide (number j = first (rowOf S r))) := by
    pointwise [choice, greatest, k0_pay34, k0_pay42]
    simp only [hJ]
    rfl
  rw [e]
  unfold hit
  by_cases h : number j = first (rowOf S r) <;> simp [h]

/-- The scores after one round, in a row. -/
theorem after_row : rowOf (after J S) r = strike (rowOf S r) := by
  funext j
  have e : rowOf (after J S) r j = Scalar.select (choice J S (ix2 r j)) struck (S (ix2 r j)) := by
    unfold rowOf
    pointwise [after]
  rw [e, Scalar.select]
  unfold strike
  exact if_congr (choice_iff J hJ S r j) rfl rfl

/-- The scores after three rounds, in a row. -/
theorem after_three (f : Scores) (k : ℕ) (hS : rowOf S r = left f k) :
    rowOf (after J (after J (after J S))) r = left f (k + 3) := by
  rw [after_row J hJ, after_row J hJ, after_row J hJ, hS]
  rfl

/-- The choices of three more rounds, in a row. -/
theorem three_iff (f : Scores) (k : ℕ) (hS : rowOf S r = left f k) (C : Bits2) (j : Fin 256)
    (hC : C (ix2 r j) = 1#1 ↔ ∃ i < k, hit (left f i) j) :
    three J C S (ix2 r j) = 1#1 ↔ ∃ i < k + 3, hit (left f i) j := by
  have e : three J C S (ix2 r j) = IntOp.ori (IntOp.ori (IntOp.ori (C (ix2 r j)) (choice J S (ix2 r j)))
      (choice J (after J S) (ix2 r j))) (choice J (after J (after J S)) (ix2 r j)) := rfl
  rw [e, ori_iff, ori_iff, ori_iff, hC, choice_iff J hJ, choice_iff J hJ, choice_iff J hJ, after_row J hJ (after J S), after_row J hJ S, hS]
  have s1 : strike (left f k) = left f (k + 1) := rfl
  have s2 : strike (left f (k + 1)) = left f (k + 2) := rfl
  rw [s1, s2]
  generalize left f = g at *
  constructor
  · rintro (((⟨i, hi, h⟩ | h) | h) | h)
    · exact ⟨i, by omega, h⟩
    · exact ⟨k, by omega, h⟩
    · exact ⟨k + 1, by omega, h⟩
    · exact ⟨k + 2, by omega, h⟩
  · rintro ⟨i, hi, h⟩
    obtain hi | e | e | e : i < k ∨ i = k ∨ i = k + 1 ∨ i = k + 2 := by omega
    · exact Or.inl (Or.inl (Or.inl ⟨i, hi, h⟩))
    · exact Or.inl (Or.inl (Or.inr (e ▸ h)))
    · exact Or.inl (Or.inr (e ▸ h))
    · exact Or.inr (e ▸ h)

end

/-- The choices of all sixteen rounds. -/
def chosen (J : Numbers) (S : Tile) : Bits2 :=
  let S1 := after J S
  let S4 := after J (after J (after J S1))
  let S7 := after J (after J (after J S4))
  let S10 := after J (after J (after J S7))
  let S13 := after J (after J (after J S10))
  three J (three J (three J (three J (three J (ori (broadcast S256x256 0#1) (choice J S)) S1) S4) S7) S10) S13

/-- The sixteen rounds choose, in a row, the first sixteen places of the sort by descending score. -/
theorem chosen_iff (J : Numbers) (hJ : ∀ x : Fin 256, J (ix2 0 x) = number x) (S : Tile) (r : Fin 256)
    (hS : ∀ x, struck < rowOf S r x) (j : Fin 256) :
    chosen J S (ix2 r j) = 1#1 ↔ ∃ k : Fin 256, k.val < 16 ∧ j = sortedFrom (over (rowOf S r)) k := by
  have h1 : rowOf (after J S) r = left (rowOf S r) 1 := after_row J hJ S r
  have h4 := after_three J hJ _ r _ _ h1
  have h7 := after_three J hJ _ r _ _ h4
  have h10 := after_three J hJ _ r _ _ h7
  have h13 := after_three J hJ _ r _ _ h10
  have c1 : ori (broadcast S256x256 0#1) (choice J S) (ix2 r j) = 1#1 ↔ ∃ i < 1, hit (left (rowOf S r) i) j := by
    have e : ori (broadcast S256x256 0#1) (choice J S) (ix2 r j) = IntOp.ori 0#1 (choice J S (ix2 r j)) := rfl
    rw [e, ori_iff, choice_iff J hJ]
    constructor
    · rintro (h | h)
      · exact absurd h (by decide)
      · exact ⟨0, by omega, h⟩
    · rintro ⟨i, hi, h⟩
      obtain rfl : i = 0 := by omega
      exact Or.inr h
  refine (three_iff J hJ _ r _ _ h13 _ j (three_iff J hJ _ r _ _ h10 _ j (three_iff J hJ _ r _ _ h7 _ j
    (three_iff J hJ _ r _ _ h4 _ j (three_iff J hJ _ r _ _ h1 _ j c1))))).trans ?_
  constructor
  · rintro ⟨i, hi, h⟩
    exact ⟨⟨i, by omega⟩, by simpa using hi, (hit_left _ hS ⟨i, by omega⟩ j).mp h⟩
  · rintro ⟨k, hk, h⟩
    exact ⟨k.val, by omega, (hit_left _ hS k j).mpr h⟩

end Cert.CmpIdeal.Cmp
end
-- ==== Proof.CmpValue.Pay.lean ====
/-
  One tile of the compressed attention's kernel: what it leaves from its blocks.
-/
module

public import proofs.«01_k».proof.Proof.Gen.CmpIdeal.Frame
public import Idealize.ShloMosaic.Lib.Pipeline.ValueKit
public import proofs.«01_k».proof.Proof.CmpValue.Row
public import proofs.«01_k».proof.Proof.CmpValue.Rounds

@[expose] public section

set_option maxRecDepth 16384

noncomputable section

namespace Cert.CmpIdeal.Cmp

open Cert.CmpIdeal Cert.CmpIdeal.Gen Cert.Picks
open Idealize.ShloMosaic Idealize.ShloMosaic.TcCoe Idealize.SL.Sem

/-- One head's logits of a tile's row: the products with the compressed keys. -/
def logits (y : Vec Ideal S1x256x128 .bf16) (K : FVec Ideal S1024x64 .bf16) (r : Fin 256) : Logits := fun n =>
  ∑ k : Fin 64, (show EReal from y (ix3 0 r (⟨k.val, by omega⟩ : Fin 128))) * (show EReal from K (ix2 n k))

/-- The place of a tile's row. -/
def place (i : grid0.Coords) (r : Fin 256) : ℕ := (i 1).val * 256 + r.val

theorem place_word (i : grid0.Coords) (r : Fin 256) :
    IntOp.addi (Scalar.muli (BitVec.ofNat 32 (i 1).val) 256#32) (BitVec.ofNat 32 r.val) = BitVec.ofNat 32 (place i r) := by
  show BitVec.ofNat 32 (i 1).val * BitVec.ofNat 32 256 + BitVec.ofNat 32 r.val = _
  rw [← BitVec.ofNat_mul, ← BitVec.ofNat_add]
  rfl

theorem place_lt (i : grid0.Coords) (r : Fin 256) : place i r < 16384 := by
  have h : (i 1).val < 64 := (i 1).isLt
  unfold place
  omega

/-- The tile's mask. -/
theorem pay3_at (i : grid0.Coords) (r : Fin 256) (n : Fin 1024) : k0_pay3 i (ix2 r n) = seen (place i r) n := by
  pointwise [k0_pay3, k0_pay2]
  rw [place_word]
  rfl

/-- The places as words. -/
theorem pay2_at (i : grid0.Coords) (r : Fin 256) : k0_pay2 i (ix2 r 0) = BitVec.ofNat 32 (place i r) := by
  pointwise [k0_pay2]
  rw [place_word]

/-- A head's shares. -/
theorem pay9_at (v : IVec S256x1024 1) (K : FVec Ideal S1024x64 .bf16) (y : Vec Ideal S1x256x128 .bf16) (r : Fin 256) (n : Fin 1024) :
    k0_pay9 v K y (ix2 r n) = share (fun n => v (ix2 r n)) (logits y K r) n := by
  pointwise [k0_pay9]
  exact share_select (fun n => v (ix2 r n)) (logits y K r) n

theorem pay7_eq (i : grid0.Coords) (x : Vec Ideal S1x1024x64 .bf16) (y : Vec Ideal S1x256x128 .bf16) :
    k0_pay7 i x y = k0_pay9 (k0_pay3 i) (k0_pay4 x) y := rfl

theorem pay13_eq (v : IVec S256x1024 1) (K : FVec Ideal S1024x64 .bf16) (y : Vec Ideal S1x256x128 .bf16) :
    k0_pay13 v K (k0_pay12 y) (constant S256x1024 .f32 0x00000000#32) = k0_pay9 v K y := rfl

theorem pay19_eq (v : IVec S256x1024 1) (K : FVec Ideal S1024x64 .bf16) (y : Vec Ideal S1x256x128 .bf16) :
    k0_pay19 (k0_pay16 v K y) (k0_pay17 v K y) k0_pay18 = k0_pay9 v K y := rfl

/-- A head's result from its shares. -/
theorem pay8_at (V : FVec Ideal S1024x64 .bf16) (p : FVec Ideal S256x1024 .f32) (r : Fin 256) (d : Fin 64) :
    k0_pay8 V p (ix3 0 r d) = ∑ n : Fin 1024, (show EReal from p (ix2 r n)) * (show EReal from V (ix2 n d)) := by
  pointwise [k0_pay8]

/-- A head's result. -/
theorem head_at (v : IVec S256x1024 1) (K V : FVec Ideal S1024x64 .bf16) (y : Vec Ideal S1x256x128 .bf16) (r : Fin 256) (d : Fin 64) :
    k0_pay8 V (k0_pay9 v K y) (ix3 0 r d)
      = ∑ n : Fin 1024, share (fun n => v (ix2 r n)) (logits y K r) n * (show EReal from V (ix2 n d)) := by
  rw [pay8_at]
  exact Finset.sum_congr (M := EReal) rfl fun n _ => congrArg (· * _) (pay9_at v K y r n)

/-- The importance of the blocks of keys. -/
theorem pay21_at (v : IVec S256x1024 1) (K : FVec Ideal S1024x64 .bf16) (y : Fin 4 → Vec Ideal S1x256x128 .bf16)
    (ov : Vec Ideal S1024x256 .bf16) (r j : Fin 256) :
    k0_pay21 (k0_pay15 v K (k0_pay11 v K k0_pay6 (k0_pay9 v K (y 0)) (y 1)) (k0_pay12 (y 2)) (constant S256x1024 .f32 0x00000000#32))
      (k0_pay16 v K (y 3)) (k0_pay17 v K (y 3)) k0_pay18 ov (ix2 r j)
      = weigh (shares (fun n => v (ix2 r n)) fun h => logits (y h) K r) (fun n j => ov (ix2 n j)) j := by
  have e : ∀ n : Fin 1024, addf (k0_pay15 v K (k0_pay11 v K k0_pay6 (k0_pay9 v K (y 0)) (y 1)) (k0_pay12 (y 2)) (constant S256x1024 .f32 0x00000000#32))
      (k0_pay19 (k0_pay16 v K (y 3)) (k0_pay17 v K (y 3)) k0_pay18) (ix2 r n)
      = shares (fun n => v (ix2 r n)) (fun h => logits (y h) K r) n := by
    intro n
    unfold k0_pay15 k0_pay11
    rw [pay13_eq, pay19_eq]
    pointwise [k0_pay6]
    rw [pay9_at, pay9_at, pay9_at, pay9_at, shares, Fin.sum_univ_four]
  refine Eq.trans ?_ (weigh_split _ _ _ j)
  simp only [← e]
  unfold k0_pay21
  generalize addf (k0_pay15 v K (k0_pay11 v K k0_pay6 (k0_pay9 v K (y 0)) (y 1)) (k0_pay12 (y 2)) (constant S256x1024 .f32 0x00000000#32))
      (k0_pay19 (k0_pay16 v K (y 3)) (k0_pay17 v K (y 3)) k0_pay18) = p
  pointwise
  trace_state

/-- The number of the block a row's query is in. -/
theorem pay25_at (T : IVec S256x1 32) (r : Fin 256) (t : ℕ) (ht : t < 16384) (hT : T (ix2 r 0) = BitVec.ofNat 32 t) :
    k0_pay25 (k0_pay22 T) (k0_pay23 T) k0_pay24 (ix2 r 0) = own t := by
  pointwise [k0_pay25, k0_pay22, k0_pay23, k0_pay24]
  rw [hT]
  exact (by decide +kernel : ∀ t : Fin 16384, Scalar.select
      (IntOp.andi
        (IntOp.cmpi CmpIPredicate.ne
          (IntOp.subi (BitVec.setWidth 32 (IntOp.cmpi CmpIPredicate.sgt (BitVec.ofNat 32 t.val) 0#32))
            (BitVec.setWidth 32 (IntOp.cmpi CmpIPredicate.slt (BitVec.ofNat 32 t.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 t.val) 64#32) 0#32))
      (IntOp.subi (IntOp.divsi ArithUnit.vector (BitVec.ofNat 32 t.val) 64#32) 1#32)
      (IntOp.divsi ArithUnit.vector (BitVec.ofNat 32 t.val) 64#32) = own t.val) ⟨t, ht⟩

/-- The scores of a row. -/
theorem pay27_row (P : Tile) (T : IVec S256x1 32) (r : Fin 256) (t : ℕ) (ht : t < 16384) (hT : T (ix2 r 0) = BitVec.ofNat 32 t) :
    rowOf (k0_pay27 P (iota .tc S1x256 32 [1] iota_S1x256_d1_w32) (k0_pay22 T) (k0_pay23 T) k0_pay24) r = score t (rowOf P r) := by
  funext j
  unfold rowOf
  pointwise [k0_pay27, k0_pay26]
  rw [pay25_at T r t ht hT]
  rfl

/-- The visible blocks of a row. -/
theorem pay26_at (T : IVec S256x1 32) (r j : Fin 256) (t : ℕ) (ht : t < 16384) (hT : T (ix2 r 0) = BitVec.ofNat 32 t) :
    k0_pay26 (iota .tc S1x256 32 [1] iota_S1x256_d1_w32) (k0_pay22 T) (k0_pay23 T) k0_pay24 (ix2 r j) = allowed t j := by
  pointwise [k0_pay26]
  rw [pay25_at T r t ht hT]
  rfl

theorem numbers_at (x : Fin 256) : k0_pay28 (F := Ideal) (iota .tc S1x256 32 [1] iota_S1x256_d1_w32) (ix2 0 x) = number x := by
  pointwise [k0_pay28]
  rfl

section
variable (i : grid0.Coords) (x0 : Vec Ideal S4x256x128 .bf16) (x1 x2 : Vec Ideal S1x1024x64 .bf16) (x3 : Vec Ideal S1024x256 .bf16)

/-- A head's logits, from the blocks. -/
def blockLogits (h : Fin 4) (r : Fin 256) : Logits := fun n =>
  ∑ k : Fin 64, (show EReal from x0 (ix3 h r (⟨k.val, by omega⟩ : Fin 128))) * (show EReal from x1 (ix3 0 n k))

theorem pay4_at (n : Fin 1024) (k : Fin 64) : k0_pay4 (View.ld x1 r0_0) (ix2 n k) = x1 (ix3 0 n k) := by
  pointwise [k0_pay4]

theorem pay5_at (n : Fin 1024) (k : Fin 64) : k0_pay5 (View.ld x1 r0_0) (ix2 n k) = x1 (ix3 0 n k) := by
  pointwise [k0_pay5]

/-- A head's part of the queries' block. -/
def headBlock : Fin 4 → Vec Ideal S1x256x128 .bf16 := ![View.ld x0 r0_1, View.ld x0 r0_3, View.ld x0 r0_5, View.ld x0 r0_7]

theorem headBlock_at (h : Fin 4) (r : Fin 256) (k : Fin 128) : headBlock x0 h (ix3 0 r k) = x0 (ix3 h r k) := by
  fin_cases h
  all_goals
    dsimp only [headBlock]
    pointwise

theorem logits_block (h : Fin 4) (r : Fin 256) : logits (headBlock x0 h) (k0_pay4 (View.ld x1 r0_0)) r = blockLogits x0 x1 h r := by
  funext n
  refine Finset.sum_congr (M := EReal) rfl fun k _ => ?_
  rw [headBlock_at, pay4_at]

theorem seen_block (r : Fin 256) : (fun n => k0_pay3 i (ix2 r n)) = seen (place i r) := funext (pay3_at i r)

/-- One head's result, from the blocks. -/
theorem head_block (h : Fin 4) (r : Fin 256) (d : Fin 64) :
    k0_pay8 (k0_pay5 (View.ld x2 r0_0)) (k0_pay9 (k0_pay3 i) (k0_pay4 (View.ld x1 r0_0)) (headBlock x0 h)) (ix3 0 r d)
    = ∑ n : Fin 1024, share (seen (place i r)) (blockLogits x0 x1 h r) n * (show EReal from x2 (ix3 0 n d)) := by
  rw [head_at, seen_block, logits_block]
  exact Finset.sum_congr (M := EReal) rfl fun n _ => congrArg (_ * ·) (pay5_at x2 n d)

/-- What a grid point leaves in the heads' results. -/
theorem out4_at (h : Fin 4) (r : Fin 256) (d : Fin 64) : out0_4 (F := Ideal) i x0 x1 x2 x3 (ix3 h r d)
    = ∑ n : Fin 1024, share (seen (place i r)) (blockLogits x0 x1 h r) n * (show EReal from x2 (ix3 0 n d)) := by
  frame_out
  canon_tiles x h
  all_goals
    obtain ⟨z, a, b, rfl⟩ : ∃ (z : Fin 1) (a : Fin 256) (b : Fin 64), x = (ix3 z a b : S1x256x64.Idx) := ⟨x 0, x 1, x 2, eq_ix3 x⟩
    obtain rfl : z = 0 := Subsingleton.elim _ _
    obtain rfl : r = a := Fin.ext h1
    obtain rfl : d = b := Fin.ext h2
  · obtain rfl : h = 3 := Fin.ext h0
    exact head_block i x0 x1 x2 3 r d
  · obtain rfl : h = 2 := Fin.ext h0
    exact head_block i x0 x1 x2 2 r d
  · obtain rfl : h = 1 := Fin.ext h0
    exact head_block i x0 x1 x2 1 r d
  · obtain rfl : h = 0 := Fin.ext h0
    exact head_block i x0 x1 x2 0 r d

/-- The scores the kernel chooses from. -/
def scores : Tile := k0_pay27 (k0_pay82 i x0 x1 x2 x3) (k0_pay81 i x0 x1 x2 x3) (k0_pay83 i x0 x1 x2 x3) (k0_pay84 i x0 x1 x2 x3) (k0_pay85 i x0 x1 x2 x3)

/-- A row's importance, from the blocks. -/
def blockScores (r : Fin 256) : Scores :=
  score (place i r) (weigh (shares (seen (place i r)) fun h => blockLogits x0 x1 h r) fun n j => x3 (ix2 n j))

theorem scores_row (r : Fin 256) : rowOf (scores i x0 x1 x2 x3) r = blockScores i x0 x1 x3 r := by
  refine (pay27_row (k0_pay82 i x0 x1 x2 x3) (k0_pay2 i) r (place i r) (place_lt i r) (pay2_at i r)).trans ?_
  refine congrArg (score (place i r)) ?_
  funext j
  refine (pay21_at (k0_pay3 i) (k0_pay4 (View.ld x1 r0_0)) (headBlock x0) (View.ld x3 r0_9) r j).trans ?_
  rw [seen_block]
  simp only [logits_block]
  refine congrFun (congrArg (weigh _) ?_) j
  funext n j
  pointwise

theorem val87_eq : k0_pay87 i x0 x1 x2 x3 = after (k0_pay86 i x0 x1 x2 x3) (scores i x0 x1 x2 x3) := rfl
theorem val88_eq : k0_pay88 i x0 x1 x2 x3 = greatest (k0_pay87 i x0 x1 x2 x3) := rfl
theorem val89_eq : k0_pay89 i x0 x1 x2 x3 = k0_pay42 (k0_pay86 i x0 x1 x2 x3) := rfl
theorem val92_eq : k0_pay92 i x0 x1 x2 x3 = k0_pay42 (k0_pay86 i x0 x1 x2 x3) := rfl
theorem val95_eq : k0_pay95 i x0 x1 x2 x3 = k0_pay42 (k0_pay86 i x0 x1 x2 x3) := rfl
theorem val98_eq : k0_pay98 i x0 x1 x2 x3 = k0_pay42 (k0_pay86 i x0 x1 x2 x3) := rfl
theorem val69_eq (J : Numbers) : k0_pay69 J = k0_pay42 J := rfl
theorem val90_eq : k0_pay90 i x0 x1 x2 x3
    = after (k0_pay86 i x0 x1 x2 x3) (after (k0_pay86 i x0 x1 x2 x3) (after (k0_pay86 i x0 x1 x2 x3) (k0_pay87 i x0 x1 x2 x3))) :=
  pay40_eq _ _
theorem val91_eq : k0_pay91 i x0 x1 x2 x3 = greatest (k0_pay90 i x0 x1 x2 x3) :=
  (pay41_eq (k0_pay86 i x0 x1 x2 x3) (k0_pay87 i x0 x1 x2 x3)).trans (congrArg greatest (val90_eq i x0 x1 x2 x3).symm)
theorem val93_eq : k0_pay93 i x0 x1 x2 x3
    = after (k0_pay86 i x0 x1 x2 x3) (after (k0_pay86 i x0 x1 x2 x3) (after (k0_pay86 i x0 x1 x2 x3) (k0_pay90 i x0 x1 x2 x3))) := by
  unfold k0_pay93
  rw [val91_eq, val92_eq]
  exact pay49_eq _ _
theorem val94_eq : k0_pay94 i x0 x1 x2 x3 = greatest (k0_pay93 i x0 x1 x2 x3) := by
  rw [val93_eq]
  unfold k0_pay94
  rw [val91_eq, val92_eq]
  exact pay50_eq _ _
theorem val96_eq : k0_pay96 i x0 x1 x2 x3
    = after (k0_pay86 i x0 x1 x2 x3) (after (k0_pay86 i x0 x1 x2 x3) (after (k0_pay86 i x0 x1 x2 x3) (k0_pay93 i x0 x1 x2 x3))) := by
  unfold k0_pay96
  rw [val94_eq, val95_eq]
  exact pay58_eq _ _
theorem val97_eq : k0_pay97 i x0 x1 x2 x3 = greatest (k0_pay96 i x0 x1 x2 x3) := by
  rw [val96_eq]
  unfold k0_pay97
  rw [val94_eq, val95_eq]
  exact pay59_eq _ _

theorem pay1_at (S : Tile) (r j : Fin 256) : k0_pay1 S (ix3 0 r j) = S (ix2 r j) := by
  pointwise [k0_pay1]

theorem pick_at (C A : Bits2) (r j : Fin 256) :
    (select (andi C A) (broadcast S256x256 (Scalar.ofBits .f32 0x00000000#32)) (broadcast S256x256 (Scalar.ofBits .f32 0xF149F2CA#32)) : Tile) (ix2 r j)
      = Scalar.select (IntOp.andi (C (ix2 r j)) (A (ix2 r j))) (0 : EReal) unseen := by
  pointwise

/-- What a grid point leaves in the penalties, where its overlaps are not negative. -/
theorem out5_at (r : Fin 256) (j : Fin 256) (h3 : ∀ (n : Fin 1024) (j : Fin 256), (0 : EReal) ≤ x3 (ix2 n j)) :
    out0_5 (F := Ideal) i x0 x1 x2 x3 (ix3 0 r j) = penalty (place i r) (blockScores i x0 x1 x3 r) j := by
  frame_out
  rw [pay1_at, val98_eq, val97_eq, val95_eq, val94_eq, val92_eq, val91_eq, val89_eq, val88_eq, val69_eq, pay68_eq, pay67_eq,
    pay66_eq, pay57_eq, pay48_eq, pay39_eq, pay70_eq, val96_eq, val93_eq, val90_eq, val87_eq]
  refine (pick_at (chosen (k0_pay86 i x0 x1 x2 x3) (scores i x0 x1 x2 x3)) _ r j).trans ?_
  have hs := scores_row i x0 x1 x2 x3 r
  have hc := chosen_iff (k0_pay86 i x0 x1 x2 x3) (numbers_at) (scores i x0 x1 x2 x3) r (fun x => by
    rw [hs]
    exact struck_score _ _ (weigh_nonneg _ _ _ h3) x) j
  rw [hs] at hc
  exact penalty_eq _ _ _ _ _ hc (pay26_at (k0_pay2 i) r j (place i r) (place_lt i r) (pay2_at i r))

end

end Cert.CmpIdeal.Cmp
end
-- ==== Proof.CmpValue.Whole.lean ====
/-
  The two result arrays of the compressed attention, as functions of the queries and of the compressed keys and values.
-/
module

public import Idealize.ShloMosaic.Lib.Pipeline.ValueKit
public import proofs.«01_k».proof.Proof.CmpValue.Row

@[expose] public section

noncomputable section

namespace Cert.Picks

open Idealize.ShloMosaic

/-- The queries, already scaled: heads, rows, lanes. -/
abbrev Queries := (⟨3, ![8, 16384, 64]⟩ : Shape).Idx → EReal

/-- The compressed keys, or values: groups, compressed rows, lanes. -/
abbrev Keys := (⟨3, ![2, 1024, 64]⟩ : Shape).Idx → EReal

/-- A query's logits over the compressed keys of its head's group. -/
def headLogits (q : Queries) (kc : Keys) (g : Fin 2) (h : Fin 8) (t : Fin 16384) : Logits :=
  fun n => ∑ k : Fin 64, q (ix3 h t k) * kc (ix3 g n k)

/-- The group of a head. -/
def groupOf (h : Fin 8) : Fin 2 := ⟨h.val / 4, by omega⟩

/-- A head of a group. -/
def headOf (g : Fin 2) (h : Fin 4) : Fin 8 := ⟨g.val * 4 + h.val, by omega⟩

/-- The compressed attention of a head's row: the shares of the compressed rows it sees, times their values. -/
def attend (q : Queries) (kc vc : Keys) (h : Fin 8) (t : Fin 16384) (d : Fin 64) : EReal :=
  ∑ n : Fin 1024, share (seen t.val) (headLogits q kc (groupOf h) h t) n * vc (ix3 (groupOf h) n d)

/-- The blocks' scores for a group's row. -/
def blockScore (q : Queries) (kc : Keys) (g : Fin 2) (t : Fin 16384) : Scores :=
  score t.val (weigh (shares (seen t.val) fun h => headLogits q kc g (headOf g h) t) overlap)

/-- The compressed attention's whole array. -/
def attended (q : Queries) (kc vc : Keys) : (⟨3, ![8, 16384, 64]⟩ : Shape).Idx → EReal :=
  fun y => attend q kc vc (y 0) (y 1) (y 2)

/-- The selection's whole array of penalties. -/
def penalties (q : Queries) (kc : Keys) : (⟨3, ![2, 16384, 256]⟩ : Shape).Idx → EReal :=
  fun y => penalty (y 1 : Fin 16384).val (blockScore q kc (y 0) (y 1)) (y 2)

end Cert.Picks
end
-- ==== Proof.CmpValue.Array.lean ====
/-
  The compressed attention's kernel over the reals: the host's buffers, the blocks, and the two result arrays.
-/
module

public import proofs.«01_k».proof.Proof.Gen.CmpIdeal.Frame
public import proofs.«01_k».proof.Proof.CmpValue.Pay
public import proofs.«01_k».proof.Proof.CmpValue.Whole
public import Idealize.ShloMosaic.Lib.Pipeline.ValueKit
public import Idealize.ShloMosaic.Lib.Pipeline.Covers
public import Idealize.ShloMosaic.Lib.StableHlo.Run

@[expose] public section

set_option maxRecDepth 16384

noncomputable section

namespace Cert.CmpIdeal.Cmp

open Cert.CmpIdeal Cert.CmpIdeal.Gen Cert.Picks
open Idealize.ShloMosaic Idealize.ShloMosaic.TcCoe Idealize.SL.Sem
open Idealize.ShloMosaic.Pipeline (Dat)

variable (m : (ℓ : Loc nD τ sig) → Buf (Elt Ideal) ℓ)

/-- Every window's block at every grid point, and the point's second coordinate. -/
theorem idx : ∀ t : Fin cfg0.N, win0_0.index t = ![t.val / 64, t.val % 64, 0] ∧ win0_1.index t = ![t.val / 64, 0, 0]
    ∧ win0_2.index t = ![t.val / 64, 0, 0] ∧ win0_3.index t = ![0, 0]
    ∧ win0_4.index t = ![t.val / 64, t.val % 64, 0] ∧ win0_5.index t = ![t.val / 64, t.val % 64, 0] ∧ (grid0.coords t 1).val = t.val % 64 :=
  (by decide +kernel : ∀ t : Fin grid0.N, _)

theorem point_lt (t : Fin cfg0.N) : t.val < 128 := t.isLt

/-- The group of heads of a grid point. -/
def group (t : Fin cfg0.N) : Fin 2 := ⟨t.val / 64, by have := point_lt t; omega⟩

/-- A head of a grid point. -/
def head (t : Fin cfg0.N) (h : Fin 4) : Fin 8 := headOf (group t) h

/-- A row of a grid point's block, as a row of the whole array. -/
def row (t : Fin cfg0.N) (r : Fin 256) : Fin 16384 := ⟨t.val % 64 * 256 + r.val, by omega⟩

theorem place_row (t : Fin cfg0.N) (r : Fin 256) : place (grid0.coords t) r = (row t r).val := by
  obtain ⟨-, -, -, -, -, -, h⟩ := idx t
  unfold place row
  rw [h]

set_option maxHeartbeats 4000000 in
/-- The overlaps. -/
theorem Vov_at (c : Dev nD) (n : Fin 1024) (j : Fin 256) : V m c main_v21 (ix2 n j) = overlap n j := by
  dsimp only [V]
  simp only [hostOps0, hostOps0_1, List.flatten_cons, List.flatten_nil, List.append_nil, List.cons_append, List.nil_append]
  simp only [StableHlo.TRef.binary, StableHlo.TRef.unary, StableHlo.TRef.toBuf, StableHlo.TRef.ofBuf, cast_eq]
  after_results
  pointwise
  rfl

set_option maxHeartbeats 4000000 in
/-- The queries, in the first lanes. -/
theorem Vq_at (c : Dev nD) (h : Fin 8) (n : Fin 16384) (k : Fin 64) :
    V m c main_v22 (ix3 h n (⟨k.val, by omega⟩ : Fin 128)) = m ((c : Thread nD τ).loc main_arg0) (ix3 h n k) := by
  dsimp only [V]
  simp only [hostOps0, hostOps0_1, List.flatten_cons, List.flatten_nil, List.append_nil, List.cons_append, List.nil_append]
  simp only [StableHlo.TRef.binary, StableHlo.TRef.unary, StableHlo.TRef.toBuf, StableHlo.TRef.ofBuf, cast_eq]
  after_results_simp
  pointwise

theorem iblk0_at (c : Dev nD) (t : Fin cfg0.N) (h : Fin 4) (r : Fin 256) (k : Fin 64) :
    iblk m c 0 t (ix3 h r (⟨k.val, by omega⟩ : Fin 128)) = m ((c : Thread nD τ).loc main_arg0) (ix3 (head t h) (row t r) k) := by
  have e : (win0_0.blk t).view.emb (ix3 h r (⟨k.val, by omega⟩ : Fin 128)) = ix3 (head t h) (row t r) (⟨k.val, by omega⟩ : Fin 128) := by
    blk_ext [head, headOf, group, row, idx t]
  exact (congrArg (V m c main_v22) e).trans (Vq_at m c _ _ _)

theorem iblk1_at (c : Dev nD) (t : Fin cfg0.N) (n : Fin 1024) (k : Fin 64) :
    iblk m c 1 t (ix3 0 n k) = m ((c : Thread nD τ).loc main_arg1) (ix3 (group t) n k) := by
  dsimp only [iblk]
  entry_read
  blk_ext [group, idx t]

theorem iblk2_at (c : Dev nD) (t : Fin cfg0.N) (n : Fin 1024) (k : Fin 64) :
    iblk m c 2 t (ix3 0 n k) = m ((c : Thread nD τ).loc main_arg2) (ix3 (group t) n k) := by
  dsimp only [iblk]
  entry_read
  blk_ext [group, idx t]

theorem iblk3_at (c : Dev nD) (t : Fin cfg0.N) (n : Fin 1024) (j : Fin 256) :
    iblk m c 3 t (ix2 n j) = overlap n j := by
  have e : (win0_3.blk t).view.emb (ix2 n j) = ix2 n j := by
    blk_ext [idx t]
  exact (congrArg (V m c main_v21) e).trans (Vov_at m c _ _)

/-- A block's logits are the whole arrays'. -/
theorem blockLogits_at (c : Dev nD) (t : Fin cfg0.N) (h : Fin 4) (r : Fin 256) :
    blockLogits (iblk m c 0 t) (iblk m c 1 t) h r
      = headLogits (m ((c : Thread nD τ).loc main_arg0)) (m ((c : Thread nD τ).loc main_arg1)) (group t) (head t h) (row t r) :=
  funext fun n => Finset.sum_congr (M := EReal) rfl fun k _ => congrArg₂ (· * ·) (iblk0_at m c t h r k) (iblk1_at m c t n k)

theorem group_head (t : Fin cfg0.N) (h : Fin 4) : groupOf (head t h) = group t := Fin.ext (by
  show (t.val / 64 * 4 + h.val) / 4 = t.val / 64
  omega)

/-- The first result array is the compressed attention. -/
theorem arr4 (c : Dev nD) : (dats m 0 c).arrAt 4 cfg0.N
    = attended (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨h, r, d, rfl⟩ : ∃ (h : Fin 4) (r : Fin 256) (d : Fin 64), y = (ix3 h r d : S4x256x64.Idx) := ⟨y 0, y 1, y 2, eq_ix3 y⟩
  blk_simp
  rw [after0_4]
  have e : (win0_4.blk t).view.emb (ix3 h r d : S4x256x64.Idx) = (ix3 (head t h) (row t r) d : S8x16384x64.Idx) := by
    blk_ext [head, headOf, group, row, idx t]
  rw [e]
  refine (out4_at (grid0.coords t) _ _ _ _ h r d).trans ?_
  rw [blockLogits_at, place_row]
  show _ = attend _ _ _ (head t h) (row t r) d
  unfold attend
  rw [group_head]
  exact Finset.sum_congr (M := EReal) rfl fun n _ => congrArg (_ * ·) (iblk2_at m c t n d)

/-- The second result array holds the penalties of the selection. -/
theorem arr5 (c : Dev nD) : (dats m 0 c).arrAt 5 cfg0.N
    = penalties (m ((c : Thread nD τ).loc main_arg0)) (m ((c : Thread nD τ).loc main_arg1)) := by
  refine (dats m 0 c).arrAt_eq_of_covers 5 _ (by decide +kernel) fun t hf y => ?_
  obtain ⟨z, r, j, rfl⟩ : ∃ (z : Fin 1) (r : Fin 256) (j : Fin 256), y = (ix3 z r j : S1x256x256.Idx) := ⟨y 0, y 1, y 2, eq_ix3 y⟩
  obtain rfl : z = 0 := Subsingleton.elim _ _
  blk_simp
  rw [after0_5]
  have e : (win0_5.blk t).view.emb (ix3 0 r j : S1x256x256.Idx) = (ix3 (group t) (row t r) j : S2x16384x256.Idx) := by
    blk_ext [group, row, idx t]
  rw [e]
  refine (out5_at (grid0.coords t) _ _ _ _ r j fun n j => ?_).trans ?_
  · rw [iblk3_at]
    exact overlap_nonneg n j
  show _ = penalty (row t r).val (blockScore _ _ (group t) (row t r)) j
  unfold blockScores blockScore
  rw [place_row, show (fun n j => iblk m c 3 t (ix2 n j)) = overlap from funext fun n => funext fun j => iblk3_at m c t n j,
    show (fun h => blockLogits (iblk m c 0 t) (iblk m c 1 t) h r) = _ from funext fun h => blockLogits_at m c t h r]
  rfl

end Cert.CmpIdeal.Cmp
end
-- ==== Proof.CmpValue.Ref.lean ====
/-
  The compressed attention's reference over the reals: its two results are the mathematics of `Whole`.
-/
module

public import Idealize.ShloMosaic.Lib.Pipeline.ValueKit
public import proofs.«01_k».proof.Proof.Gen.CmpRefIdeal.Run
public import proofs.«01_k».proof.Proof.CmpValue.Whole

@[expose] public section

set_option maxRecDepth 16384

noncomputable section

namespace Cert.CmpRefIdeal.Ref

open Cert.CmpRefIdeal Cert.CmpRefIdeal.Gen Cert.CmpRefIdeal.Value Cert.Picks
open Idealize.ShloMosaic Idealize.ShloMosaic.TcCoe Idealize.SL.Sem

/-- Which compressed rows each query sees. -/
def sight : IVec S16384x1024 1 :=
  cmpi .sle (broadcastInDim S16384x1024 ![0, 1] bcast_S1x1024_S16384x1024_0_1 (broadcastInDim S1x1024 ![1] bcast_S1024_S1x1024_1 (addi (muli (iotaInDim S1024 32 0) (broadcastInDim S1024 ![] bcast_S_S1024 (constantI S_ 32 16#32))) (broadcastInDim S1024 ![] bcast_S_S1024 (constantI S_ 32 31#32))))) (broadcastInDim S16384x1024 ![0, 1] bcast_S16384x1_S16384x1024_0_1 (broadcastInDim S16384x1 ![0] bcast_S16384_S16384x1_0 (iotaInDim S16384 32 0)))

/-- The same for every head. -/
def sights : IVec S2x4x16384x1024 1 := broadcastInDim S2x4x16384x1024 ![2, 3] bcast_S16384x1024_S2x4x16384x1024_2_3 sight

theorem sights_at (g : Fin 2) (h : Fin 4) (t : Fin 16384) (n : Fin 1024) : sights (ix4 g h t n) = seen t.val n := by
  pointwise [sights, sight]
  rfl

/-- The logits. -/
def logit (q : FVec Ideal S8x16384x64 .bf16) (kc : FVec Ideal S2x1024x64 .bf16) : FVec Ideal S2x4x16384x1024 .f32 :=
  Host.dotGeneral dot_S2x4x16384x64_S2x1024x64_S2x4x16384x1024_3_2_12_1_0_0 none (extf .f32 (shapeCast _ q shapeCasts_S8x16384x64_S2x4x16384x64) bitsLt_bf16_f32) (extf .f32 kc bitsLt_bf16_f32)

theorem logit_at (q : FVec Ideal S8x16384x64 .bf16) (kc : FVec Ideal S2x1024x64 .bf16) (g : Fin 2) (h : Fin 4) (t : Fin 16384) (n : Fin 1024) :
    logit q kc (ix4 g h t n) = headLogits q kc g (headOf g h) t n := by
  pointwise [logit]
  rfl

/-- The logits with the unseen rows unseen. -/
def cover (M : IVec S2x4x16384x1024 1) (S : FVec Ideal S2x4x16384x1024 .f32) : FVec Ideal S2x4x16384x1024 .f32 :=
  select M S (broadcastInDim S2x4x16384x1024 ![] bcast_S_S2x4x16384x1024 (id (constant S_ .f32 0xF149F2CA#32)))

/-- The exponential weights. -/
def expo (M : IVec S2x4x16384x1024 1) (C : FVec Ideal S2x4x16384x1024 .f32) : FVec Ideal S2x4x16384x1024 .f32 :=
  select M (Host.exp (subf C (broadcastInDim S2x4x16384x1024 ![0, 1, 2, 3] bcast_S2x4x16384x1_S2x4x16384x1024_0_1_2_3 (broadcastInDim S2x4x16384x1 ![0, 1, 2] bcast_S2x4x16384_S2x4x16384x1_0_1_2 (Host.reduce FloatOps.maximumf C (constant S_ .f32 0xFF800000#32) reducesTo_S2x4x16384x1024_S2x4x16384_d3 h_S_))))) (broadcastInDim S2x4x16384x1024 ![] bcast_S_S2x4x16384x1024 (id (constant S_ .f32 0x00000000#32)))

/-- The weights over their sums. -/
def quota (E : FVec Ideal S2x4x16384x1024 .f32) : FVec Ideal S2x4x16384x1024 .f32 :=
  Host.divf E (broadcastInDim S2x4x16384x1024 ![0, 1, 2, 3] bcast_S2x4x16384x1_S2x4x16384x1024_0_1_2_3 (maximumf (broadcastInDim S2x4x16384x1 ![0, 1, 2] bcast_S2x4x16384_S2x4x16384x1_0_1_2 (Host.reduceAdd E (constant S_ .f32 0x00000000#32) reducesTo_S2x4x16384x1024_S2x4x16384_d3 h_S_)) (broadcastInDim S2x4x16384x1 ![] bcast_S_S2x4x16384x1 (constant S_ .f32 0x0DA24260#32))))

theorem cover_at (M : IVec S2x4x16384x1024 1) (S : FVec Ideal S2x4x16384x1024 .f32) (g : Fin 2) (h : Fin 4) (t : Fin 16384) (n : Fin 1024) :
    cover M S (ix4 g h t n) = masked (fun n => M (ix4 g h t n)) (fun n => S (ix4 g h t n)) n := by
  pointwise [cover]
  rfl

theorem expo_at (M : IVec S2x4x16384x1024 1) (S : FVec Ideal S2x4x16384x1024 .f32) (g : Fin 2) (h : Fin 4) (t : Fin 16384) (n : Fin 1024) :
    expo M (cover M S) (ix4 g h t n) = weight (fun n => M (ix4 g h t n)) (fun n => S (ix4 g h t n)) n := by
  have e : (fun n => cover M S (ix4 g h t n)) = masked (fun n => M (ix4 g h t n)) (fun n => S (ix4 g h t n)) :=
    funext fun n => cover_at M S g h t n
  unfold weight
  rw [← e]
  generalize cover M S = C
  pointwise [expo, id]

theorem quota_at (E : FVec Ideal S2x4x16384x1024 .f32) (g : Fin 2) (h : Fin 4) (t : Fin 16384) (n : Fin 1024) :
    quota E (ix4 g h t n) = Ideal.div (E (ix4 g h t n)) (max (∑ n : Fin 1024, (show EReal from E (ix4 g h t n))) (Ideal.ofBits .f32 0x0DA24260#32)) := by
  pointwise [quota]

/-- The shares. -/
def parts (q : FVec Ideal S8x16384x64 .bf16) (kc : FVec Ideal S2x1024x64 .bf16) : FVec Ideal S2x4x16384x1024 .f32 :=
  quota (expo sights (cover sights (logit q kc)))

theorem parts_at (q : FVec Ideal S8x16384x64 .bf16) (kc : FVec Ideal S2x1024x64 .bf16) (g : Fin 2) (h : Fin 4) (t : Fin 16384) (n : Fin 1024) :
    parts q kc (ix4 g h t n) = share (seen t.val) (headLogits q kc g (headOf g h) t) n := by
  have e : ∀ n, expo sights (cover sights (logit q kc)) (ix4 g h t n) = weight (seen t.val) (headLogits q kc g (headOf g h) t) n := fun n => by
    rw [expo_at, show (fun n => sights (ix4 g h t n)) = seen t.val from funext fun n => sights_at g h t n,
      show (fun n => logit q kc (ix4 g h t n)) = headLogits q kc g (headOf g h) t from funext fun n => logit_at q kc g h t n]
  refine (quota_at _ g h t n).trans ?_
  unfold share total
  exact congrArg₂ Ideal.div (e n) (congrArg (max · _) (Finset.sum_congr (M := EReal) rfl fun n _ => e n))

/-- The number of the block each query is in, by the division that rounds towards minus infinity. -/
def blockOf : IVec S16384 32 :=
  select (andi (cmpi .ne (signi (iotaInDim S16384 32 0)) (broadcastInDim S16384 ![] bcast_S_S16384 (signi (id (constantI S_ 32 64#32))))) (cmpi .ne (Host.remsi (iotaInDim S16384 32 0) (broadcastInDim S16384 ![] bcast_S_S16384 (id (constantI S_ 32 64#32)))) (broadcastInDim S16384 ![] bcast_S_S16384 (constantI S_ 32 0#32)))) (subi (Host.divsi (iotaInDim S16384 32 0) (broadcastInDim S16384 ![] bcast_S_S16384 (id (constantI S_ 32 64#32)))) (broadcastInDim S16384 ![] bcast_S_S16384 (constantI S_ 32 1#32))) (Host.divsi (iotaInDim S16384 32 0) (broadcastInDim S16384 ![] bcast_S_S16384 (id (constantI S_ 32 64#32))))

theorem blockOf_at (t : Fin 16384) : blockOf (ix1 t) = own t.val := by
  pointwise [blockOf]
  revert t
  decide +kernel

/-- Which blocks each query sees. -/
def reach : IVec S16384x256 1 :=
  cmpi .sle (broadcastInDim S16384x256 ![0, 1] bcast_S1x256_S16384x256_0_1 (broadcastInDim S1x256 ![1] bcast_S256_S1x256_1 (iotaInDim S256 32 0))) (broadcastInDim S16384x256 ![0, 1] bcast_S16384x1_S16384x256_0_1 (broadcastInDim S16384x1 ![0] bcast_S16384_S16384x1_0 blockOf))

theorem reach_at (t : Fin 16384) (j : Fin 256) : reach (ix2 t j) = allowed t.val j := by
  unfold allowed
  rw [← blockOf_at t]
  pointwise [reach]

/-- The blocks each query always takes. -/
def always : IVec S16384x256 1 :=
  ori (ori (broadcastInDim S16384x256 ![0, 1] bcast_S1x256_S16384x256_0_1 (cmpi .eq (broadcastInDim S1x256 ![1] bcast_S256_S1x256_1 (iotaInDim S256 32 0)) (broadcastInDim S1x256 ![] bcast_S_S1x256 (constantI S_ 32 0#32)))) (cmpi .eq (broadcastInDim S16384x256 ![0, 1] bcast_S1x256_S16384x256_0_1 (broadcastInDim S1x256 ![1] bcast_S256_S1x256_1 (iotaInDim S256 32 0))) (broadcastInDim S16384x256 ![0, 1] bcast_S16384x1_S16384x256_0_1 (broadcastInDim S16384x1 ![0] bcast_S16384_S16384x1_0 blockOf)))) (cmpi .eq (broadcastInDim S16384x256 ![0, 1] bcast_S1x256_S16384x256_0_1 (broadcastInDim S1x256 ![1] bcast_S256_S1x256_1 (iotaInDim S256 32 0))) (broadcastInDim S16384x256 ![0, 1] bcast_S16384x1_S16384x256_0_1 (subi (broadcastInDim S16384x1 ![0] bcast_S16384_S16384x1_0 blockOf) (broadcastInDim S16384x1 ![] bcast_S_S16384x1 (constantI S_ 32 1#32)))))

theorem always_at (t : Fin 16384) (j : Fin 256) : always (ix2 t j) = forced t.val j := by
  unfold forced
  rw [← blockOf_at t]
  pointwise [always]

/-- The overlaps. -/
def covers : FVec Ideal S1024x256 .f32 :=
  uitofp .f32 (andi (cmpi .slt (broadcastInDim S1024x256 ![0, 1] bcast_S1024x1_S1024x256_0_1 (broadcastInDim S1024x1 ![0] bcast_S1024_S1024x1_0 (muli (iotaInDim S1024 32 0) (broadcastInDim S1024 ![] bcast_S_S1024 (constantI S_ 32 16#32))))) (broadcastInDim S1024x256 ![0, 1] bcast_S1x256_S1024x256_0_1 (addi (broadcastInDim S1x256 ![1] bcast_S256_S1x256_1 (muli (iotaInDim S256 32 0) (broadcastInDim S256 ![] bcast_S_S256 (constantI S_ 32 64#32)))) (broadcastInDim S1x256 ![] bcast_S_S1x256 (constantI S_ 32 64#32))))) (cmpi .sgt (broadcastInDim S1024x256 ![0, 1] bcast_S1024x1_S1024x256_0_1 (addi (broadcastInDim S1024x1 ![0] bcast_S1024_S1024x1_0 (muli (iotaInDim S1024 32 0) (broadcastInDim S1024 ![] bcast_S_S1024 (constantI S_ 32 16#32)))) (broadcastInDim S1024x1 ![] bcast_S_S1024x1 (constantI S_ 32 32#32)))) (broadcastInDim S1024x256 ![0, 1] bcast_S1x256_S1024x256_0_1 (broadcastInDim S1x256 ![1] bcast_S256_S1x256_1 (muli (iotaInDim S256 32 0) (broadcastInDim S256 ![] bcast_S_S256 (constantI S_ 32 64#32)))))))

theorem covers_at (n : Fin 1024) (j : Fin 256) : covers (ix2 n j) = overlap n j := by
  pointwise [covers]
  rfl

/-- The importance of the blocks. -/
def worth (P : FVec Ideal S2x4x16384x1024 .f32) : FVec Ideal S2x16384x256 .f32 :=
  Host.dotGeneral dot_S2x16384x1024_S1024x256_S2x16384x256_2_0_01_1_n_n none (Host.reduceAdd P (constant S_ .f32 0x00000000#32) reducesTo_S2x4x16384x1024_S2x16384x1024_d1 h_S_) covers

theorem worth_at (P : FVec Ideal S2x4x16384x1024 .f32) (g : Fin 2) (t : Fin 16384) (j : Fin 256) :
    worth P (ix3 g t j) = weigh (fun n => ∑ h : Fin 4, (show EReal from P (ix4 g h t n))) overlap j := by
  unfold weigh
  rw [show overlap = fun n j => covers (ix2 n j) from funext fun n => funext fun j => (covers_at n j).symm]
  pointwise [worth]

/-- The scores of the blocks. -/
def rate (I : FVec Ideal S2x16384x256 .f32) : FVec Ideal S2x16384x256 .f32 :=
  select (broadcastInDim S2x16384x256 ![1, 2] bcast_S16384x256_S2x16384x256_1_2 reach) (addf I (broadcastInDim S2x16384x256 ![0, 1, 2] bcast_S1x16384x256_S2x16384x256_0_1_2 (broadcastInDim S1x16384x256 ![1, 2] bcast_S16384x256_S1x16384x256_1_2 (id (select always (broadcastInDim S16384x256 ![] bcast_S_S16384x256 (constant S_ .f32 0x461C4000#32)) (broadcastInDim S16384x256 ![] bcast_S_S16384x256 (constant S_ .f32 0x00000000#32))))))) (broadcastInDim S2x16384x256 ![] bcast_S_S2x16384x256 (id (constant S_ .f32 0xF149F2CA#32)))

theorem rate_at (I : FVec Ideal S2x16384x256 .f32) (g : Fin 2) (t : Fin 16384) (j : Fin 256) :
    rate I (ix3 g t j) = score t.val (fun j => I (ix3 g t j)) j := by
  unfold score
  rw [← reach_at, ← always_at]
  pointwise [rate, id]

end Cert.CmpRefIdeal.Ref
end
-- ==== Proof.CmpValue.Select.lean ====
/-
  The compressed attention's reference over the reals: the selection by the sort.
-/
module

public import proofs.«01_k».proof.Proof.CmpValue.Ref

@[expose] public section

set_option maxRecDepth 16384

noncomputable section

namespace Cert.CmpRefIdeal.Ref

open Cert.CmpRefIdeal Cert.CmpRefIdeal.Gen Cert.CmpRefIdeal.Value Cert.Picks
open Idealize.ShloMosaic Idealize.ShloMosaic.TcCoe Idealize.SL.Sem

/-- A place along the last axis. -/
theorem along_at (g : Fin 2) (t : Fin 16384) (j k : Fin 256) :
    Shape.Idx.along (s := S2x16384x256) (ix3 g t j) (2 : Fin 3) k = ix3 g t k := by
  funext a
  match a with
  | ⟨0, _⟩ => rfl
  | ⟨1, _⟩ => rfl
  | ⟨2, _⟩ => rfl

/-- The comparator of the sort is the order of the scores. -/
theorem before_eq (f : Fin 256 → EReal) (k k' : Fin 256) :
    ((FloatOps.cmpfTotal .gt : Ideal .f32 → Ideal .f32 → BitVec 1) (f k) (f k') == 1#1) = over f k k' := by
  show (BitVec.ofBool (decide (f k' < f k)) == 1#1) = decide (f k' < f k)
  cases decide (f k' < f k) <;> rfl

/-- What the sort carries along, in an entry of a row. -/
theorem sort2_at (S : FVec Ideal S2x16384x256 .f32) (y : IVec S2x16384x256 32) (g : Fin 2) (t : Fin 16384) (j : Fin 256) :
    (Host.sort2 S2x16384x256 2 (fun l r => FloatOps.cmpfTotal .gt l.1 r.1) S y).2 (ix3 g t j)
      = y (ix3 g t (sortedFrom (over fun j => (show EReal from S (ix3 g t j))) j)) := by
  unfold Host.sort2
  rw [dif_pos (by decide : 2 < S2x16384x256.rank)]
  refine (congrArg y (along_at g t j _)).trans ?_
  refine congrArg (fun f => y (ix3 g t (sortedFrom f j))) ?_
  funext k k'
  refine Eq.trans ?_ (before_eq (fun j => (show EReal from S (ix3 g t j))) k k')
  dsimp only
  exact congrArg₂ (fun a b => (FloatOps.cmpfTotal .gt : Ideal .f32 → Ideal .f32 → BitVec 1) (S a) (S b) == 1#1)
    (along_at g t j k) (along_at g t j k')

theorem slice_at (y : IVec S2x16384x256 32) (g : Fin 2) (t : Fin 16384) (x : Fin 16) :
    extractStridedSlice S2x16384x16 (fun _ => 0) y sliceFits_S2x16384x256_S2x16384x16 (ix3 g t x) = y (ix3 g t (⟨x.val, by omega⟩ : Fin 256)) := by
  pointwise

/-- The places of the first entries of the sort of a row. -/
theorem topK_at (S : FVec Ideal S2x16384x256 .f32) (g : Fin 2) (t : Fin 16384) (x : Fin 16) :
    (Host.topK S2x16384x16 2 (FloatOps.cmpfTotal .gt) S sliceFits_S2x16384x256_S2x16384x16).2 (ix3 g t x)
      = BitVec.ofNat 32 (sortedFrom (over fun j => (show EReal from S (ix3 g t j))) (⟨x.val, by omega⟩ : Fin 256)).val := by
  unfold Host.topK
  dsimp only
  refine (slice_at _ g t x).trans ((sort2_at S _ g t _).trans ?_)
  rw [dif_pos (by decide : 2 < S2x16384x256.rank)]
  rfl

/-- The disjunction of bits is set where one of them is. -/
theorem any_iff (b : Fin 16 → BitVec 1) : Finset.fold IntOp.ori (0#1) b Finset.univ = 1#1 ↔ ∃ x, b x = 1#1 := by
  have h : ∀ s : Finset (Fin 16), Finset.fold IntOp.ori (0#1) b s = 1#1 ↔ ∃ x ∈ s, b x = 1#1 := by
    intro s
    induction s using Finset.induction_on with
    | empty => simp
    | insert a s ha ih =>
      rw [Finset.fold_insert ha, (show ∀ p q : BitVec 1, IntOp.ori p q = 1#1 ↔ p = 1#1 ∨ q = 1#1 by decide), ih]
      simp
  rw [h]
  simp

/-- Two numbers of blocks are the same word where they are the same. -/
theorem same_iff (k j : Fin 256) : IntOp.cmpi .eq (BitVec.ofNat 32 k.val) (BitVec.ofNat 32 j.val) = 1#1 ↔ j = k := by
  by_cases e : j = k
  · subst e
    simp [IntOp.cmpi]
  · have h : BitVec.ofNat 32 k.val ≠ BitVec.ofNat 32 j.val := fun h => e (Fin.ext (by
      have h' := congrArg BitVec.toNat h
      simp only [BitVec.toNat_ofNat] at h'
      omega))
    rw [iff_false_right e]
    unfold IntOp.cmpi
    simp only [beq_false_of_ne h]
    decide

/-- The penalties from the scores. -/
def pick (S : FVec Ideal S2x16384x256 .f32) (A : IVec S2x16384x256 1) : FVec Ideal S2x16384x256 .f32 :=
  select (andi (Host.reduce IntOp.ori (cmpi .eq (broadcastInDim S2x16384x16x256 ![0, 1, 2, 3] bcast_S2x16384x16x1_S2x16384x16x256_0_1_2_3 (broadcastInDim S2x16384x16x1 ![0, 1, 2] bcast_S2x16384x16_S2x16384x16x1_0_1_2 ((Host.topK S2x16384x16 2 (FloatOps.cmpfTotal .gt) S sliceFits_S2x16384x256_S2x16384x16).2))) (broadcastInDim S2x16384x16x256 ![0, 1, 2, 3] bcast_S1x1x1x256_S2x16384x16x256_0_1_2_3 (broadcastInDim S1x1x1x256 ![3] bcast_S256_S1x1x1x256_3 (iotaInDim S256 32 0)))) (constantI S_ 1 0#1) reducesTo_S2x16384x16x256_S2x16384x256_d2 h_S_) A) (broadcastInDim S2x16384x256 ![] bcast_S_S2x16384x256 (constant S_ .f32 0x00000000#32)) (broadcastInDim S2x16384x256 ![] bcast_S_S2x16384x256 (constant S_ .f32 0xF149F2CA#32))

theorem pick_at (S : FVec Ideal S2x16384x256 .f32) (A : IVec S2x16384x256 1) (g : Fin 2) (t : Fin 16384) (j : Fin 256)
    (hA : A (ix3 g t j) = allowed t.val j) :
    pick S A (ix3 g t j) = penalty t.val (fun j => S (ix3 g t j)) j := by
  refine Eq.trans ?_ (penalty_eq t.val (fun j => S (ix3 g t j)) j
    (Finset.fold IntOp.ori (0#1) (fun x : Fin 16 => IntOp.cmpi .eq
      ((Host.topK S2x16384x16 2 (FloatOps.cmpfTotal .gt) S sliceFits_S2x16384x256_S2x16384x16).2 (ix3 g t x)) (BitVec.ofNat 32 j.val)) Finset.univ)
    (A (ix3 g t j)) ?_ hA)
  · pointwise [pick]
  · rw [any_iff]
    constructor
    · rintro ⟨x, h⟩
      rw [topK_at, same_iff] at h
      exact ⟨_, x.isLt, h⟩
    · rintro ⟨k, hk, h⟩
      refine ⟨⟨k.val, hk⟩, ?_⟩
      rw [topK_at, same_iff]
      exact h

variable (m : (ℓ : Loc nD τ sig) → Buf (Elt Ideal) ℓ)

/-- The reference's second result holds the penalties of the selection. -/
theorem out1_eq (c : Dev nD) : res_out1 m c = penalties (m ((c.tc : Thread nD τ).loc main_arg0)) (m ((c.tc : Thread nD τ).loc main_arg1)) := by
  have e : res_out1 m c = pick (rate (worth (parts (m ((c.tc : Thread nD τ).loc main_arg0)) (m ((c.tc : Thread nD τ).loc main_arg1)))))
      (broadcastInDim S2x16384x256 ![0, 1, 2] bcast_S1x16384x256_S2x16384x256_0_1_2 (broadcastInDim S1x16384x256 ![1, 2] bcast_S16384x256_S1x16384x256_1_2 reach)) := rfl
  funext y
  obtain ⟨g, t, j, rfl⟩ : ∃ (g : Fin 2) (t : Fin 16384) (j : Fin 256), y = (ix3 g t j : S2x16384x256.Idx) := ⟨y 0, y 1, y 2, eq_ix3 y⟩
  refine (congrFun e _).trans ((pick_at _ _ g t j ?_).trans ?_)
  · refine Eq.trans ?_ (reach_at t j)
    generalize reach = R
    pointwise
  · show _ = penalty t.val (blockScore _ _ g t) j
    refine congrArg (fun f => penalty t.val f j) (funext fun j => ?_)
    refine (rate_at _ g t j).trans ?_
    unfold blockScore
    refine congrArg (fun i => score t.val i j) (funext fun j => ?_)
    refine (worth_at _ g t j).trans ?_
    refine congrArg (fun w => weigh w overlap j) (funext fun n => ?_)
    exact Finset.sum_congr (M := EReal) rfl fun h _ => parts_at _ _ g h t n

/-- The attention from the shares. -/
def blend (P : FVec Ideal S2x4x16384x1024 .f32) (vc : FVec Ideal S2x1024x64 .bf16) : FVec Ideal S8x16384x64 .f32 :=
  shapeCast _ (Host.dotGeneral dot_S2x4x16384x1024_S2x1024x64_S2x4x16384x64_3_1_12_2_0_0 none P (extf .f32 vc bitsLt_bf16_f32)) shapeCasts_S2x4x16384x64_S8x16384x64

theorem blend_at (P : FVec Ideal S2x4x16384x1024 .f32) (vc : FVec Ideal S2x1024x64 .bf16) (h : Fin 8) (t : Fin 16384) (d : Fin 64) :
    blend P vc (ix3 h t d) = ∑ n : Fin 1024, (show EReal from P (ix4 (groupOf h) ⟨h.val % 4, by omega⟩ t n)) * vc (ix3 (groupOf h) n d) := by
  pointwise [blend]
  rfl

theorem blend_parts (q : FVec Ideal S8x16384x64 .bf16) (kc vc : FVec Ideal S2x1024x64 .bf16) : blend (parts q kc) vc = attended q kc vc := by
  funext y
  obtain ⟨h, t, d, rfl⟩ : ∃ (h : Fin 8) (t : Fin 16384) (d : Fin 64), y = (ix3 h t d : S8x16384x64.Idx) := ⟨y 0, y 1, y 2, eq_ix3 y⟩
  refine (blend_at _ _ h t d).trans ?_
  show _ = attend q kc vc h t d
  unfold attend
  refine Finset.sum_congr (M := EReal) rfl fun n _ => ?_
  have e : headOf (groupOf h) (⟨h.val % 4, by omega⟩ : Fin 4) = h := Fin.ext (by show h.val / 4 * 4 + h.val % 4 = h.val; omega)
  have h' := parts_at q kc (groupOf h) (⟨h.val % 4, by omega⟩ : Fin 4) t n
  rw [e] at h'
  rw [h']

/-- The reference's first result is the compressed attention. -/
theorem out0_eq (c : Dev nD) : res_out0 m c = attended (m ((c.tc : Thread nD τ).loc main_arg0)) (m ((c.tc : Thread nD τ).loc main_arg1)) (m ((c.tc : Thread nD τ).loc main_arg2)) := by
  have e : res_out0 m c = blend (parts (m ((c.tc : Thread nD τ).loc main_arg0)) (m ((c.tc : Thread nD τ).loc main_arg1))) (m ((c.tc : Thread nD τ).loc main_arg2)) := rfl
  exact e.trans (blend_parts _ _ _)

end Cert.CmpRefIdeal.Ref
end
-- ==== Proof.CmpValue.Equal.lean ====
/-
  The compressed attention's kernel computes its reference: both runs leave the same two arrays.
-/
module

public import proofs.«01_k».proof.Defs
public import proofs.«01_k».proof.Proof.Gen.CmpIdeal.Value
public import proofs.«01_k».proof.Proof.CmpValue.Array
public import proofs.«01_k».proof.Proof.CmpValue.Select

@[expose] public section

set_option maxRecDepth 16384

noncomputable section

namespace Cert.EqualCmp

open Cert.Picks
open Idealize.ShloMosaic Idealize.ShloMosaic.TcCoe Idealize.SL.Sem

/-- The compressed attention and the selection's penalties are the reference's, for any inputs. -/
theorem algebraic : Cert.algebraic_CmpIdeal_CmpRefIdeal := by
  intro m g m' g' _ hagree
  refine ⟨fun c => (attended
        (m ((c.tc : Thread Cert.CmpIdeal.nD Cert.CmpIdeal.τ).loc Cert.CmpIdeal.main_arg0))
        (m ((c.tc : Thread Cert.CmpIdeal.nD Cert.CmpIdeal.τ).loc Cert.CmpIdeal.main_arg1))
        (m ((c.tc : Thread Cert.CmpIdeal.nD Cert.CmpIdeal.τ).loc Cert.CmpIdeal.main_arg2)) : Cert.CmpIdeal.S8x16384x64.Idx → EReal),
    fun c => (penalties
        (m ((c.tc : Thread Cert.CmpIdeal.nD Cert.CmpIdeal.τ).loc Cert.CmpIdeal.main_arg0))
        (m ((c.tc : Thread Cert.CmpIdeal.nD Cert.CmpIdeal.τ).loc Cert.CmpIdeal.main_arg1)) : Cert.CmpIdeal.S2x16384x256.Idx → EReal), ?_, ?_⟩
  · exact (θ_run Cert.CmpIdeal.defs _ _).mono
      (fun _ h c => ⟨(h c).1.trans (Cert.CmpIdeal.Cmp.arr4 m c), (h c).2.1.trans (Cert.CmpIdeal.Cmp.arr5 m c), (h c).2.2⟩)
      (Cert.CmpIdeal.Value.run_blocks (F := Ideal) m g)
  · refine (θ_run Cert.CmpRefIdeal.defs _ _).mono (fun _ h c => ⟨(h c).1.trans ?_, (h c).2.1.trans ?_, (h c).2.2⟩)
      (Cert.CmpRefIdeal.Value.run (F := Ideal) m' g')
    all_goals
      clear h
      obtain ⟨h0, h1, h2⟩ := hagree c
    · refine (Cert.CmpRefIdeal.Ref.out0_eq m' c).trans ?_
      rw [h0, h1, h2]
    · refine (Cert.CmpRefIdeal.Ref.out1_eq m' c).trans ?_
      rw [h0, h1]

end Cert.EqualCmp

end
-- ==== Proof.OutValue.Row.lean ====
/-
  The output projection over the reals: the residual rows after attention, and their normalised rows.
-/
module

public import proofs.«01_k».proof.Proof.MoeValue.Row

@[expose] public section

noncomputable section

namespace Cert.Output

open Cert.Experts
open Idealize.ShloMosaic

/-- One entry of half a row divided by the root of the half's mean square, times a gain. -/
def half (x g : Fin 512 → EReal) (k : Fin 512) : EReal :=
  x k * Ideal.rsqrt (Ideal.div (∑ k, x k * x k) (Ideal.ofBits FTy.f32 1140850688#32) + Ideal.ofBits FTy.f32 897988541#32) * g k

/-- One entry of a row plus the two normalised halves through a column of the weights. -/
def mixed (x : EReal) (a b ga gb : Fin 512 → EReal) (w : Fin 1024 → EReal) : EReal :=
  x + (∑ k : Fin 512, half a ga k * w ⟨k.val, by omega⟩) + ∑ k : Fin 512, half b gb k * w ⟨512 + k.val, by omega⟩

/-- The residual rows after attention. -/
def joined (x : (⟨2, ![16384, 1024]⟩ : Shape).Idx → EReal) (a b : (⟨2, ![16384, 512]⟩ : Shape).Idx → EReal)
    (ga gb : (⟨1, ![512]⟩ : Shape).Idx → EReal) (w : (⟨2, ![1024, 1024]⟩ : Shape).Idx → EReal) (n : Fin 16384) (j : Fin 1024) : EReal :=
  mixed (x (ix2 n j)) (fun k => a (ix2 n k)) (fun k => b (ix2 n k)) (fun k => ga (ix1 k)) (fun k => gb (ix1 k)) (fun k => w (ix2 k j))

/-- An array of rows, from its entries. -/
def rows (f : Fin 16384 → Fin 1024 → EReal) : (⟨2, ![16384, 1024]⟩ : Shape).Idx → EReal := fun y => f (y 0) (y 1)

/-- The residual rows, normalised for the experts. -/
def ready (f : Fin 16384 → Fin 1024 → EReal) (g : (⟨1, ![1024]⟩ : Shape).Idx → EReal) (n : Fin 16384) (j : Fin 1024) : EReal :=
  normed (f n) (fun k => g (ix1 k)) j

end Cert.Output

end
-- ==== Proof.OutValue.Pay.lean ====
/-
  The output projection's kernel over the reals: what each grid point stores, at an index.
-/
module

public import proofs.«01_k».proof.Proof.Gen.OutIdeal.Frame
public import proofs.«01_k».proof.Proof.OutValue.Row
public import Idealize.ShloMosaic.Lib.Pipeline.ValueKit

@[expose] public section

set_option maxRecDepth 16384

noncomputable section

namespace Cert.OutIdeal.Out

open Cert.OutIdeal Cert.OutIdeal.Gen Cert.Experts Cert.Output
open Idealize.ShloMosaic Idealize.ShloMosaic.TcCoe Idealize.SL.Sem

variable (x0 : Vec Ideal S512x1024 .f32) (x1 x2 : Vec Ideal S512x512 .f32) (x3 x4 : Vec Ideal S1x512 .f32)
  (x5 : Vec Ideal S1024x1024 .bf16) (x6 : Vec Ideal S1x1024 .f32) (x7 x8 : Vec Ideal S1024x128 .bf16) (x9 : Vec Ideal S1x128 .f32)

/-- The second half, normalised. -/
theorem pay18_at (r k : Fin 512) : k0_pay18 (F := Ideal) x0 x1 x2 x3 x4 x5 x6 x7 x8 x9 (ix2 r k)
    = half (fun k => x2 (ix2 r k)) (fun k => x4 (ix2 0 k)) k := by
  pointwise [k0_pay18, k0_pay2]
  rfl

/-- The row plus the first half's part of the product. -/
theorem pay19_at (r : Fin 512) (j : Fin 1024) : k0_pay19 (F := Ideal) x0 x1 x2 x3 x4 x5 x6 x7 x8 x9 (ix2 r j)
    = x0 (ix2 r j) + ∑ k : Fin 512, half (fun k => x1 (ix2 r k)) (fun k => x3 (ix2 0 k)) k * x5 (ix2 ⟨k.val, by omega⟩ j) := by
  pointwise [k0_pay19, k0_pay3]
  rfl

/-- One entry of a block of residual rows. -/
def sum (x0 : Vec Ideal S512x1024 .f32) (x1 x2 : Vec Ideal S512x512 .f32) (x3 x4 : Vec Ideal S1x512 .f32)
    (x5 : Vec Ideal S1024x1024 .bf16) (r : Fin 512) (j : Fin 1024) : EReal :=
  mixed (x0 (ix2 r j)) (fun k => x1 (ix2 r k)) (fun k => x2 (ix2 r k)) (fun k => x3 (ix2 0 k)) (fun k => x4 (ix2 0 k)) (fun k => x5 (ix2 k j))

/-- The residual rows. -/
theorem pay4_at (r : Fin 512) (j : Fin 1024) : k0_pay4 (F := Ideal) (k0_pay18 x0 x1 x2 x3 x4 x5 x6 x7 x8 x9) (k0_pay19 x0 x1 x2 x3 x4 x5 x6 x7 x8 x9)
    (View.ld x5 r0_4) (ix2 r j) = sum x0 x1 x2 x3 x4 x5 r j := by
  pointwise [k0_pay4]
  simp only [pay18_at, pay19_at]
  rfl

/-- The normalised rows. -/
theorem pay5_at (r : Fin 512) (j : Fin 1024) : k0_pay5 (F := Ideal) (k0_pay18 x0 x1 x2 x3 x4 x5 x6 x7 x8 x9) (k0_pay19 x0 x1 x2 x3 x4 x5 x6 x7 x8 x9)
    (View.ld x5 r0_4) x6 (ix2 r j) = normed (sum x0 x1 x2 x3 x4 x5 r) (fun k => x6 (ix2 0 k)) j := by
  pointwise [k0_pay5]
  simp only [pay4_at]
  rfl

/-- What each point stores of the residual rows. -/
theorem out10_at (r : Fin 512) (j : Fin 1024) : out0_10 (F := Ideal) x0 x1 x2 x3 x4 x5 x6 x7 x8 x9 (ix2 r j) = sum x0 x1 x2 x3 x4 x5 r j := by
  frame_out
  exact pay4_at x0 x1 x2 x3 x4 x5 x6 x7 x8 x9 r j

/-- What each point stores of the normalised rows. -/
theorem out11_at (r : Fin 512) (j : Fin 1024) : out0_11 (F := Ideal) x0 x1 x2 x3 x4 x5 x6 x7 x8 x9 (ix2 r j)
    = normed (sum x0 x1 x2 x3 x4 x5 r) (fun k => x6 (ix2 0 k)) j := by
  frame_out
  exact pay5_at x0 x1 x2 x3 x4 x5 x6 x7 x8 x9 r j

end Cert.OutIdeal.Out

end
-- ==== Proof.OutValue.Array.lean ====
/-
  The output projection's kernel over the reals: the host's buffers, the blocks, and the result arrays.
-/
module

public import proofs.«01_k».proof.Proof.Gen.OutIdeal.Frame
public import proofs.«01_k».proof.Proof.OutValue.Pay
public import Idealize.ShloMosaic.Lib.Pipeline.ValueKit
public import Idealize.ShloMosaic.Lib.Pipeline.Covers
public import Idealize.ShloMosaic.Lib.StableHlo.Run

@[expose] public section

set_option maxRecDepth 16384

noncomputable section

namespace Cert.OutIdeal.Out

open Cert.OutIdeal Cert.OutIdeal.Gen Cert.Experts Cert.Output
open Idealize.ShloMosaic Idealize.ShloMosaic.TcCoe Idealize.SL.Sem
open Idealize.ShloMosaic.Pipeline (Dat)

variable (m : (ℓ : Loc nD τ sig) → Buf (Elt Ideal) ℓ)

/-- Every window's block at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val, 0] ∧ win0_11.index t = ![t.val, 0]
    ∧ win0_12.index t = ![t.val, 0] :=
  (by decide +kernel : ∀ t : Fin grid0.N, _)

/-- A row of a grid point's block, as a row of the whole array. -/
def row (t : Fin cfg0.N) (r : Fin 512) : Fin 16384 :=
  ⟨t.val * 512 + r.val, by have : t.val < 32 := t.isLt; omega⟩

set_option maxHeartbeats 4000000 in
/-- The first half's gain, as a row. -/
theorem V9_at (c : Dev nD) (k : Fin 512) : V m c main_v9 (ix2 0 k) = m ((c : Thread nD τ).loc main_arg3) (ix1 k) := by
  dsimp only [V]
  simp only [hostOps0, hostOps0_1, hostOps0_2, hostOps0_3, hostOps0_4, List.flatten_cons, List.flatten_nil, List.append_nil, List.cons_append, List.nil_append]
  simp only [StableHlo.TRef.binary, StableHlo.TRef.unary, StableHlo.TRef.toBuf, StableHlo.TRef.ofBuf, cast_eq]
  after_results
  pointwise

set_option maxHeartbeats 4000000 in
/-- The second half's gain, as a row. -/
theorem V10_at (c : Dev nD) (k : Fin 512) : V m c main_v10 (ix2 0 k) = m ((c : Thread nD τ).loc main_arg4) (ix1 k) := by
  dsimp only [V]
  simp only [hostOps0, hostOps0_1, hostOps0_2, hostOps0_3, hostOps0_4, List.flatten_cons, List.flatten_nil, List.append_nil, List.cons_append, List.nil_append]
  simp only [StableHlo.TRef.binary, StableHlo.TRef.unary, StableHlo.TRef.toBuf, StableHlo.TRef.ofBuf, cast_eq]
  after_results
  pointwise

set_option maxHeartbeats 4000000 in
/-- The weights. -/
theorem V11_at (c : Dev nD) (k j : Fin 1024) : V m c main_v11 (ix2 k j) = m ((c : Thread nD τ).loc main_arg5) (ix2 k j) := by
  dsimp only [V]
  simp only [hostOps0, hostOps0_1, hostOps0_2, hostOps0_3, hostOps0_4, List.flatten_cons, List.flatten_nil, List.append_nil, List.cons_append, List.nil_append]
  simp only [StableHlo.TRef.binary, StableHlo.TRef.unary, StableHlo.TRef.toBuf, StableHlo.TRef.ofBuf, cast_eq]
  after_results
  pointwise

set_option maxHeartbeats 4000000 in
/-- The gain of the experts' rows, as a row. -/
theorem V12_at (c : Dev nD) (k : Fin 1024) : V m c main_v12 (ix2 0 k) = m ((c : Thread nD τ).loc main_arg6) (ix1 k) := by
  dsimp only [V]
  simp only [hostOps0, hostOps0_1, hostOps0_2, hostOps0_3, hostOps0_4, List.flatten_cons, List.flatten_nil, List.append_nil, List.cons_append, List.nil_append]
  simp only [StableHlo.TRef.binary, StableHlo.TRef.unary, StableHlo.TRef.toBuf, StableHlo.TRef.ofBuf, cast_eq]
  after_results
  pointwise

/-- The row blocks of operand 0. -/
theorem iblk0_at (c : Dev nD) (t : Fin cfg0.N) (r : Fin 512) (k : Fin 1024) :
    iblk m c 0 t (ix2 r k) = m ((c : Thread nD τ).loc main_arg0) (ix2 (row t r) k) := by
  blk_ext [iblk, row, V, idx t]

/-- The row blocks of operand 1. -/
theorem iblk1_at (c : Dev nD) (t : Fin cfg0.N) (r : Fin 512) (k : Fin 512) :
    iblk m c 1 t (ix2 r k) = m ((c : Thread nD τ).loc main_arg1) (ix2 (row t r) k) := by
  blk_ext [iblk, row, V, idx t]

/-- The row blocks of operand 2. -/
theorem iblk2_at (c : Dev nD) (t : Fin cfg0.N) (r : Fin 512) (k : Fin 512) :
    iblk m c 2 t (ix2 r k) = m ((c : Thread nD τ).loc main_arg2) (ix2 (row t r) k) := by
  blk_ext [iblk, row, V, idx t]

/-- The block of operand 3. -/
theorem iblk3_at (c : Dev nD) (t : Fin cfg0.N) (k : Fin 512) : iblk m c 3 t (ix2 0 k) = m ((c : Thread nD τ).loc main_arg3) (ix1 k) := by
  have e : (win0_3.blk t).view.emb (ix2 0 k) = ix2 0 k := by blk_ext [idx t]
  exact (congrArg (V m c main_v9) e).trans (V9_at m c k)

/-- The block of operand 4. -/
theorem iblk4_at (c : Dev nD) (t : Fin cfg0.N) (k : Fin 512) : iblk m c 4 t (ix2 0 k) = m ((c : Thread nD τ).loc main_arg4) (ix1 k) := by
  have e : (win0_4.blk t).view.emb (ix2 0 k) = ix2 0 k := by blk_ext [idx t]
  exact (congrArg (V m c main_v10) e).trans (V10_at m c k)

/-- The block of operand 5. -/
theorem iblk5_at (c : Dev nD) (t : Fin cfg0.N) (k j : Fin 1024) : iblk m c 5 t (ix2 k j) = m ((c : Thread nD τ).loc main_arg5) (ix2 k j) := by
  have e : (win0_5.blk t).view.emb (ix2 k j) = ix2 k j := by blk_ext [idx t]
  exact (congrArg (V m c main_v11) e).trans (V11_at m c k j)

/-- The block of operand 6. -/
theorem iblk6_at (c : Dev nD) (t : Fin cfg0.N) (k : Fin 1024) : iblk m c 6 t (ix2 0 k) = m ((c : Thread nD τ).loc main_arg6) (ix1 k) := by
  have e : (win0_6.blk t).view.emb (ix2 0 k) = ix2 0 k := by blk_ext [idx t]
  exact (congrArg (V m c main_v12) e).trans (V12_at m c k)

/-- A block's residual row, over the whole arrays. -/
theorem sum_eq (c : Dev nD) (t : Fin cfg0.N) (r : Fin 512) :
    sum (iblk m c 0 t) (iblk m c 1 t) (iblk m c 2 t) (iblk m c 3 t) (iblk m c 4 t) (iblk m c 5 t) r
      = joined (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) := by
  funext j
  unfold sum joined
  rw [iblk0_at]
  simp only [iblk1_at, iblk2_at, iblk3_at, iblk4_at, iblk5_at]

/-- The residual rows after attention. -/
theorem arr10 (c : Dev nD) : (dats m 0 c).arrAt 10 cfg0.N = (rows (joined (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) : S16384x1024.Idx → EReal) := by
  refine (dats m 0 c).arrAt_eq_of_covers 10 _ (by decide +kernel) fun t hf y => ?_
  obtain ⟨r, j, rfl⟩ : ∃ (r : Fin 512) (j : Fin 1024), y = (ix2 r j : S512x1024.Idx) := ⟨y 0, y 1, eq_ix2 y⟩
  blk_simp
  rw [after0_10]
  have e : (win0_10.blk t).view.emb (ix2 r j : S512x1024.Idx) = (ix2 (row t r) j : S16384x1024.Idx) := by
    blk_ext [row, idx t]
  rw [e]
  refine (out10_at _ _ _ _ _ _ _ _ _ _ r j).trans ?_
  exact congrFun (sum_eq m c t r) j

/-- The experts' rows. -/
theorem arr11 (c : Dev nD) : (dats m 0 c).arrAt 11 cfg0.N = (rows (ready (joined (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) : S16384x1024.Idx → EReal) := by
  refine (dats m 0 c).arrAt_eq_of_covers 11 _ (by decide +kernel) fun t hf y => ?_
  obtain ⟨r, j, rfl⟩ : ∃ (r : Fin 512) (j : Fin 1024), y = (ix2 r j : S512x1024.Idx) := ⟨y 0, y 1, eq_ix2 y⟩
  blk_simp
  rw [after0_11]
  have e : (win0_11.blk t).view.emb (ix2 r j : S512x1024.Idx) = (ix2 (row t r) j : S16384x1024.Idx) := by
    blk_ext [row, idx t]
  rw [e]
  refine (out11_at _ _ _ _ _ _ _ _ _ _ r j).trans ?_
  exact congrArg₂ (fun x g => normed x g j) (sum_eq m c t r) (funext fun k => iblk6_at m c t k)

end Cert.OutIdeal.Out

end
-- ==== Proof.OutValue.Ref.lean ====
/-
  The output projection's reference over the reals: its residual rows and their normalised rows.
-/
module

public import proofs.«01_k».proof.Proof.Gen.OutRefIdeal.Run
public import proofs.«01_k».proof.Proof.OutValue.Row
public import Idealize.ShloMosaic.Lib.Pipeline.ValueKit

@[expose] public section

set_option maxRecDepth 16384

noncomputable section

namespace Cert.OutRefIdeal.Ref

open Cert.OutRefIdeal Cert.OutRefIdeal.Gen Cert.OutRefIdeal.Value Cert.Experts Cert.Output
open Idealize.ShloMosaic Idealize.ShloMosaic.TcCoe Idealize.SL.Sem

/-- An array of rows from its entries. -/
theorem rows_ext (a : (⟨2, ![16384, 1024]⟩ : Shape).Idx → EReal) (f : Fin 16384 → Fin 1024 → EReal)
    (h : ∀ n j, a (ix2 n j) = f n j) : a = rows f := by
  funext y
  obtain ⟨n, j, rfl⟩ : ∃ (n : Fin 16384) (j : Fin 1024), y = ix2 n j := ⟨y 0, y 1, eq_ix2 y⟩
  exact h n j

/-- Half rows over the roots of their mean squares, times a gain. -/
def normal (a : FVec Ideal S16384x512 .f32) (ga : FVec Ideal S512 .f32) : FVec Ideal S16384x512 .f32 :=
  mulf (mulf a (broadcastInDim S16384x512 ![0, 1] bcast_S16384x1_S16384x512_0_1 (Host.rsqrt (addf (Host.divf (broadcastInDim S16384x1 ![0] bcast_S16384_S16384x1_0 (Host.reduceAdd (mulf a a) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 ga))

theorem normal_at (a : FVec Ideal S16384x512 .f32) (ga : FVec Ideal S512 .f32) (n : Fin 16384) (k : Fin 512) :
    normal a ga (ix2 n k) = half (fun k => a (ix2 n k)) (fun k => ga (ix1 k)) k := by
  pointwise [normal]
  rfl

/-- The two halves through the weights, on top of the rows. -/
def onto (x : FVec Ideal S16384x1024 .f32) (a b : FVec Ideal S16384x512 .f32) (ga gb : FVec Ideal S512 .f32) (w : FVec Ideal S1024x1024 .f32) :
    FVec Ideal S16384x1024 .f32 :=
  addf x (Host.dotGeneral dot_S16384x1024_S1024x1024_S16384x1024_1_0_0_1_n_n none (concatenate S16384x1024 1 [⟨S16384x512, (normal a ga)⟩, ⟨S16384x512, (normal b gb)⟩] concatenates_S16384x512_S16384x512_S16384x1024_d1) w)

theorem onto_at (x : FVec Ideal S16384x1024 .f32) (a b : FVec Ideal S16384x512 .f32) (ga gb : FVec Ideal S512 .f32)
    (w : FVec Ideal S1024x1024 .f32) (n : Fin 16384) (j : Fin 1024) : onto x a b ga gb w (ix2 n j) = joined x a b ga gb w n j := by
  pointwise [onto]
  rw [← add_assoc]
  simp only [normal_at]
  rfl

/-- Rows over the roots of their mean squares, times a gain. -/
def ready (X : FVec Ideal S16384x1024 .f32) (g : FVec Ideal S1024 .f32) : FVec Ideal S16384x1024 .bf16 :=
  truncf .bf16 (mulf (mulf (X) (broadcastInDim S16384x1024 ![0, 1] bcast_S16384x1_S16384x1024_0_1 (Host.rsqrt (addf (Host.divf (broadcastInDim S16384x1 ![0] bcast_S16384_S16384x1_0 (Host.reduceAdd (mulf (X) (X)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) bitsLt_bf16_f32

theorem ready_at (X : FVec Ideal S16384x1024 .f32) (g : FVec Ideal S1024 .f32) (n : Fin 16384) (j : Fin 1024) :
    ready X g (ix2 n j) = normed (fun k => X (ix2 n k)) (fun k => g (ix1 k)) j := by
  pointwise [ready]
  rfl

/-- The reference's residual rows, whole. -/
theorem onto_eq (x : FVec Ideal S16384x1024 .f32) (a b : FVec Ideal S16384x512 .f32) (ga gb : FVec Ideal S512 .f32)
    (w : FVec Ideal S1024x1024 .f32) : onto x a b ga gb w = rows (joined x a b ga gb w) := rows_ext _ _ (onto_at x a b ga gb w)

/-- The reference's normalised rows, whole. -/
theorem ready_eq (x : FVec Ideal S16384x1024 .f32) (a b : FVec Ideal S16384x512 .f32) (ga gb : FVec Ideal S512 .f32)
    (w : FVec Ideal S1024x1024 .f32) (g : FVec Ideal S1024 .f32) :
    ready (onto x a b ga gb w) g = rows (Cert.Output.ready (joined x a b ga gb w) g) := by
  refine rows_ext _ _ fun n j => (ready_at _ g n j).trans ?_
  exact congrArg (fun x => normed x (fun k => g (ix1 k)) j) (funext fun k => onto_at x a b ga gb w n k)

end Cert.OutRefIdeal.Ref

end
-- ==== Proof.OutValue.Equal.lean ====
/-
  The output projection's kernel computes its reference: the residual rows after attention, and the experts' rows.
-/
module

public import proofs.«01_k».proof.Defs
public import proofs.«01_k».proof.Proof.OutValue.Array
public import proofs.«01_k».proof.Proof.OutValue.Ref

@[expose] public section

set_option maxRecDepth 16384

noncomputable section

namespace Cert.EqualOut

open Cert.Experts Cert.Output
open Idealize.ShloMosaic Idealize.ShloMosaic.TcCoe Idealize.SL.Sem

open Cert.OutIdeal Cert.OutIdeal.Gen in
/-- The kernel's run: its two results in closed form, and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v13_0) = (rows (joined (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) : S16384x1024.Idx → EReal)
      ∧ r.2.mem ((c : Thread nD τ).loc main_v13_1) = (rows (ready (joined (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) : S16384x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 10).trans (Cert.OutIdeal.Out.arr10 m c), ((h c).1 11).trans (Cert.OutIdeal.Out.arr11 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

/-- The residual rows after attention, and their normalised rows, are the reference's, for any inputs. -/
theorem algebraic : Cert.algebraic_OutIdeal_OutRefIdeal := by
  intro m g m' g' _ hagree
  refine ⟨fun c => (rows (joined (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5))) : Cert.OutIdeal.S16384x1024.Idx → EReal),
    fun c => (rows (ready (joined (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5))) (m ((c.tc : Thread Cert.OutIdeal.nD Cert.OutIdeal.τ).loc Cert.OutIdeal.main_arg6))) : Cert.OutIdeal.S16384x1024.Idx → EReal), ?_, ?_⟩
  · exact run m g
  · refine (θ_run Cert.OutRefIdeal.defs _ _).mono (fun _ h c => ⟨(h c).1.trans ?_, (h c).2.1.trans ?_, (h c).2.2⟩)
      (Cert.OutRefIdeal.Value.run (F := Ideal) m' g')
    all_goals
      clear h
      obtain ⟨h0, h1, h2, h3, h4, h5, h6, h7⟩ := hagree c
    · refine (Cert.OutRefIdeal.Ref.onto_eq _ _ _ _ _ _).trans ?_
      rw [h0, h1, h2, h3, h4, h5]
    · refine (Cert.OutRefIdeal.Ref.ready_eq _ _ _ _ _ _ _).trans ?_
      rw [h0, h1, h2, h3, h4, h5, h6]

end Cert.EqualOut

end
-- ==== Proof.RowsValue.Row.lean ====
/-
  The compression of keys and values: the windows of thirty-two rows, and the two layers over each.
-/
module

public import Idealize.ShloMosaic.Lib.Pipeline.ValueKit

@[expose] public section

noncomputable section

namespace Cert.Compression

open Idealize.ShloMosaic

/-- A hidden entry's silu. -/
def silu (z : EReal) : EReal := z * Ideal.logistic z

/-- The row of an entry of a window, the rows past the end being counted too. -/
def place (n : Fin 1024) (k : Fin 2048) : Nat := n.val * 16 + k.val / 64

/-- An entry of a window of one of the four streams: zero past the last row. -/
def key (kv : (⟨2, ![16384, 256]⟩ : Shape).Idx → EReal) (s : Fin 4) (n : Fin 1024) (k : Fin 2048) : EReal :=
  if h : place n k < 16384 then kv (ix2 (⟨place n k, h⟩ : Fin 16384) (⟨s.val * 64 + k.val % 64, by omega⟩ : Fin 256)) else 0

/-- An entry of the positions' table, along the window. -/
def position (pe : (⟨2, ![32, 64]⟩ : Shape).Idx → EReal) (k : Fin 2048) : EReal :=
  pe (ix2 (⟨k.val / 64, by omega⟩ : Fin 32) (⟨k.val % 64, by omega⟩ : Fin 64))

/-- A hidden entry of a window. -/
def hidden (kv : (⟨2, ![16384, 256]⟩ : Shape).Idx → EReal) (pe : (⟨2, ![32, 64]⟩ : Shape).Idx → EReal)
    (w1 : (⟨2, ![2048, 256]⟩ : Shape).Idx → EReal) (s : Fin 4) (n : Fin 1024) (f : Fin 256) : EReal :=
  ∑ k : Fin 2048, (key kv s n k + position pe k) * w1 (ix2 k f)

/-- An entry of a compressed row. -/
def layered (kv : (⟨2, ![16384, 256]⟩ : Shape).Idx → EReal) (pe : (⟨2, ![32, 64]⟩ : Shape).Idx → EReal)
    (w1 : (⟨2, ![2048, 256]⟩ : Shape).Idx → EReal) (w2 : (⟨2, ![256, 64]⟩ : Shape).Idx → EReal)
    (s : Fin 4) (n : Fin 1024) (d : Fin 64) : EReal :=
  ∑ f : Fin 256, silu (hidden kv pe w1 s n f) * w2 (ix2 f d)

/-- The compressed rows: two streams of keys, then two of values. -/
def compressed (kv : (⟨2, ![16384, 256]⟩ : Shape).Idx → EReal) (pk pv : (⟨2, ![32, 64]⟩ : Shape).Idx → EReal)
    (k1 : (⟨2, ![2048, 256]⟩ : Shape).Idx → EReal) (k2 : (⟨2, ![256, 64]⟩ : Shape).Idx → EReal)
    (v1 : (⟨2, ![2048, 256]⟩ : Shape).Idx → EReal) (v2 : (⟨2, ![256, 64]⟩ : Shape).Idx → EReal) :
    (⟨3, ![4, 1024, 64]⟩ : Shape).Idx → EReal := fun y =>
  if (y 0).val < 2 then layered kv pk k1 k2 (y 0) (y 1) (y 2) else layered kv pv v1 v2 (y 0) (y 1) (y 2)

/-- An entry of a window's first half. -/
theorem key_first (kv : (⟨2, ![16384, 256]⟩ : Shape).Idx → EReal) (s : Fin 4) (n k : Fin 1024) :
    key kv s n ⟨k.val, by omega⟩ = kv (ix2 (⟨n.val * 16 + k.val / 64, by omega⟩ : Fin 16384) (⟨s.val * 64 + k.val % 64, by omega⟩ : Fin 256)) := by
  have h : place n ⟨k.val, by omega⟩ < 16384 := by show n.val * 16 + k.val / 64 < 16384; omega
  unfold key
  rw [dif_pos h]
  rfl

/-- An entry of a window's second half, where the window is not the last. -/
theorem key_next (kv : (⟨2, ![16384, 256]⟩ : Shape).Idx → EReal) (s : Fin 4) (n k : Fin 1024) (h : n.val < 1023) :
    key kv s n ⟨1024 + k.val, by omega⟩
      = kv (ix2 (⟨(1 + n.val) * 16 + k.val / 64, by omega⟩ : Fin 16384) (⟨s.val * 64 + k.val % 64, by omega⟩ : Fin 256)) := by
  have h' : place n ⟨1024 + k.val, by omega⟩ < 16384 := by show n.val * 16 + (1024 + k.val) / 64 < 16384; omega
  unfold key
  rw [dif_pos h']
  refine congrArg₂ (fun a b => kv (ix2 a b)) (Fin.ext ?_) (Fin.ext ?_)
  · show n.val * 16 + (1024 + k.val) / 64 = (1 + n.val) * 16 + k.val / 64
    omega
  · show s.val * 64 + (1024 + k.val) % 64 = s.val * 64 + k.val % 64
    omega

/-- An entry of the last window's second half. -/
theorem key_last (kv : (⟨2, ![16384, 256]⟩ : Shape).Idx → EReal) (s : Fin 4) (n k : Fin 1024) (h : ¬ n.val < 1023) :
    key kv s n ⟨1024 + k.val, by omega⟩ = 0 := by
  have h' : ¬ place n ⟨1024 + k.val, by omega⟩ < 16384 := by show ¬ n.val * 16 + (1024 + k.val) / 64 < 16384; omega
  unfold key
  rw [dif_neg h']

/-- An entry of a compressed row, a window's two halves apart. -/
theorem layered_halves (kv : (⟨2, ![16384, 256]⟩ : Shape).Idx → EReal) (pe : (⟨2, ![32, 64]⟩ : Shape).Idx → EReal)
    (w1 : (⟨2, ![2048, 256]⟩ : Shape).Idx → EReal) (w2 : (⟨2, ![256, 64]⟩ : Shape).Idx → EReal) (s : Fin 4) (n : Fin 1024) (d : Fin 64) :
    layered kv pe w1 w2 s n d
    = ∑ f : Fin 256, silu (∑ k : Fin 1024, (key kv s n ⟨k.val, by omega⟩ + position pe ⟨k.val, by omega⟩) * w1 (ix2 (⟨k.val, by omega⟩ : Fin 2048) f)
        + ∑ k : Fin 1024, (key kv s n ⟨1024 + k.val, by omega⟩ + position pe ⟨1024 + k.val, by omega⟩) * w1 (ix2 (⟨1024 + k.val, by omega⟩ : Fin 2048) f))
      * w2 (ix2 f d) :=
  Finset.sum_congr (M := EReal) rfl fun f _ => congrArg (fun z => silu z * w2 (ix2 f d))
    (Fin.sum_univ_add (M := EReal) (a := 1024) (b := 1024) fun k => (key kv s n k + position pe k) * w1 (ix2 k f))

/-- The padding is zero. -/
theorem none_eq : (FloatOps.sitofp (F := Ideal) FTy.f32 (0#32 : BitVec 32) : EReal) = 0 := by
  show ((((0#32 : BitVec 32).toInt : ℝ)) : EReal) = 0
  simp

/-- An array of compressed rows from its entries. -/
theorem stream_ext (a : (⟨3, ![4, 1024, 64]⟩ : Shape).Idx → EReal) (kv : (⟨2, ![16384, 256]⟩ : Shape).Idx → EReal)
    (pk pv : (⟨2, ![32, 64]⟩ : Shape).Idx → EReal) (k1 : (⟨2, ![2048, 256]⟩ : Shape).Idx → EReal) (k2 : (⟨2, ![256, 64]⟩ : Shape).Idx → EReal)
    (v1 : (⟨2, ![2048, 256]⟩ : Shape).Idx → EReal) (v2 : (⟨2, ![256, 64]⟩ : Shape).Idx → EReal)
    (hk : ∀ (s : Fin 2) (n : Fin 1024) (d : Fin 64),
      a (ix3 (⟨s.val, by omega⟩ : Fin 4) n d) = layered kv pk k1 k2 ⟨s.val, by omega⟩ n d)
    (hv : ∀ (s : Fin 2) (n : Fin 1024) (d : Fin 64),
      a (ix3 (⟨s.val + 2, by omega⟩ : Fin 4) n d) = layered kv pv v1 v2 ⟨s.val + 2, by omega⟩ n d) :
    a = compressed kv pk pv k1 k2 v1 v2 := by
  funext y
  obtain ⟨s, n, d, rfl⟩ : ∃ (s : Fin 4) (n : Fin 1024) (d : Fin 64), y = ix3 s n d := ⟨y 0, y 1, y 2, eq_ix3 y⟩
  show _ = if s.val < 2 then layered kv pk k1 k2 s n d else layered kv pv v1 v2 s n d
  by_cases h : s.val < 2
  · rw [if_pos h]
    exact hk ⟨s.val, h⟩ n d
  · rw [if_neg h]
    have hs : s = (⟨(⟨s.val - 2, by omega⟩ : Fin 2).val + 2, by simp only; omega⟩ : Fin 4) := Fin.ext (by simp only; omega)
    rw [hs]
    exact hv _ n d

end Cert.Compression

end
-- ==== Proof.RowsValue.Pay.lean ====
/-
  The compression's kernel over the reals: what each grid point stores, at an index.
-/
module

public import proofs.«01_k».proof.Proof.Gen.RowsIdeal.Frame
public import proofs.«01_k».proof.Proof.RowsValue.Row
public import Idealize.ShloMosaic.Lib.Pipeline.ValueKit

@[expose] public section

set_option maxRecDepth 16384

noncomputable section

namespace Cert.RowsIdeal.Rows

open Cert.RowsIdeal Cert.RowsIdeal.Gen Cert.Compression
open Idealize.ShloMosaic Idealize.ShloMosaic.TcCoe Idealize.SL.Sem

/-- What each point stores of the compressed rows. -/
theorem out5_at (x0 x1 : Vec Ideal S1x1024x1024 .f32) (x2 : Vec Ideal S1x1x2048 .f32) (x3 : Vec Ideal S1x2048x256 .bf16)
    (x4 : Vec Ideal S1x256x64 .bf16) (n : Fin 1024) (d : Fin 64) : out0_5 (F := Ideal) x0 x1 x2 x3 x4 (ix3 0 n d)
    = ∑ f : Fin 256, silu (∑ k : Fin 1024, (x0 (ix3 0 n k) + x2 (ix3 0 0 (⟨k.val, by omega⟩ : Fin 2048))) * x3 (ix3 0 (⟨k.val, by omega⟩ : Fin 2048) f)
        + ∑ k : Fin 1024, (x1 (ix3 0 n k) + x2 (ix3 0 0 (⟨1024 + k.val, by omega⟩ : Fin 2048))) * x3 (ix3 0 (⟨1024 + k.val, by omega⟩ : Fin 2048) f))
      * x4 (ix3 0 f d) := by
  frame_out
  pointwise [k0_pay1]
  rfl

end Cert.RowsIdeal.Rows

end
-- ==== Proof.RowsValue.Array.lean ====
/-
  The compression's kernel over the reals: the host's buffers, the blocks, and the result array.
-/
module

public import proofs.«01_k».proof.Proof.Gen.RowsIdeal.Frame
public import proofs.«01_k».proof.Proof.RowsValue.Pay
public import Idealize.ShloMosaic.Lib.Pipeline.ValueKit
public import Idealize.ShloMosaic.Lib.Pipeline.Covers
public import Idealize.ShloMosaic.Lib.StableHlo.Run

@[expose] public section

set_option maxRecDepth 16384

noncomputable section

namespace Cert.RowsIdeal.Rows

open Cert.RowsIdeal Cert.RowsIdeal.Gen Cert.Compression
open Idealize.ShloMosaic Idealize.ShloMosaic.TcCoe Idealize.SL.Sem
open Idealize.ShloMosaic.Pipeline (Dat)

variable (m : (ℓ : Loc nD τ sig) → Buf (Elt Ideal) ℓ)

/-- Every window's block at every grid point. -/
theorem idx : ∀ t : Fin cfg0.N, win0_0.index t = ![t.val, 0, 0] ∧ win0_1.index t = ![t.val, 0, 0] ∧ win0_2.index t = ![t.val / 2, 0, 0]
    ∧ win0_3.index t = ![t.val / 2, 0, 0] ∧ win0_4.index t = ![t.val / 2, 0, 0] ∧ win0_5.index t = ![t.val, 0, 0] :=
  (by decide +kernel : ∀ t : Fin grid0.N, _)

/-- The stream of a grid point. -/
def stream (t : Fin cfg0.N) : Fin 4 := ⟨t.val, t.isLt⟩

set_option maxHeartbeats 4000000 in
/-- The first halves of the windows. -/
theorem V2_at (c : Dev nD) (s : Fin 4) (n k : Fin 1024) :
    V m c main_v2 (ix3 s n k) = key (m ((c : Thread nD τ).loc main_arg0)) s n ⟨k.val, by omega⟩ := by
  dsimp only [V]
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  pointwise
  exact (key_first _ s n k).symm

set_option maxHeartbeats 4000000 in
/-- The second halves of the windows. -/
theorem V4_at (c : Dev nD) (s : Fin 4) (n k : Fin 1024) :
    V m c main_v4 (ix3 s n k) = key (m ((c : Thread nD τ).loc main_arg0)) s n ⟨1024 + k.val, by omega⟩ := by
  dsimp only [V]
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  pointwise
  by_cases h : n.val < 1023
  · exact (dif_pos h).trans (key_next _ s n k h).symm
  · exact ((dif_neg h).trans none_eq).trans (key_last _ s n k h).symm

set_option maxHeartbeats 4000000 in
/-- The positions, of the keys. -/
theorem V9_keys (c : Dev nD) (k : Fin 2048) : V m c main_v9 (ix3 0 0 k) = position (m ((c : Thread nD τ).loc main_arg1)) k := by
  dsimp only [V]
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results
  pointwise
  rfl

set_option maxHeartbeats 4000000 in
/-- The positions, of the values. -/
theorem V9_values (c : Dev nD) (k : Fin 2048) : V m c main_v9 (ix3 1 0 k) = position (m ((c : Thread nD τ).loc main_arg2)) k := by
  dsimp only [V]
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results
  pointwise
  rfl

set_option maxHeartbeats 4000000 in
/-- The first layer's weights, of the keys. -/
theorem V13_keys (c : Dev nD) (k : Fin 2048) (f : Fin 256) : V m c main_v13 (ix3 0 k f) = (m ((c : Thread nD τ).loc main_arg3)) (ix2 k f) := by
  dsimp only [V]
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results
  pointwise

set_option maxHeartbeats 4000000 in
/-- The first layer's weights, of the values. -/
theorem V13_values (c : Dev nD) (k : Fin 2048) (f : Fin 256) : V m c main_v13 (ix3 1 k f) = (m ((c : Thread nD τ).loc main_arg5)) (ix2 k f) := by
  dsimp only [V]
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results
  pointwise

set_option maxHeartbeats 4000000 in
/-- The second layer's weights, of the keys. -/
theorem V17_keys (c : Dev nD) (k : Fin 256) (f : Fin 64) : V m c main_v17 (ix3 0 k f) = (m ((c : Thread nD τ).loc main_arg4)) (ix2 k f) := by
  dsimp only [V]
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results
  pointwise

set_option maxHeartbeats 4000000 in
/-- The second layer's weights, of the values. -/
theorem V17_values (c : Dev nD) (k : Fin 256) (f : Fin 64) : V m c main_v17 (ix3 1 k f) = (m ((c : Thread nD τ).loc main_arg6)) (ix2 k f) := by
  dsimp only [V]
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results
  pointwise

theorem iblk0_at (c : Dev nD) (t : Fin cfg0.N) (n k : Fin 1024) :
    iblk m c 0 t (ix3 0 n k) = key (m ((c : Thread nD τ).loc main_arg0)) (stream t) n ⟨k.val, by omega⟩ := by
  have e : (win0_0.blk t).view.emb (ix3 0 n k) = ix3 (stream t) n k := by
    blk_ext [stream, idx t]
  exact (congrArg (V m c main_v2) e).trans (V2_at m c _ _ _)

theorem iblk1_at (c : Dev nD) (t : Fin cfg0.N) (n k : Fin 1024) :
    iblk m c 1 t (ix3 0 n k) = key (m ((c : Thread nD τ).loc main_arg0)) (stream t) n ⟨1024 + k.val, by omega⟩ := by
  have e : (win0_1.blk t).view.emb (ix3 0 n k) = ix3 (stream t) n k := by
    blk_ext [stream, idx t]
  exact (congrArg (V m c main_v4) e).trans (V4_at m c _ _ _)

theorem iblk2_keys (c : Dev nD) (t : Fin cfg0.N) (h : t.val < 2) (k : Fin 2048) :
    iblk m c 2 t (ix3 0 0 k) = position (m ((c : Thread nD τ).loc main_arg1)) k := by
  have ht : t.val < 4 := t.isLt
  have hz : t.val / 2 = 0 := by omega
  have e : (win0_2.blk t).view.emb (ix3 0 0 k) = ix3 0 0 k := by
    blk_ext [idx t, hz]
  exact (congrArg (V m c main_v9) e).trans (V9_keys m c k)

theorem iblk3_keys (c : Dev nD) (t : Fin cfg0.N) (h : t.val < 2) (k : Fin 2048) (f : Fin 256) :
    iblk m c 3 t (ix3 0 k f) = (m ((c : Thread nD τ).loc main_arg3)) (ix2 k f) := by
  have ht : t.val < 4 := t.isLt
  have hz : t.val / 2 = 0 := by omega
  have e : (win0_3.blk t).view.emb (ix3 0 k f) = ix3 0 k f := by
    blk_ext [idx t, hz]
  exact (congrArg (V m c main_v13) e).trans (V13_keys m c k f)

theorem iblk4_keys (c : Dev nD) (t : Fin cfg0.N) (h : t.val < 2) (k : Fin 256) (f : Fin 64) :
    iblk m c 4 t (ix3 0 k f) = (m ((c : Thread nD τ).loc main_arg4)) (ix2 k f) := by
  have ht : t.val < 4 := t.isLt
  have hz : t.val / 2 = 0 := by omega
  have e : (win0_4.blk t).view.emb (ix3 0 k f) = ix3 0 k f := by
    blk_ext [idx t, hz]
  exact (congrArg (V m c main_v17) e).trans (V17_keys m c k f)

theorem iblk2_values (c : Dev nD) (t : Fin cfg0.N) (h : ¬ t.val < 2) (k : Fin 2048) :
    iblk m c 2 t (ix3 0 0 k) = position (m ((c : Thread nD τ).loc main_arg2)) k := by
  have ht : t.val < 4 := t.isLt
  have hz : t.val / 2 = 1 := by omega
  have e : (win0_2.blk t).view.emb (ix3 0 0 k) = ix3 1 0 k := by
    blk_ext [idx t, hz]
  exact (congrArg (V m c main_v9) e).trans (V9_values m c k)

theorem iblk3_values (c : Dev nD) (t : Fin cfg0.N) (h : ¬ t.val < 2) (k : Fin 2048) (f : Fin 256) :
    iblk m c 3 t (ix3 0 k f) = (m ((c : Thread nD τ).loc main_arg5)) (ix2 k f) := by
  have ht : t.val < 4 := t.isLt
  have hz : t.val / 2 = 1 := by omega
  have e : (win0_3.blk t).view.emb (ix3 0 k f) = ix3 1 k f := by
    blk_ext [idx t, hz]
  exact (congrArg (V m c main_v13) e).trans (V13_values m c k f)

theorem iblk4_values (c : Dev nD) (t : Fin cfg0.N) (h : ¬ t.val < 2) (k : Fin 256) (f : Fin 64) :
    iblk m c 4 t (ix3 0 k f) = (m ((c : Thread nD τ).loc main_arg6)) (ix2 k f) := by
  have ht : t.val < 4 := t.isLt
  have hz : t.val / 2 = 1 := by omega
  have e : (win0_4.blk t).view.emb (ix3 0 k f) = ix3 1 k f := by
    blk_ext [idx t, hz]
  exact (congrArg (V m c main_v17) e).trans (V17_values m c k f)

/-- The result array holds the compressed rows. -/
theorem arr5 (c : Dev nD) : (dats m 0 c).arrAt 5 cfg0.N
    = compressed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 5 _ (by decide +kernel) fun t hf y => ?_
  obtain ⟨z, n, d, rfl⟩ : ∃ (z : Fin 1) (n : Fin 1024) (d : Fin 64), y = (ix3 z n d : S1x1024x64.Idx) := ⟨y 0, y 1, y 2, eq_ix3 y⟩
  obtain rfl : z = 0 := Subsingleton.elim _ _
  blk_simp
  rw [after0_5]
  have e : (win0_5.blk t).view.emb (ix3 0 n d : S1x1024x64.Idx) = (ix3 (stream t) n d : S4x1024x64.Idx) := by
    blk_ext [stream, idx t]
  rw [e]
  refine (out5_at _ _ _ _ _ n d).trans ?_
  show _ = if t.val < 2 then layered (m ((c : Thread nD τ).loc main_arg0)) (m ((c : Thread nD τ).loc main_arg1)) (m ((c : Thread nD τ).loc main_arg3)) (m ((c : Thread nD τ).loc main_arg4)) (stream t) n d else layered (m ((c : Thread nD τ).loc main_arg0)) (m ((c : Thread nD τ).loc main_arg2)) (m ((c : Thread nD τ).loc main_arg5)) (m ((c : Thread nD τ).loc main_arg6)) (stream t) n d
  by_cases h : t.val < 2
  · rw [if_pos h, layered_halves]
    simp only [iblk0_at, iblk1_at, iblk2_keys m c t h, iblk3_keys m c t h, iblk4_keys m c t h]
  · rw [if_neg h, layered_halves]
    simp only [iblk0_at, iblk1_at, iblk2_values m c t h, iblk3_values m c t h, iblk4_values m c t h]

end Cert.RowsIdeal.Rows
end
-- ==== Proof.RowsValue.Ref.lean ====
/-
  The compression's reference over the reals: the windows read by their rows' numbers, and the two layers over each.
-/
module

public import proofs.«01_k».proof.Proof.Gen.RowsRefIdeal.Run
public import proofs.«01_k».proof.Proof.RowsValue.Row
public import Idealize.ShloMosaic.Lib.Pipeline.ValueKit
public import Idealize.ShloMosaic.Lib.Routing.Ops
public import Idealize.ShloMosaic.Lib.WordCmp

@[expose] public section

set_option maxRecDepth 16384

noncomputable section

namespace Cert.RowsRefIdeal.Ref

open Cert.RowsRefIdeal Cert.RowsRefIdeal.Gen Cert.RowsRefIdeal.Value Cert.Compression
open Idealize.ShloMosaic Idealize.ShloMosaic.TcCoe Idealize.SL.Sem

/-- A row picked by its number. -/
theorem picked (x : S16400x2x64.Idx → EReal) (i : IVec S1024x32x1 32) (n : Fin 1024) (l : Fin 32) (g : Fin 2) (d : Fin 64) (b : Fin 16400)
    (hb : i (ix3 n l 0) = BitVec.ofNat 32 b.val) :
    Host.gather gather_S16400x2x64_S1024x32x1_S1024x32x2x64_23_0_n_n_0_2_1264 x i (ix4 n l g d) = x (ix3 b g d) := by
  unfold Host.gather
  refine congrArg x (funext fun a => Fin.ext ?_)
  have hi : gather_S16400x2x64_S1024x32x1_S1024x32x2x64_23_0_n_n_0_2_1264.siIdx (ix4 n l g d) ⟨0, by decide⟩ = ix3 n l 0 := by
    funext e
    match e with
    | ⟨0, _⟩ => rfl
    | ⟨1, _⟩ => rfl
    | ⟨2, _⟩ => rfl
  have hl := b.isLt
  match a with
  | ⟨0, _⟩ =>
    show min (i (gather_S16400x2x64_S1024x32x1_S1024x32x2x64_23_0_n_n_0_2_1264.siIdx (ix4 n l g d) ⟨0, by decide⟩)).toInt.toNat 16399 + 0 + 0 = b.val
    rw [hi, hb, StableHlo.Predicate.toInt_ofNat_small _ (by omega)]
    simp only [Int.toNat_natCast]
    omega
  | ⟨1, _⟩ => exact (by omega : 0 + 0 + g.val = g.val)
  | ⟨2, _⟩ => exact (by omega : 0 + 0 + d.val = d.val)

/-- The rows' numbers, window by window. -/
def numbers : IVec S1024x32x1 32 :=
  broadcastInDim S1024x32x1 ![0, 1] bcast_S1024x32_S1024x32x1_0_1 (select (cmpi .slt (addi (broadcastInDim S1024x32 ![0, 1] bcast_S1024x1_S1024x32_0_1 (muli (broadcastInDim S1024x1 ![0] bcast_S1024_S1024x1_0 (iotaInDim S1024 32 0)) (broadcastInDim S1024x1 ![] bcast_S_S1024x1 (constantI S_ 32 16#32)))) (broadcastInDim S1024x32 ![0, 1] bcast_S1x32_S1024x32_0_1 (broadcastInDim S1x32 ![1] bcast_S32_S1x32_1 (iotaInDim S32 32 0)))) (broadcastInDim S1024x32 ![] bcast_S_S1024x32 (constantI S_ 32 0#32))) (addi (addi (broadcastInDim S1024x32 ![0, 1] bcast_S1024x1_S1024x32_0_1 (muli (broadcastInDim S1024x1 ![0] bcast_S1024_S1024x1_0 (iotaInDim S1024 32 0)) (broadcastInDim S1024x1 ![] bcast_S_S1024x1 (constantI S_ 32 16#32)))) (broadcastInDim S1024x32 ![0, 1] bcast_S1x32_S1024x32_0_1 (broadcastInDim S1x32 ![1] bcast_S32_S1x32_1 (iotaInDim S32 32 0)))) (broadcastInDim S1024x32 ![] bcast_S_S1024x32 (constantI S_ 32 16400#32))) (addi (broadcastInDim S1024x32 ![0, 1] bcast_S1024x1_S1024x32_0_1 (muli (broadcastInDim S1024x1 ![0] bcast_S1024_S1024x1_0 (iotaInDim S1024 32 0)) (broadcastInDim S1024x1 ![] bcast_S_S1024x1 (constantI S_ 32 16#32)))) (broadcastInDim S1024x32 ![0, 1] bcast_S1x32_S1024x32_0_1 (broadcastInDim S1x32 ![1] bcast_S32_S1x32_1 (iotaInDim S32 32 0)))))

theorem numbers_at (n : Fin 1024) (l : Fin 32) : numbers (ix3 n l 0) = BitVec.ofNat 32 (n.val * 16 + l.val) := by
  have e : IntOp.addi (IntOp.muli (BitVec.ofNat 32 n.val) 16#32) (BitVec.ofNat 32 l.val) = BitVec.ofNat 32 (n.val * 16 + l.val) := by
    apply BitVec.eq_of_toNat_eq
    show (BitVec.ofNat 32 n.val * 16#32 + BitVec.ofNat 32 l.val).toNat = _
    simp only [BitVec.toNat_add, BitVec.toNat_mul, BitVec.toNat_ofNat]
    omega
  pointwise [numbers]
  rw [e, show IntOp.cmpi .slt (BitVec.ofNat 32 (n.val * 16 + l.val)) 0#32 = 0#1 from
    (WordCmp.cmpi_slt_ofNat_eq_zero_iff (w := 32) (a := n.val * 16 + l.val) (b := 0) (by omega) (by omega)).2 (by omega)]
  rfl

/-- The keys, with sixteen rows of zeros past the end. -/
def keys (kv : FVec Ideal S16384x256 .f32) : FVec Ideal S16400x2x64 .f32 :=
  shapeCast _ (extractStridedSlice S16400x128 ![0, 0] (pad S16400x256 ![0, 0] ![16, 0] ![0, 0] kv (sitofp .f32 (constantI S_ 32 0#32)) pads_S16384x256_S16400x256_0160_000 h_S_) slices_S16400x256_S16400x128_0_0) shapeCasts_S16400x128_S16400x2x64

/-- The values, with sixteen rows of zeros past the end. -/
def values (kv : FVec Ideal S16384x256 .f32) : FVec Ideal S16400x2x64 .f32 :=
  shapeCast _ (extractStridedSlice S16400x128 ![0, 128] (pad S16400x256 ![0, 0] ![16, 0] ![0, 0] kv (sitofp .f32 (constantI S_ 32 0#32)) pads_S16384x256_S16400x256_0160_000 h_S_) slices_S16400x256_S16400x128_0_128) shapeCasts_S16400x128_S16400x2x64

/-- The windows, with the positions added. -/
def windows (x : FVec Ideal S16400x2x64 .f32) (p : FVec Ideal S32x64 .f32) : FVec Ideal S2x1024x2048 .f32 :=
  shapeCast _ (transpose S2x1024x32x64 [2, 0, 1, 3] (addf (Host.gather gather_S16400x2x64_S1024x32x1_S1024x32x2x64_23_0_n_n_0_2_1264 x numbers) (broadcastInDim S1024x32x2x64 ![0, 1, 2, 3] bcast_S1x32x1x64_S1024x32x2x64_0_1_2_3 (broadcastInDim S1x32x1x64 ![1, 2, 3] bcast_S32x1x64_S1x32x1x64_1_2_3 (broadcastInDim S32x1x64 ![0, 2] bcast_S32x64_S32x1x64_0_2 p)))) transposes_S1024x32x2x64_S2x1024x32x64_2_0_1_3) shapeCasts_S2x1024x32x64_S2x1024x2048

theorem windows_at (x : FVec Ideal S16400x2x64 .f32) (p : FVec Ideal S32x64 .f32) (g : Fin 2) (n : Fin 1024) (k : Fin 2048) :
    windows x p (ix3 g n k) = x (ix3 (⟨place n k, by unfold place; omega⟩ : Fin 16400) g (⟨k.val % 64, by omega⟩ : Fin 64)) + position p k := by
  pointwise [windows]
  rw [picked x numbers _ _ _ _ ⟨place n k, by unfold place; omega⟩ (numbers_at _ _)]
  rfl

/-- The hidden entries. -/
def units (x : FVec Ideal S16400x2x64 .f32) (p : FVec Ideal S32x64 .f32) (w1 : FVec Ideal S2048x256 .f32) : FVec Ideal S2x1024x256 .f32 :=
  Host.dotGeneral dot_S2x1024x2048_S2048x256_S2x1024x256_2_0_01_1_n_n none (windows x p) w1

theorem units_at (x : FVec Ideal S16400x2x64 .f32) (p : FVec Ideal S32x64 .f32) (w1 : FVec Ideal S2048x256 .f32)
    (g : Fin 2) (n : Fin 1024) (f : Fin 256) : units x p w1 (ix3 g n f)
      = ∑ k : Fin 2048, (x (ix3 (⟨place n k, by unfold place; omega⟩ : Fin 16400) g (⟨k.val % 64, by omega⟩ : Fin 64)) + position p k) * w1 (ix2 k f) := by
  pointwise [units]
  simp only [windows_at]

/-- The compressed rows of two streams. -/
def layers (x : FVec Ideal S16400x2x64 .f32) (p : FVec Ideal S32x64 .f32) (w1 : FVec Ideal S2048x256 .f32) (w2 : FVec Ideal S256x64 .f32) :
    FVec Ideal S2x1024x64 .f32 :=
  Host.dotGeneral dot_S2x1024x256_S256x64_S2x1024x64_2_0_01_1_n_n none (mulf (units x p w1) (Host.divf (broadcastInDim S2x1024x256 ![] bcast_S_S2x1024x256 (constant S_ .f32 0x3F800000#32)) (addf (broadcastInDim S2x1024x256 ![] bcast_S_S2x1024x256 (constant S_ .f32 0x3F800000#32)) (Host.exp (Host.negf (units x p w1)))))) w2

theorem layers_at (x : FVec Ideal S16400x2x64 .f32) (p : FVec Ideal S32x64 .f32) (w1 : FVec Ideal S2048x256 .f32) (w2 : FVec Ideal S256x64 .f32)
    (g : Fin 2) (n : Fin 1024) (d : Fin 64) :
    layers x p w1 w2 (ix3 g n d) = ∑ f : Fin 256, silu (units x p w1 (ix3 g n f)) * w2 (ix2 f d) := by
  pointwise [layers]
  rfl

theorem keys_at (kv : FVec Ideal S16384x256 .f32) (g : Fin 2) (n : Fin 1024) (k : Fin 2048) :
    keys kv (ix3 (⟨place n k, by unfold place; omega⟩ : Fin 16400) g (⟨k.val % 64, by omega⟩ : Fin 64)) = key kv ⟨g.val, by omega⟩ n k := by
  pointwise [keys, key]
  by_cases h : place n k < 16384
  · refine (dif_pos ⟨h, by omega⟩).trans ?_
    rw [dif_pos h]
  · exact ((dif_neg fun a => h a.1).trans none_eq).trans (dif_neg h).symm

theorem values_at (kv : FVec Ideal S16384x256 .f32) (g : Fin 2) (n : Fin 1024) (k : Fin 2048) :
    values kv (ix3 (⟨place n k, by unfold place; omega⟩ : Fin 16400) g (⟨k.val % 64, by omega⟩ : Fin 64)) = key kv ⟨g.val + 2, by omega⟩ n k := by
  pointwise [values, key]
  by_cases h : place n k < 16384
  · refine (dif_pos ⟨h, by omega⟩).trans ?_
    rw [dif_pos h]
    refine congrArg (fun e => kv (ix2 (⟨place n k, h⟩ : Fin 16384) e)) (Fin.ext ?_)
    show 128 + (g.val * 64 + k.val % 64) = (g.val + 2) * 64 + k.val % 64
    omega
  · exact ((dif_neg fun a => h a.1).trans none_eq).trans (dif_neg h).symm

/-- The whole array of compressed rows. -/
theorem stacked_eq (kv : FVec Ideal S16384x256 .f32) (pk pv : FVec Ideal S32x64 .f32) (k1 : FVec Ideal S2048x256 .f32)
    (k2 : FVec Ideal S256x64 .f32) (v1 : FVec Ideal S2048x256 .f32) (v2 : FVec Ideal S256x64 .f32) :
    (concatenate S4x1024x64 0 [⟨S2x1024x64, (layers (keys kv) pk k1 k2)⟩, ⟨S2x1024x64, (layers (values kv) pv v1 v2)⟩] concatenates_S2x1024x64_S2x1024x64_S4x1024x64_d0 : FVec Ideal S4x1024x64 .f32) = compressed kv pk pv k1 k2 v1 v2 := by
  refine stream_ext _ kv pk pv k1 k2 v1 v2 (fun g n d => ?_) (fun g n d => ?_)
  · pointwise
    rw [layers_at]
    simp only [units_at, keys_at]
    rfl
  · pointwise
    refine (dif_neg (by omega)).trans ?_
    refine (congrArg (fun e => layers (values kv) pv v1 v2 (ix3 e n d)) (Fin.ext (by simp only; omega) : (_ : Fin 2) = g)).trans ?_
    rw [layers_at]
    simp only [units_at, values_at]
    rfl

end Cert.RowsRefIdeal.Ref

end
-- ==== Proof.RowsValue.Equal.lean ====
/-
  The compression's kernel computes its reference: the compressed rows of the keys and of the values.
-/
module

public import proofs.«01_k».proof.Defs
public import proofs.«01_k».proof.Proof.Gen.RowsIdeal.Value
public import proofs.«01_k».proof.Proof.RowsValue.Array
public import proofs.«01_k».proof.Proof.RowsValue.Ref

@[expose] public section

set_option maxRecDepth 16384

noncomputable section

namespace Cert.EqualRows

open Cert.Compression
open Idealize.ShloMosaic Idealize.ShloMosaic.TcCoe Idealize.SL.Sem

open Cert.RowsIdeal Cert.RowsIdeal.Gen in
/-- The kernel's run: its result in closed form, and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v18) = compressed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (Cert.RowsIdeal.Rows.arr5 m c), (h c).2⟩) (Cert.RowsIdeal.Value.run_blocks m ρ)

/-- The compressed rows are the reference's, for any inputs. -/
theorem algebraic : Cert.algebraic_RowsIdeal_RowsRefIdeal := by
  intro m g m' g' _ hagree
  refine ⟨fun c => compressed (m ((c.tc : Thread Cert.RowsIdeal.nD Cert.RowsIdeal.τ).loc Cert.RowsIdeal.main_arg0)) (m ((c.tc : Thread Cert.RowsIdeal.nD Cert.RowsIdeal.τ).loc Cert.RowsIdeal.main_arg1)) (m ((c.tc : Thread Cert.RowsIdeal.nD Cert.RowsIdeal.τ).loc Cert.RowsIdeal.main_arg2)) (m ((c.tc : Thread Cert.RowsIdeal.nD Cert.RowsIdeal.τ).loc Cert.RowsIdeal.main_arg3)) (m ((c.tc : Thread Cert.RowsIdeal.nD Cert.RowsIdeal.τ).loc Cert.RowsIdeal.main_arg4)) (m ((c.tc : Thread Cert.RowsIdeal.nD Cert.RowsIdeal.τ).loc Cert.RowsIdeal.main_arg5)) (m ((c.tc : Thread Cert.RowsIdeal.nD Cert.RowsIdeal.τ).loc Cert.RowsIdeal.main_arg6)), ?_, ?_⟩
  · exact run m g
  · refine (θ_run Cert.RowsRefIdeal.defs _ _).mono (fun _ h c => ⟨(h c).1.trans ?_, (h c).2⟩)
      (Cert.RowsRefIdeal.Value.run (F := Ideal) m' g')
    clear h
    obtain ⟨h0, h1, h2, h3, h4, h5, h6⟩ := hagree c
    refine (Cert.RowsRefIdeal.Ref.stacked_eq _ _ _ _ _ _ _).trans ?_
    rw [h0, h1, h2, h3, h4, h5, h6]

end Cert.EqualRows

end
-- ==== Proof.lean ====
/-
  The certificate's claims, put together: the kernels' frames (`SbKernel`, `SbIdeal`), the references' frames, the named
  constant, and the equality of each kernel's and its reference's results over the reals (`SbValue`, `MoeValue`, `InValue`,
  `CmpValue`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeIdeal.Value
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.Cmp
public import proofs.«01_k».proof.Proof.Gen.Cmp.Skeleton
public import proofs.«01_k».proof.Proof.Gen.Cmp.Launch
public import proofs.«01_k».proof.Proof.Gen.Cmp.Points
public import proofs.«01_k».proof.Proof.Gen.Cmp.Frame
public import proofs.«01_k».proof.Proof.Gen.CmpIdeal
public import proofs.«01_k».proof.Proof.Gen.CmpIdeal.Skeleton
public import proofs.«01_k».proof.Proof.Gen.CmpIdeal.Launch
public import proofs.«01_k».proof.Proof.Gen.CmpIdeal.Points
public import proofs.«01_k».proof.Proof.Gen.CmpIdeal.Frame
public import proofs.«01_k».proof.Proof.Gen.CmpIdeal.Value
public import proofs.«01_k».proof.Proof.Gen.CmpRefIdeal
public import proofs.«01_k».proof.Proof.Gen.CmpRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Run
public import proofs.«01_k».proof.Proof.Gen.Rows
public import proofs.«01_k».proof.Proof.Gen.Rows.Skeleton
public import proofs.«01_k».proof.Proof.Gen.Rows.Launch
public import proofs.«01_k».proof.Proof.Gen.Rows.Points
public import proofs.«01_k».proof.Proof.Gen.Rows.Frame
public import proofs.«01_k».proof.Proof.Gen.RowsIdeal
public import proofs.«01_k».proof.Proof.Gen.RowsIdeal.Skeleton
public import proofs.«01_k».proof.Proof.Gen.RowsIdeal.Launch
public import proofs.«01_k».proof.Proof.Gen.RowsIdeal.Points
public import proofs.«01_k».proof.Proof.Gen.RowsIdeal.Frame
public import proofs.«01_k».proof.Proof.Gen.RowsRefIdeal
public import proofs.«01_k».proof.Proof.Gen.RowsRefIdeal.Run
public import proofs.«01_k».proof.Proof.Gen.RowsIdeal.Value
public import proofs.«01_k».proof.Proof.Gen.MoeRefIdeal
public import proofs.«01_k».proof.Proof.Gen.MoeRefIdeal.Run
public import proofs.«01_k».proof.Proof.Gen.Pre_weights
public import proofs.«01_k».proof.Proof.SbKernel.Run
public import proofs.«01_k».proof.Proof.SbIdeal.Run
public import proofs.«01_k».proof.Proof.SbValue.Equal
public import proofs.«01_k».proof.Proof.MoeValue.Equal
public import proofs.«01_k».proof.Proof.InValue.Equal
public import proofs.«01_k».proof.Proof.CmpValue.Equal
public import proofs.«01_k».proof.Proof.OutValue.Equal
public import proofs.«01_k».proof.Proof.RowsValue.Equal
public import Idealize.ShloMosaic.Lib.StableHlo.RunHlo
public import Idealize.ShloMosaic.Adequacy
public import Idealize.ShloMosaic.Init

@[expose] public section

noncomputable section

namespace Cert.Proof

open Idealize.ShloMosaic Idealize.SL.Sem

/-- The reference runs, leaves its arguments unchanged and uses no semaphore. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- The experts' reference runs, leaves its arguments unchanged and uses no semaphore. -/
theorem moe_reference_frame : Cert.quiescent_MoeRefIdeal := fun m ρ _ =>
  (θ_run Cert.MoeRefIdeal.defs _ _).mono
    (fun r h => ⟨fun c => (h c).2, Idealize.ShloMosaic.sem_eq_zero_of_no_sems (by decide) r.2⟩) (Cert.MoeRefIdeal.Value.run (F := Ideal) m ρ)

/-- The input projection's reference runs, leaves its arguments unchanged and uses no semaphore. -/
theorem in_reference_frame : Cert.quiescent_InProjRefIdeal := fun m ρ _ =>
  (θ_run Cert.InProjRefIdeal.defs _ _).mono
    (fun r h => ⟨fun c => (h c).2.2.2.2.2.2.2.2.2.2, Idealize.ShloMosaic.sem_eq_zero_of_no_sems (by decide) r.2⟩)
    (Cert.InProjRefIdeal.Value.run (F := Ideal) m ρ)

/-- The compressed attention's reference runs, leaves its arguments unchanged and uses no semaphore. -/
theorem cmp_reference_frame : Cert.quiescent_CmpRefIdeal := fun m ρ _ =>
  (θ_run Cert.CmpRefIdeal.defs _ _).mono
    (fun r h => ⟨fun c => (h c).2.2, Idealize.ShloMosaic.sem_eq_zero_of_no_sems (by decide) r.2⟩)
    (Cert.CmpRefIdeal.Value.run (F := Ideal) m ρ)

/-- The output projection's reference runs, leaves its arguments unchanged and uses no semaphore. -/
theorem out_reference_frame : Cert.quiescent_OutRefIdeal := fun m ρ _ =>
  (θ_run Cert.OutRefIdeal.defs _ _).mono
    (fun r h => ⟨fun c => (h c).2.2, Idealize.ShloMosaic.sem_eq_zero_of_no_sems (by decide) r.2⟩)
    (Cert.OutRefIdeal.Value.run (F := Ideal) m ρ)

/-- The compression's reference runs, leaves its arguments unchanged and uses no semaphore. -/
theorem rows_reference_frame : Cert.quiescent_RowsRefIdeal := fun m ρ _ =>
  (θ_run Cert.RowsRefIdeal.defs _ _).mono
    (fun r h => ⟨fun c => (h c).2, Idealize.ShloMosaic.sem_eq_zero_of_no_sems (by decide) r.2⟩)
    (Cert.RowsRefIdeal.Value.run (F := Ideal) m ρ)

/-- Every claim of the certificate. -/
theorem claim : Cert.Claim :=
  ⟨Cert.Kernel.Gen.facts, Cert.KernelIdeal.Gen.facts, Cert.ReferenceIdeal.Gen.facts, Cert.Moe.Gen.facts, Cert.MoeIdeal.Gen.facts,
    Cert.MoeRefIdeal.Gen.facts, Cert.InProj.Gen.facts, Cert.InProjIdeal.Gen.facts, Cert.InProjRefIdeal.Gen.facts,
    Cert.Cmp.Gen.facts, Cert.CmpIdeal.Gen.facts, Cert.CmpRefIdeal.Gen.facts, Cert.Out.Gen.facts, Cert.OutIdeal.Gen.facts, Cert.OutRefIdeal.Gen.facts,
    Cert.Rows.Gen.facts, Cert.RowsIdeal.Gen.facts, Cert.RowsRefIdeal.Gen.facts,
    Cert.Pre_finite.Gen.facts, Cert.Pre_weights.Gen.facts,
    fun m ρ _ => Cert.Kernel.Sb.frame m ρ,
    fun m ρ _ => Cert.KernelIdeal.Sb.frame m ρ,
    fun m ρ _ => Cert.KernelIdeal.Sb.frame m ρ,
    reference_frame,
    fun m ρ _ => reference_frame m ρ trivial,
    fun m ρ _ => Cert.Moe.Gen.frame m ρ,
    fun m ρ _ => Cert.MoeIdeal.Gen.frame m ρ,
    fun m ρ _ => Cert.MoeIdeal.Gen.frame m ρ,
    moe_reference_frame,
    fun m ρ _ => moe_reference_frame m ρ trivial,
    fun m ρ _ => Cert.InProj.Gen.frame m ρ,
    fun m ρ _ => Cert.InProjIdeal.Gen.frame m ρ,
    in_reference_frame,
    fun m ρ _ => Cert.Cmp.Gen.frame m ρ,
    fun m ρ _ => Cert.CmpIdeal.Gen.frame m ρ,
    cmp_reference_frame,
    fun m ρ _ => Cert.Out.Gen.frame m ρ,
    fun m ρ _ => Cert.OutIdeal.Gen.frame m ρ,
    out_reference_frame,
    fun m ρ _ => Cert.Rows.Gen.frame m ρ,
    fun m ρ _ => Cert.RowsIdeal.Gen.frame m ρ,
    rows_reference_frame,
    IdealRules.named_const.statement Cert.KernelIdeal.κ "sb_exit" .f32 0xC2D00000#32 ⊥ rfl,
    Cert.Equal.algebraic,
    trivial,
    Cert.EqualMoe.algebraic,
    trivial,
    Cert.EqualInProj.algebraic,
    trivial,
    Cert.EqualCmp.algebraic,
    trivial,
    Cert.EqualOut.algebraic,
    trivial,
    Cert.EqualRows.algebraic⟩

end Cert.Proof

end
